-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "span" .f32 0x40BE76C9#32 ((744 / 125 : ℝ) : EReal)
  ∧ IdealRules.named_const.Statement Cert.KernelIdeal.κ "edge1" .f32 0x3BC49BA6#32 ((3 / 500 : ℝ) : EReal)
  ∧ IdealRules.named_const.Statement Cert.KernelIdeal.κ "edge2" .f32 0x3C449BA6#32 ((3 / 250 : ℝ) : EReal)
  ∧ IdealRules.named_const.Statement Cert.KernelIdeal.κ "edge3" .f32 0x3C9374BC#32 ((9 / 500 : ℝ) : EReal)
  ∧ IdealRules.named_const.Statement Cert.KernelIdeal.κ "edge4" .f32 0x3CC49BA6#32 ((3 / 125 : ℝ) : EReal)
  ∧ IdealRules.named_const.Statement Cert.KernelIdeal.κ "edge5" .f32 0x3CF5C28F#32 ((3 / 100 : ℝ) : EReal)
  ∧ IdealRules.named_const.Statement Cert.KernelIdeal.κ "edge6" .f32 0x3D1374BC#32 ((9 / 250 : ℝ) : EReal)
  ∧ IdealRules.named_const.Statement Cert.KernelIdeal.κ "edge7" .f32 0x3D2C0831#32 ((21 / 500 : ℝ) : EReal)
  ∧ IdealRules.named_const.Statement Cert.KernelIdeal.κ "min_size" .f32 0x3A83126F#32 ((1 / 1000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_v332) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x128 : Shape := ⟨2, ![16384, 128]⟩
abbrev S64x256 : Shape := ⟨2, ![64, 256]⟩
abbrev S256 : Shape := ⟨1, ![256]⟩
abbrev S256x256 : Shape := ⟨2, ![256, 256]⟩
abbrev S256x1472 : Shape := ⟨2, ![256, 1472]⟩
abbrev S1472 : Shape := ⟨1, ![1472]⟩
abbrev S_ : Shape := ⟨0, ![]⟩

class Facts : Prop where
  bcast_S_S16384x128 : S_.BroadcastsInDim S16384x128 (![] : Fin 0 → Fin S16384x128.rank)
  bcast_S_S64x256 : S_.BroadcastsInDim S64x256 (![] : Fin 0 → Fin S64x256.rank)
  bcast_S_S256 : S_.BroadcastsInDim S256 (![] : Fin 0 → Fin S256.rank)
  bcast_S_S256x256 : S_.BroadcastsInDim S256x256 (![] : Fin 0 → Fin S256x256.rank)
  bcast_S_S256x1472 : S_.BroadcastsInDim S256x1472 (![] : Fin 0 → Fin S256x1472.rank)
  bcast_S_S1472 : S_.BroadcastsInDim S1472 (![] : Fin 0 → Fin S1472.rank)

variable [Facts]

def fn_part2 {F : FTy → Type} [FloatOps F] (main_arg12 : FVec F S1472 .f32) (main_v2 : IVec S16384x128 1) (main_v5 : IVec S64x256 1) (main_v8 : IVec S256 1) (main_v11 : IVec S256x256 1) (main_v14 : IVec S256 1) (main_v17 : IVec S256x1472 1) (main_v20 : IVec S1472 1) (main_v23 : IVec S64x256 1) (main_v26 : IVec S256 1) (main_v29 : IVec S256x256 1) (main_v32 : IVec S256 1) (main_v35 : IVec S256x1472 1) : IVec S16384x128 1 × IVec S64x256 1 × IVec S256 1 × IVec S256x256 1 × IVec S256 1 × IVec S256x1472 1 × IVec S1472 1 × IVec S64x256 1 × IVec S256 1 × IVec S256x256 1 × IVec S256 1 × IVec S256x1472 1 × IVec S1472 1 :=
  let main_v36 : FVec F S1472 .f32 := Host.absf main_arg12
  let main_cst_11 : FVec F S_ .f32 := constant S_ .f32 0x7F800000#32
  let main_v37 : FVec F S1472 .f32 := broadcastInDim S1472 ![] bcast_S_S1472 main_cst_11
  let main_v38 : IVec S1472 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S1472 .f32) (main_arg7 : FVec F S64x256 .f32) (main_arg8 : FVec F S256 .f32) (main_arg9 : FVec F S256x256 .f32) (main_arg10 : FVec F S256 .f32) (main_arg11 : FVec F S256x1472 .f32) (main_arg12 : FVec F S1472 .f32) (main_v2 : IVec S16384x128 1) (main_v5 : IVec S64x256 1) (main_v8 : IVec S256 1) (main_v11 : IVec S256x256 1) (main_v14 : IVec S256 1) (main_v17 : IVec S256x1472 1) : IVec S16384x128 1 × IVec S64x256 1 × IVec S256 1 × IVec S256x256 1 × IVec S256 1 × IVec S256x1472 1 × IVec S1472 1 × IVec S64x256 1 × IVec S256 1 × IVec S256x256 1 × IVec S256 1 × IVec S256x1472 1 × IVec S1472 1 :=
  let main_v18 : FVec F S1472 .f32 := Host.absf main_arg6
  let main_cst_5 : FVec F S_ .f32 := constant S_ .f32 0x7F800000#32
  let main_v19 : FVec F S1472 .f32 := broadcastInDim S1472 ![] bcast_S_S1472 main_cst_5
  let main_v20 : IVec S1472 1 := cmpf .olt main_v18 main_v19
  let main_v21 : FVec F S64x256 .f32 := Host.absf main_arg7
  let main_cst_6 : FVec F S_ .f32 := constant S_ .f32 0x7F800000#32
  let main_v22 : FVec F S64x256 .f32 := broadcastInDim S64x256 ![] bcast_S_S64x256 main_cst_6
  let main_v23 : IVec S64x256 1 := cmpf .olt main_v21 main_v22
  let main_v24 : FVec F S256 .f32 := Host.absf main_arg8
  let main_cst_7 : FVec F S_ .f32 := constant S_ .f32 0x7F800000#32
  let main_v25 : FVec F S256 .f32 := broadcastInDim S256 ![] bcast_S_S256 main_cst_7
  let main_v26 : IVec S256 1 := cmpf .olt main_v24 main_v25
  let main_v27 : FVec F S256x256 .f32 := Host.absf main_arg9
  let main_cst_8 : FVec F S_ .f32 := constant S_ .f32 0x7F800000#32
  let main_v28 : FVec F S256x256 .f32 := broadcastInDim S256x256 ![] bcast_S_S256x256 main_cst_8
  let main_v29 : IVec S256x256 1 := cmpf .olt main_v27 main_v28
  let main_v30 : FVec F S256 .f32 := Host.absf main_arg10
  let main_cst_9 : FVec F S_ .f32 := constant S_ .f32 0x7F800000#32
  let main_v31 : FVec F S256 .f32 := broadcastInDim S256 ![] bcast_S_S256 main_cst_9
  let main_v32 : IVec S256 1 := cmpf .olt main_v30 main_v31
  let main_v33 : FVec F S256x1472 .f32 := Host.absf main_arg11
  let main_cst_10 : FVec F S_ .f32 := constant S_ .f32 0x7F800000#32
  let main_v34 : FVec F S256x1472 .f32 := broadcastInDim S256x1472 ![] bcast_S_S256x1472 main_cst_10
  let main_v35 : IVec S256x1472 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S16384x128 .f32) (main_arg1 : FVec F S64x256 .f32) (main_arg2 : FVec F S256 .f32) (main_arg3 : FVec F S256x256 .f32) (main_arg4 : FVec F S256 .f32) (main_arg5 : FVec F S256x1472 .f32) (main_arg6 : FVec F S1472 .f32) (main_arg7 : FVec F S64x256 .f32) (main_arg8 : FVec F S256 .f32) (main_arg9 : FVec F S256x256 .f32) (main_arg10 : FVec F S256 .f32) (main_arg11 : FVec F S256x1472 .f32) (main_arg12 : FVec F S1472 .f32) : IVec S16384x128 1 × IVec S64x256 1 × IVec S256 1 × IVec S256x256 1 × IVec S256 1 × IVec S256x1472 1 × IVec S1472 1 × IVec S64x256 1 × IVec S256 1 × IVec S256x256 1 × IVec S256 1 × IVec S256x1472 1 × IVec S1472 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_v3 : FVec F S64x256 .f32 := Host.absf main_arg1
  let main_cst_0 : FVec F S_ .f32 := constant S_ .f32 0x7F800000#32
  let main_v4 : FVec F S64x256 .f32 := broadcastInDim S64x256 ![] bcast_S_S64x256 main_cst_0
  let main_v5 : IVec S64x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x1472 .f32 := Host.absf main_arg5
  let main_cst_4 : FVec F S_ .f32 := constant S_ .f32 0x7F800000#32
  let main_v16 : FVec F S256x1472 .f32 := broadcastInDim S256x1472 ![] bcast_S_S256x1472 main_cst_4
  let main_v17 : IVec S256x1472 1 := cmpf .olt main_v15 main_v16
  fn_part1 (F := F) main_arg6 main_arg7 main_arg8 main_arg9 main_arg10 main_arg11 main_arg12 main_v2 main_v5 main_v8 main_v11 main_v14 main_v17
-- ==== Kernel.lean ====
abbrev S16384x128 : Shape := ⟨2, ![16384, 128]⟩
abbrev S64x256 : Shape := ⟨2, ![64, 256]⟩
abbrev S256 : Shape := ⟨1, ![256]⟩
abbrev S256x256 : Shape := ⟨2, ![256, 256]⟩
abbrev S256x1472 : Shape := ⟨2, ![256, 1472]⟩
abbrev S1472 : Shape := ⟨1, ![1472]⟩
abbrev S256x64 : Shape := ⟨2, ![256, 64]⟩
abbrev S256x1 : Shape := ⟨2, ![256, 1]⟩
abbrev S256x64x23 : Shape := ⟨3, ![256, 64, 23]⟩
abbrev S23x64x256 : Shape := ⟨3, ![23, 64, 256]⟩
abbrev S1472x256 : Shape := ⟨2, ![1472, 256]⟩
abbrev S64x23 : Shape := ⟨2, ![64, 23]⟩
abbrev S23x64 : Shape := ⟨2, ![23, 64]⟩
abbrev S1472x1 : Shape := ⟨2, ![1472, 1]⟩
abbrev S1x16384 : Shape := ⟨2, ![1, 16384]⟩
abbrev S2048x128 : Shape := ⟨2, ![2048, 128]⟩
abbrev S1x2048 : Shape := ⟨2, ![1, 2048]⟩
abbrev S128x2048 : Shape := ⟨2, ![128, 2048]⟩
abbrev S64x2048 : Shape := ⟨2, ![64, 2048]⟩
abbrev S256x2048 : Shape := ⟨2, ![256, 2048]⟩
abbrev S512x256 : Shape := ⟨2, ![512, 256]⟩
abbrev S512x2048 : Shape := ⟨2, ![512, 2048]⟩
abbrev S512x1 : Shape := ⟨2, ![512, 1]⟩
abbrev S448x256 : Shape := ⟨2, ![448, 256]⟩
abbrev S448x2048 : Shape := ⟨2, ![448, 2048]⟩
abbrev S448x1 : Shape := ⟨2, ![448, 1]⟩
abbrev S2048 : Shape := ⟨1, ![2048]⟩

abbrev nBuf : Space → Nat
  | .hbm => 41
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S64x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1472, .f32⟩
  | .hbm, ⟨6, _⟩ => ⟨S1472, .f32⟩
  | .hbm, ⟨7, _⟩ => ⟨S64x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x1472, .f32⟩
  | .hbm, ⟨12, _⟩ => ⟨S1472, .f32⟩
  | .hbm, ⟨13, _⟩ => ⟨S256x64, .f32⟩
  | .hbm, ⟨14, _⟩ => ⟨S256x64, .bf16⟩
  | .hbm, ⟨15, _⟩ => ⟨S256x1, .f32⟩
  | .hbm, ⟨16, _⟩ => ⟨S256x256, .f32⟩
  | .hbm, ⟨17, _⟩ => ⟨S256x256, .bf16⟩
  | .hbm, ⟨18, _⟩ => ⟨S256x1, .f32⟩
  | .hbm, ⟨19, _⟩ => ⟨S256x64x23, .f32⟩
  | .hbm, ⟨20, _⟩ => ⟨S23x64x256, .f32⟩
  | .hbm, ⟨21, _⟩ => ⟨S1472x256, .f32⟩
  | .hbm, ⟨22, _⟩ => ⟨S64x23, .f32⟩
  | .hbm, ⟨23, _⟩ => ⟨S23x64, .f32⟩
  | .hbm, ⟨24, _⟩ => ⟨S1472x1, .f32⟩
  | .hbm, ⟨25, _⟩ => ⟨S1472x256, .bf16⟩
  | .hbm, ⟨26, _⟩ => ⟨S256x64, .f32⟩
  | .hbm, ⟨27, _⟩ => ⟨S256x64, .bf16⟩
  | .hbm, ⟨28, _⟩ => ⟨S256x1, .f32⟩
  | .hbm, ⟨29, _⟩ => ⟨S256x256, .f32⟩
  | .hbm, ⟨30, _⟩ => ⟨S256x256, .bf16⟩
  | .hbm, ⟨31, _⟩ => ⟨S256x1, .f32⟩
  | .hbm, ⟨32, _⟩ => ⟨S256x64x23, .f32⟩
  | .hbm, ⟨33, _⟩ => ⟨S23x64x256, .f32⟩
  | .hbm, ⟨34, _⟩ => ⟨S1472x256, .f32⟩
  | .hbm, ⟨35, _⟩ => ⟨S64x23, .f32⟩
  | .hbm, ⟨36, _⟩ => ⟨S23x64, .f32⟩
  | .hbm, ⟨37, _⟩ => ⟨S1472x1, .f32⟩
  | .hbm, ⟨38, _⟩ => ⟨S1472x256, .bf16⟩
  | .hbm, ⟨39, _⟩ => ⟨S16384x128, .f32⟩
  | .hbm, ⟨40, _⟩ => ⟨S1x16384, .f32⟩
  | .local _ .vmem, ⟨0, _⟩ => ⟨S2048x128, .f32⟩
  | .local _ .vmem, ⟨1, _⟩ => ⟨S2048x128, .f32⟩
  | .local _ .vmem, ⟨2, _⟩ => ⟨S256x64, .bf16⟩
  | .local _ .vmem, ⟨3, _⟩ => ⟨S256x1, .f32⟩
  | .local _ .vmem, ⟨4, _⟩ => ⟨S256x256, .bf16⟩
  | .local _ .vmem, ⟨5, _⟩ => ⟨S256x1, .f32⟩
  | .local _ .vmem, ⟨6, _⟩ => ⟨S1472x256, .bf16⟩
  | .local _ .vmem, ⟨7, _⟩ => ⟨S1472x1, .f32⟩
  | .local _ .vmem, ⟨8, _⟩ => ⟨S256x64, .bf16⟩
  | .local _ .vmem, ⟨9, _⟩ => ⟨S256x1, .f32⟩
  | .local _ .vmem, ⟨10, _⟩ => ⟨S256x256, .bf16⟩
  | .local _ .vmem, ⟨11, _⟩ => ⟨S256x1, .f32⟩
  | .local _ .vmem, ⟨12, _⟩ => ⟨S1472x256, .bf16⟩
  | .local _ .vmem, ⟨13, _⟩ => ⟨S1472x1, .f32⟩
  | .local _ .vmem, ⟨14, _⟩ => ⟨S2048x128, .f32⟩
  | .local _ .vmem, ⟨15, _⟩ => ⟨S2048x128, .f32⟩
  | .local _ .vmem, ⟨16, _⟩ => ⟨S1x2048, .f32⟩
  | .local _ .vmem, ⟨17, _⟩ => ⟨S1x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_v0_0 : Ref sig .tc := ⟨.hbm, 39, rfl⟩
abbrev main_v0_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1472x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1472x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1472x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1472x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "edge1" => some ((3 / 500 : ℝ) : EReal)
  | "edge2" => some ((3 / 250 : ℝ) : EReal)
  | "edge3" => some ((9 / 500 : ℝ) : EReal)
  | "edge4" => some ((3 / 125 : ℝ) : EReal)
  | "edge5" => some ((3 / 100 : ℝ) : EReal)
  | "edge6" => some ((9 / 250 : ℝ) : EReal)
  | "edge7" => some ((21 / 500 : ℝ) : EReal)
  | "min_size" => some ((1 / 1000 : ℝ) : EReal)
  | "span" => some ((744 / 125 : ℝ) : EReal)
  | _ => none
-- ==== ReferenceIdeal.lean ====
abbrev S16384x128 : Shape := ⟨2, ![16384, 128]⟩
abbrev S64x256 : Shape := ⟨2, ![64, 256]⟩
abbrev S256 : Shape := ⟨1, ![256]⟩
abbrev S256x256 : Shape := ⟨2, ![256, 256]⟩
abbrev S256x1472 : Shape := ⟨2, ![256, 1472]⟩
abbrev S1472 : Shape := ⟨1, ![1472]⟩
abbrev S16384x64 : Shape := ⟨2, ![16384, 64]⟩
abbrev S16384x256 : Shape := ⟨2, ![16384, 256]⟩
abbrev S1x256 : Shape := ⟨2, ![1, 256]⟩
abbrev S_ : Shape := ⟨0, ![]⟩
abbrev S16384x1472 : Shape := ⟨2, ![16384, 1472]⟩
abbrev S1x1472 : Shape := ⟨2, ![1, 1472]⟩
abbrev S16384x64x23 : Shape := ⟨3, ![16384, 64, 23]⟩
abbrev S16384x64x8 : Shape := ⟨3, ![16384, 64, 8]⟩
abbrev S16384x64x7 : Shape := ⟨3, ![16384, 64, 7]⟩
abbrev S16384x64x1 : Shape := ⟨3, ![16384, 64, 1]⟩
abbrev S16384x64x9 : Shape := ⟨3, ![16384, 64, 9]⟩
abbrev S16384x64x1x1 : Shape := ⟨4, ![16384, 64, 1, 1]⟩
abbrev S16384 : Shape := ⟨1, ![16384]⟩
abbrev S1x16384 : Shape := ⟨2, ![1, 16384]⟩

abbrev nBuf : Space → Nat
  | .hbm => 620
  | .vmem => 0
  | .smem => 0
  | _ => 0

abbrev hbmTy0_0 (i : Nat) : BufTy := match i % 128 with
  | 0 => ⟨S16384x128, .f32⟩
  | 1 => ⟨S64x256, .f32⟩
  | 2 => ⟨S256, .f32⟩
  | 3 => ⟨S256x256, .f32⟩
  | 4 => ⟨S256, .f32⟩
  | 5 => ⟨S256x1472, .f32⟩
  | 6 => ⟨S1472, .f32⟩
  | 7 => ⟨S64x256, .f32⟩
  | 8 => ⟨S256, .f32⟩
  | 9 => ⟨S256x256, .f32⟩
  | 10 => ⟨S256, .f32⟩
  | 11 => ⟨S256x1472, .f32⟩
  | 12 => ⟨S1472, .f32⟩
  | 13 => ⟨S16384x64, .f32⟩
  | 14 => ⟨S16384x64, .f32⟩
  | 15 => ⟨S16384x256, .f32⟩
  | 16 => ⟨S1x256, .f32⟩
  | 17 => ⟨S16384x256, .f32⟩
  | 18 => ⟨S16384x256, .f32⟩
  | 19 => ⟨S16384x256, .f32⟩
  | 20 => ⟨S16384x256, .f32⟩
  | 21 => ⟨S_, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S16384x256, .f32⟩
  | 28 => ⟨S16384x256, .f32⟩
  | 29 => ⟨S1x256, .f32⟩
  | 30 => ⟨S16384x256, .f32⟩
  | 31 => ⟨S16384x256, .f32⟩
  | 32 => ⟨S16384x256, .f32⟩
  | 33 => ⟨S16384x256, .f32⟩
  | 34 => ⟨S_, .f32⟩
  | 35 => ⟨S16384x256, .f32⟩
  | 36 => ⟨S16384x256, .f32⟩
  | 37 => ⟨S_, .f32⟩
  | 38 => ⟨S16384x256, .f32⟩
  | 39 => ⟨S16384x256, .f32⟩
  | 40 => ⟨S16384x256, .f32⟩
  | 41 => ⟨S16384x1472, .f32⟩
  | 42 => ⟨S1x1472, .f32⟩
  | 43 => ⟨S16384x1472, .f32⟩
  | 44 => ⟨S16384x1472, .f32⟩
  | 45 => ⟨S16384x64x23, .f32⟩
  | 46 => ⟨S16384x64x8, .f32⟩
  | 47 => ⟨S16384x64x8, .f32⟩
  | 48 => ⟨S16384x64x7, .f32⟩
  | 49 => ⟨S_, .f32⟩
  | 50 => ⟨S16384x64, .f32⟩
  | 51 => ⟨S16384x64, .i1⟩
  | 52 => ⟨S_, .f32⟩
  | 53 => ⟨S16384x64, .f32⟩
  | 54 => ⟨S16384x64, .i1⟩
  | 55 => ⟨S16384x64, .i1⟩
  | 56 => ⟨S_, .f32⟩
  | 57 => ⟨S16384x64x1, .f32⟩
  | 58 => ⟨S16384x64x9, .f32⟩
  | 59 => ⟨S_, .f32⟩
  | 60 => ⟨S_, .f32⟩
  | 61 => ⟨S_, .f32⟩
  | 62 => ⟨S_, .f32⟩
  | 63 => ⟨S16384x64, .f32⟩
  | 64 => ⟨S_, .f32⟩
  | 65 => ⟨S16384x64, .f32⟩
  | 66 => ⟨S16384x64, .f32⟩
  | 67 => ⟨S16384x64x1, .f32⟩
  | 68 => ⟨S16384x64x8, .f32⟩
  | 69 => ⟨S16384x64x8, .f32⟩
  | 70 => ⟨S16384x64x8, .f32⟩
  | 71 => ⟨S_, .f32⟩
  | 72 => ⟨S16384x64, .f32⟩
  | 73 => ⟨S16384x64x1, .f32⟩
  | 74 => ⟨S16384x64x8, .f32⟩
  | 75 => ⟨S16384x64x8, .f32⟩
  | 76 => ⟨S_, .f32⟩
  | 77 => ⟨S_, .f32⟩
  | 78 => ⟨S_, .f32⟩
  | 79 => ⟨S_, .f32⟩
  | 80 => ⟨S16384x64x8, .f32⟩
  | 81 => ⟨S16384x64x8, .f32⟩
  | 82 => ⟨S16384x64x8, .f32⟩
  | 83 => ⟨S16384x64x8, .f32⟩
  | 84 => ⟨S_, .f32⟩
  | 85 => ⟨S_, .f32⟩
  | 86 => ⟨S16384x64x8, .f32⟩
  | 87 => ⟨S_, .f32⟩
  | 88 => ⟨S16384x64x8, .f32⟩
  | 89 => ⟨S16384x64x8, .f32⟩
  | 90 => ⟨S_, .f32⟩
  | 91 => ⟨S16384x64x8, .f32⟩
  | 92 => ⟨S16384x64x8, .f32⟩
  | 93 => ⟨S_, .f32⟩
  | 94 => ⟨S16384x64x1, .f32⟩
  | 95 => ⟨S_, .f32⟩
  | 96 => ⟨S16384x64x1, .f32⟩
  | 97 => ⟨S16384x64x1, .f32⟩
  | 98 => ⟨S16384x64x7, .f32⟩
  | 99 => ⟨S_, .f32⟩
  | 100 => ⟨S16384x64x1, .f32⟩
  | 101 => ⟨S16384x64x1, .f32⟩
  | 102 => ⟨S16384x64x9, .f32⟩
  | 103 => ⟨S16384x64x8, .f32⟩
  | 104 => ⟨S16384x64x8, .f32⟩
  | 105 => ⟨S16384x64x8, .f32⟩
  | 106 => ⟨S_, .f32⟩
  | 107 => ⟨S_, .f32⟩
  | 108 => ⟨S_, .f32⟩
  | 109 => ⟨S_, .f32⟩
  | 110 => ⟨S16384x64x9, .f32⟩
  | 111 => ⟨S16384x64x9, .f32⟩
  | 112 => ⟨S16384x64x9, .f32⟩
  | 113 => ⟨S16384x64x9, .f32⟩
  | 114 => ⟨S16384x64x9, .i1⟩
  | 115 => ⟨S16384x64x9, .f32⟩
  | 116 => ⟨S16384x64x9, .f32⟩
  | 117 => ⟨S16384x64x9, .f32⟩
  | 118 => ⟨S16384x64x9, .f32⟩
  | 119 => ⟨S16384x64x9, .f32⟩
  | 120 => ⟨S16384x64x9, .f32⟩
  | 121 => ⟨S16384x64x9, .f32⟩
  | 122 => ⟨S16384x64x9, .f32⟩
  | 123 => ⟨S16384x64x9, .f32⟩
  | 124 => ⟨S16384x64x9, .f32⟩
  | 125 => ⟨S_, .f32⟩
  | 126 => ⟨S_, .f32⟩
  | 127 => ⟨S_, .f32⟩
  | _ => ⟨S16384x128, .f32⟩

abbrev hbmTy0_1 (i : Nat) : BufTy := match i % 128 with
  | 0 => ⟨S_, .f32⟩
  | 1 => ⟨S16384x64, .f32⟩
  | 2 => ⟨S_, .f32⟩
  | 3 => ⟨S16384x64, .f32⟩
  | 4 => ⟨S16384x64, .f32⟩
  | 5 => ⟨S16384x64x1, .f32⟩
  | 6 => ⟨S16384x64x8, .f32⟩
  | 7 => ⟨S16384x64x8, .f32⟩
  | 8 => ⟨S16384x64x8, .f32⟩
  | 9 => ⟨S_, .f32⟩
  | 10 => ⟨S16384x64, .f32⟩
  | 11 => ⟨S16384x64x1, .f32⟩
  | 12 => ⟨S16384x64x8, .f32⟩
  | 13 => ⟨S16384x64x8, .f32⟩
  | 14 => ⟨S_, .f32⟩
  | 15 => ⟨S_, .f32⟩
  | 16 => ⟨S_, .f32⟩
  | 17 => ⟨S_, .f32⟩
  | 18 => ⟨S16384x64x8, .f32⟩
  | 19 => ⟨S16384x64x8, .f32⟩
  | 20 => ⟨S16384x64x8, .f32⟩
  | 21 => ⟨S16384x64x8, .f32⟩
  | 22 => ⟨S_, .f32⟩
  | 23 => ⟨S_, .f32⟩
  | 24 => ⟨S16384x64x8, .f32⟩
  | 25 => ⟨S_, .f32⟩
  | 26 => ⟨S16384x64x8, .f32⟩
  | 27 => ⟨S16384x64x8, .f32⟩
  | 28 => ⟨S_, .f32⟩
  | 29 => ⟨S16384x64x8, .f32⟩
  | 30 => ⟨S16384x64x8, .f32⟩
  | 31 => ⟨S_, .f32⟩
  | 32 => ⟨S16384x64x1, .f32⟩
  | 33 => ⟨S_, .f32⟩
  | 34 => ⟨S16384x64x1, .f32⟩
  | 35 => ⟨S16384x64x1, .f32⟩
  | 36 => ⟨S16384x64x7, .f32⟩
  | 37 => ⟨S_, .f32⟩
  | 38 => ⟨S16384x64x1, .f32⟩
  | 39 => ⟨S16384x64x1, .f32⟩
  | 40 => ⟨S16384x64x9, .f32⟩
  | 41 => ⟨S16384x64x8, .f32⟩
  | 42 => ⟨S16384x64x8, .f32⟩
  | 43 => ⟨S16384x64x8, .f32⟩
  | 44 => ⟨S16384x64x8, .f32⟩
  | 45 => ⟨S16384x64x1, .f32⟩
  | 46 => ⟨S_, .f32⟩
  | 47 => ⟨S16384x64x1, .f32⟩
  | 48 => ⟨S16384x64x1, .f32⟩
  | 49 => ⟨S16384x64x9, .f32⟩
  | 50 => ⟨S16384x64x1, .f32⟩
  | 51 => ⟨S16384x64x9, .f32⟩
  | 52 => ⟨S16384x64x9, .i1⟩
  | 53 => ⟨S16384x64x9, .i32⟩
  | 54 => ⟨S_, .i32⟩
  | 55 => ⟨S16384x64, .i32⟩
  | 56 => ⟨S_, .i32⟩
  | 57 => ⟨S16384x64, .i32⟩
  | 58 => ⟨S16384x64, .i32⟩
  | 59 => ⟨S16384x64x1, .i32⟩
  | 60 => ⟨S_, .i32⟩
  | 61 => ⟨S_, .i32⟩
  | 62 => ⟨S_, .i32⟩
  | 63 => ⟨S16384x64x1, .i32⟩
  | 64 => ⟨S16384x64x1, .i32⟩
  | 65 => ⟨S_, .i32⟩
  | 66 => ⟨S16384x64x1, .i32⟩
  | 67 => ⟨S16384x64x1, .i32⟩
  | 68 => ⟨S_, .i32⟩
  | 69 => ⟨S16384x64x1, .i32⟩
  | 70 => ⟨S16384x64x1, .i1⟩
  | 71 => ⟨S_, .i32⟩
  | 72 => ⟨S16384x64x1, .i32⟩
  | 73 => ⟨S16384x64x1, .i32⟩
  | 74 => ⟨S16384x64x1, .i32⟩
  | 75 => ⟨S16384x64x1x1, .i32⟩
  | 76 => ⟨S16384x64x1, .f32⟩
  | 77 => ⟨S16384x64, .f32⟩
  | 78 => ⟨S_, .i32⟩
  | 79 => ⟨S16384x64x1, .i32⟩
  | 80 => ⟨S16384x64x1, .i1⟩
  | 81 => ⟨S_, .i32⟩
  | 82 => ⟨S16384x64x1, .i32⟩
  | 83 => ⟨S16384x64x1, .i32⟩
  | 84 => ⟨S16384x64x1, .i32⟩
  | 85 => ⟨S16384x64x1x1, .i32⟩
  | 86 => ⟨S16384x64x1, .f32⟩
  | 87 => ⟨S16384x64, .f32⟩
  | 88 => ⟨S_, .i32⟩
  | 89 => ⟨S16384x64x1, .i32⟩
  | 90 => ⟨S16384x64x1, .i1⟩
  | 91 => ⟨S_, .i32⟩
  | 92 => ⟨S16384x64x1, .i32⟩
  | 93 => ⟨S16384x64x1, .i32⟩
  | 94 => ⟨S16384x64x1, .i32⟩
  | 95 => ⟨S16384x64x1x1, .i32⟩
  | 96 => ⟨S16384x64x1, .f32⟩
  | 97 => ⟨S16384x64, .f32⟩
  | 98 => ⟨S16384x64x8, .f32⟩
  | 99 => ⟨S_, .i32⟩
  | 100 => ⟨S16384x64x1, .i32⟩
  | 101 => ⟨S16384x64x1, .i1⟩
  | 102 => ⟨S_, .i32⟩
  | 103 => ⟨S16384x64x1, .i32⟩
  | 104 => ⟨S16384x64x1, .i32⟩
  | 105 => ⟨S16384x64x1, .i32⟩
  | 106 => ⟨S16384x64x1x1, .i32⟩
  | 107 => ⟨S16384x64x1, .f32⟩
  | 108 => ⟨S16384x64, .f32⟩
  | 109 => ⟨S_, .i32⟩
  | 110 => ⟨S16384x64x1, .i32⟩
  | 111 => ⟨S16384x64x1, .i1⟩
  | 112 => ⟨S_, .i32⟩
  | 113 => ⟨S16384x64x1, .i32⟩
  | 114 => ⟨S16384x64x1, .i32⟩
  | 115 => ⟨S16384x64x1, .i32⟩
  | 116 => ⟨S16384x64x1x1, .i32⟩
  | 117 => ⟨S16384x64x1, .f32⟩
  | 118 => ⟨S16384x64, .f32⟩
  | 119 => ⟨S16384x64x8, .f32⟩
  | 120 => ⟨S_, .i32⟩
  | 121 => ⟨S16384x64x1, .i32⟩
  | 122 => ⟨S16384x64x1, .i1⟩
  | 123 => ⟨S_, .i32⟩
  | 124 => ⟨S16384x64x1, .i32⟩
  | 125 => ⟨S16384x64x1, .i32⟩
  | 126 => ⟨S16384x64x1, .i32⟩
  | 127 => ⟨S16384x64x1x1, .i32⟩
  | _ => ⟨S16384x128, .f32⟩

abbrev hbmTy0_2 (i : Nat) : BufTy := match i % 128 with
  | 0 => ⟨S16384x64x1, .f32⟩
  | 1 => ⟨S16384x64, .f32⟩
  | 2 => ⟨S_, .i32⟩
  | 3 => ⟨S16384x64x1, .i32⟩
  | 4 => ⟨S16384x64x1, .i1⟩
  | 5 => ⟨S_, .i32⟩
  | 6 => ⟨S16384x64x1, .i32⟩
  | 7 => ⟨S16384x64x1, .i32⟩
  | 8 => ⟨S16384x64x1, .i32⟩
  | 9 => ⟨S16384x64x1x1, .i32⟩
  | 10 => ⟨S16384x64x1, .f32⟩
  | 11 => ⟨S16384x64, .f32⟩
  | 12 => ⟨S16384x64, .f32⟩
  | 13 => ⟨S16384x64, .f32⟩
  | 14 => ⟨S_, .f32⟩
  | 15 => ⟨S16384x64, .f32⟩
  | 16 => ⟨S16384x64, .f32⟩
  | 17 => ⟨S16384x64, .f32⟩
  | 18 => ⟨S16384x64, .f32⟩
  | 19 => ⟨S16384x64, .f32⟩
  | 20 => ⟨S16384x64, .f32⟩
  | 21 => ⟨S16384x64, .f32⟩
  | 22 => ⟨S16384x64, .f32⟩
  | 23 => ⟨S16384x64, .f32⟩
  | 24 => ⟨S_, .f32⟩
  | 25 => ⟨S16384x64, .f32⟩
  | 26 => ⟨S16384x64, .f32⟩
  | 27 => ⟨S16384x64, .f32⟩
  | 28 => ⟨S16384x64, .f32⟩
  | 29 => ⟨S16384x64, .f32⟩
  | 30 => ⟨S16384x64, .f32⟩
  | 31 => ⟨S16384x64, .f32⟩
  | 32 => ⟨S16384x64, .f32⟩
  | 33 => ⟨S16384x64, .f32⟩
  | 34 => ⟨S16384x64, .f32⟩
  | 35 => ⟨S_, .f32⟩
  | 36 => ⟨S16384x64, .f32⟩
  | 37 => ⟨S16384x64, .f32⟩
  | 38 => ⟨S16384x64, .f32⟩
  | 39 => ⟨S16384x64, .f32⟩
  | 40 => ⟨S_, .f32⟩
  | 41 => ⟨S16384x64, .f32⟩
  | 42 => ⟨S16384x64, .f32⟩
  | 43 => ⟨S16384x64, .f32⟩
  | 44 => ⟨S16384x64, .f32⟩
  | 45 => ⟨S16384x64, .f32⟩
  | 46 => ⟨S16384x64, .f32⟩
  | 47 => ⟨S16384x64, .f32⟩
  | 48 => ⟨S16384x64, .f32⟩
  | 49 => ⟨S_, .f32⟩
  | 50 => ⟨S16384x64, .f32⟩
  | 51 => ⟨S16384x64, .f32⟩
  | 52 => ⟨S16384x64, .f32⟩
  | 53 => ⟨S16384x64, .f32⟩
  | 54 => ⟨S_, .f32⟩
  | 55 => ⟨S_, .f32⟩
  | 56 => ⟨S16384x64, .f32⟩
  | 57 => ⟨S16384x64, .f32⟩
  | 58 => ⟨S_, .f32⟩
  | 59 => ⟨S16384, .f32⟩
  | 60 => ⟨S16384x256, .f32⟩
  | 61 => ⟨S1x256, .f32⟩
  | 62 => ⟨S16384x256, .f32⟩
  | 63 => ⟨S16384x256, .f32⟩
  | 64 => ⟨S16384x256, .f32⟩
  | 65 => ⟨S16384x256, .f32⟩
  | 66 => ⟨S_, .f32⟩
  | 67 => ⟨S16384x256, .f32⟩
  | 68 => ⟨S16384x256, .f32⟩
  | 69 => ⟨S_, .f32⟩
  | 70 => ⟨S16384x256, .f32⟩
  | 71 => ⟨S16384x256, .f32⟩
  | 72 => ⟨S16384x256, .f32⟩
  | 73 => ⟨S16384x256, .f32⟩
  | 74 => ⟨S1x256, .f32⟩
  | 75 => ⟨S16384x256, .f32⟩
  | 76 => ⟨S16384x256, .f32⟩
  | 77 => ⟨S16384x256, .f32⟩
  | 78 => ⟨S16384x256, .f32⟩
  | 79 => ⟨S_, .f32⟩
  | 80 => ⟨S16384x256, .f32⟩
  | 81 => ⟨S16384x256, .f32⟩
  | 82 => ⟨S_, .f32⟩
  | 83 => ⟨S16384x256, .f32⟩
  | 84 => ⟨S16384x256, .f32⟩
  | 85 => ⟨S16384x256, .f32⟩
  | 86 => ⟨S16384x1472, .f32⟩
  | 87 => ⟨S1x1472, .f32⟩
  | 88 => ⟨S16384x1472, .f32⟩
  | 89 => ⟨S16384x1472, .f32⟩
  | 90 => ⟨S16384x64x23, .f32⟩
  | 91 => ⟨S16384x64x8, .f32⟩
  | 92 => ⟨S16384x64x8, .f32⟩
  | 93 => ⟨S16384x64x7, .f32⟩
  | 94 => ⟨S_, .f32⟩
  | 95 => ⟨S16384x64, .f32⟩
  | 96 => ⟨S16384x64, .i1⟩
  | 97 => ⟨S_, .f32⟩
  | 98 => ⟨S16384x64, .f32⟩
  | 99 => ⟨S16384x64, .i1⟩
  | 100 => ⟨S16384x64, .i1⟩
  | 101 => ⟨S_, .f32⟩
  | 102 => ⟨S16384x64x1, .f32⟩
  | 103 => ⟨S16384x64x9, .f32⟩
  | 104 => ⟨S_, .f32⟩
  | 105 => ⟨S_, .f32⟩
  | 106 => ⟨S_, .f32⟩
  | 107 => ⟨S_, .f32⟩
  | 108 => ⟨S16384x64, .f32⟩
  | 109 => ⟨S_, .f32⟩
  | 110 => ⟨S16384x64, .f32⟩
  | 111 => ⟨S16384x64, .f32⟩
  | 112 => ⟨S16384x64x1, .f32⟩
  | 113 => ⟨S16384x64x8, .f32⟩
  | 114 => ⟨S16384x64x8, .f32⟩
  | 115 => ⟨S16384x64x8, .f32⟩
  | 116 => ⟨S_, .f32⟩
  | 117 => ⟨S16384x64, .f32⟩
  | 118 => ⟨S16384x64x1, .f32⟩
  | 119 => ⟨S16384x64x8, .f32⟩
  | 120 => ⟨S16384x64x8, .f32⟩
  | 121 => ⟨S_, .f32⟩
  | 122 => ⟨S_, .f32⟩
  | 123 => ⟨S_, .f32⟩
  | 124 => ⟨S_, .f32⟩
  | 125 => ⟨S16384x64x8, .f32⟩
  | 126 => ⟨S16384x64x8, .f32⟩
  | 127 => ⟨S16384x64x8, .f32⟩
  | _ => ⟨S16384x128, .f32⟩

abbrev hbmTy0_3 (i : Nat) : BufTy := match i % 128 with
  | 0 => ⟨S16384x64x8, .f32⟩
  | 1 => ⟨S_, .f32⟩
  | 2 => ⟨S_, .f32⟩
  | 3 => ⟨S16384x64x8, .f32⟩
  | 4 => ⟨S_, .f32⟩
  | 5 => ⟨S16384x64x8, .f32⟩
  | 6 => ⟨S16384x64x8, .f32⟩
  | 7 => ⟨S_, .f32⟩
  | 8 => ⟨S16384x64x8, .f32⟩
  | 9 => ⟨S16384x64x8, .f32⟩
  | 10 => ⟨S_, .f32⟩
  | 11 => ⟨S16384x64x1, .f32⟩
  | 12 => ⟨S_, .f32⟩
  | 13 => ⟨S16384x64x1, .f32⟩
  | 14 => ⟨S16384x64x1, .f32⟩
  | 15 => ⟨S16384x64x7, .f32⟩
  | 16 => ⟨S_, .f32⟩
  | 17 => ⟨S16384x64x1, .f32⟩
  | 18 => ⟨S16384x64x1, .f32⟩
  | 19 => ⟨S16384x64x9, .f32⟩
  | 20 => ⟨S16384x64x8, .f32⟩
  | 21 => ⟨S16384x64x8, .f32⟩
  | 22 => ⟨S16384x64x8, .f32⟩
  | 23 => ⟨S_, .f32⟩
  | 24 => ⟨S_, .f32⟩
  | 25 => ⟨S_, .f32⟩
  | 26 => ⟨S_, .f32⟩
  | 27 => ⟨S16384x64x9, .f32⟩
  | 28 => ⟨S16384x64x9, .f32⟩
  | 29 => ⟨S16384x64x9, .f32⟩
  | 30 => ⟨S16384x64x9, .f32⟩
  | 31 => ⟨S16384x64x9, .i1⟩
  | 32 => ⟨S16384x64x9, .f32⟩
  | 33 => ⟨S16384x64x9, .f32⟩
  | 34 => ⟨S16384x64x9, .f32⟩
  | 35 => ⟨S16384x64x9, .f32⟩
  | 36 => ⟨S16384x64x9, .f32⟩
  | 37 => ⟨S16384x64x9, .f32⟩
  | 38 => ⟨S16384x64x9, .f32⟩
  | 39 => ⟨S16384x64x9, .f32⟩
  | 40 => ⟨S16384x64x9, .f32⟩
  | 41 => ⟨S16384x64x9, .f32⟩
  | 42 => ⟨S_, .f32⟩
  | 43 => ⟨S_, .f32⟩
  | 44 => ⟨S_, .f32⟩
  | 45 => ⟨S_, .f32⟩
  | 46 => ⟨S16384x64, .f32⟩
  | 47 => ⟨S_, .f32⟩
  | 48 => ⟨S16384x64, .f32⟩
  | 49 => ⟨S16384x64, .f32⟩
  | 50 => ⟨S16384x64x1, .f32⟩
  | 51 => ⟨S16384x64x8, .f32⟩
  | 52 => ⟨S16384x64x8, .f32⟩
  | 53 => ⟨S16384x64x8, .f32⟩
  | 54 => ⟨S_, .f32⟩
  | 55 => ⟨S16384x64, .f32⟩
  | 56 => ⟨S16384x64x1, .f32⟩
  | 57 => ⟨S16384x64x8, .f32⟩
  | 58 => ⟨S16384x64x8, .f32⟩
  | 59 => ⟨S_, .f32⟩
  | 60 => ⟨S_, .f32⟩
  | 61 => ⟨S_, .f32⟩
  | 62 => ⟨S_, .f32⟩
  | 63 => ⟨S16384x64x8, .f32⟩
  | 64 => ⟨S16384x64x8, .f32⟩
  | 65 => ⟨S16384x64x8, .f32⟩
  | 66 => ⟨S16384x64x8, .f32⟩
  | 67 => ⟨S_, .f32⟩
  | 68 => ⟨S_, .f32⟩
  | 69 => ⟨S16384x64x8, .f32⟩
  | 70 => ⟨S_, .f32⟩
  | 71 => ⟨S16384x64x8, .f32⟩
  | 72 => ⟨S16384x64x8, .f32⟩
  | 73 => ⟨S_, .f32⟩
  | 74 => ⟨S16384x64x8, .f32⟩
  | 75 => ⟨S16384x64x8, .f32⟩
  | 76 => ⟨S_, .f32⟩
  | 77 => ⟨S16384x64x1, .f32⟩
  | 78 => ⟨S_, .f32⟩
  | 79 => ⟨S16384x64x1, .f32⟩
  | 80 => ⟨S16384x64x1, .f32⟩
  | 81 => ⟨S16384x64x7, .f32⟩
  | 82 => ⟨S_, .f32⟩
  | 83 => ⟨S16384x64x1, .f32⟩
  | 84 => ⟨S16384x64x1, .f32⟩
  | 85 => ⟨S16384x64x9, .f32⟩
  | 86 => ⟨S16384x64x8, .f32⟩
  | 87 => ⟨S16384x64x8, .f32⟩
  | 88 => ⟨S16384x64x8, .f32⟩
  | 89 => ⟨S16384x64x8, .f32⟩
  | 90 => ⟨S16384x64x1, .f32⟩
  | 91 => ⟨S_, .f32⟩
  | 92 => ⟨S16384x64x1, .f32⟩
  | 93 => ⟨S16384x64x1, .f32⟩
  | 94 => ⟨S16384x64x9, .f32⟩
  | 95 => ⟨S16384x64x1, .f32⟩
  | 96 => ⟨S16384x64x9, .f32⟩
  | 97 => ⟨S16384x64x9, .i1⟩
  | 98 => ⟨S16384x64x9, .i32⟩
  | 99 => ⟨S_, .i32⟩
  | 100 => ⟨S16384x64, .i32⟩
  | 101 => ⟨S_, .i32⟩
  | 102 => ⟨S16384x64, .i32⟩
  | 103 => ⟨S16384x64, .i32⟩
  | 104 => ⟨S16384x64x1, .i32⟩
  | 105 => ⟨S_, .i32⟩
  | 106 => ⟨S_, .i32⟩
  | 107 => ⟨S_, .i32⟩
  | 108 => ⟨S16384x64x1, .i32⟩
  | 109 => ⟨S16384x64x1, .i32⟩
  | 110 => ⟨S_, .i32⟩
  | 111 => ⟨S16384x64x1, .i32⟩
  | 112 => ⟨S16384x64x1, .i32⟩
  | 113 => ⟨S_, .i32⟩
  | 114 => ⟨S16384x64x1, .i32⟩
  | 115 => ⟨S16384x64x1, .i1⟩
  | 116 => ⟨S_, .i32⟩
  | 117 => ⟨S16384x64x1, .i32⟩
  | 118 => ⟨S16384x64x1, .i32⟩
  | 119 => ⟨S16384x64x1, .i32⟩
  | 120 => ⟨S16384x64x1x1, .i32⟩
  | 121 => ⟨S16384x64x1, .f32⟩
  | 122 => ⟨S16384x64, .f32⟩
  | 123 => ⟨S_, .i32⟩
  | 124 => ⟨S16384x64x1, .i32⟩
  | 125 => ⟨S16384x64x1, .i1⟩
  | 126 => ⟨S_, .i32⟩
  | 127 => ⟨S16384x64x1, .i32⟩
  | _ => ⟨S16384x128, .f32⟩

abbrev hbmTy0_4 (i : Nat) : BufTy := match i % 128 with
  | 0 => ⟨S16384x64x1, .i32⟩
  | 1 => ⟨S16384x64x1, .i32⟩
  | 2 => ⟨S16384x64x1x1, .i32⟩
  | 3 => ⟨S16384x64x1, .f32⟩
  | 4 => ⟨S16384x64, .f32⟩
  | 5 => ⟨S_, .i32⟩
  | 6 => ⟨S16384x64x1, .i32⟩
  | 7 => ⟨S16384x64x1, .i1⟩
  | 8 => ⟨S_, .i32⟩
  | 9 => ⟨S16384x64x1, .i32⟩
  | 10 => ⟨S16384x64x1, .i32⟩
  | 11 => ⟨S16384x64x1, .i32⟩
  | 12 => ⟨S16384x64x1x1, .i32⟩
  | 13 => ⟨S16384x64x1, .f32⟩
  | 14 => ⟨S16384x64, .f32⟩
  | 15 => ⟨S16384x64x8, .f32⟩
  | 16 => ⟨S_, .i32⟩
  | 17 => ⟨S16384x64x1, .i32⟩
  | 18 => ⟨S16384x64x1, .i1⟩
  | 19 => ⟨S_, .i32⟩
  | 20 => ⟨S16384x64x1, .i32⟩
  | 21 => ⟨S16384x64x1, .i32⟩
  | 22 => ⟨S16384x64x1, .i32⟩
  | 23 => ⟨S16384x64x1x1, .i32⟩
  | 24 => ⟨S16384x64x1, .f32⟩
  | 25 => ⟨S16384x64, .f32⟩
  | 26 => ⟨S_, .i32⟩
  | 27 => ⟨S16384x64x1, .i32⟩
  | 28 => ⟨S16384x64x1, .i1⟩
  | 29 => ⟨S_, .i32⟩
  | 30 => ⟨S16384x64x1, .i32⟩
  | 31 => ⟨S16384x64x1, .i32⟩
  | 32 => ⟨S16384x64x1, .i32⟩
  | 33 => ⟨S16384x64x1x1, .i32⟩
  | 34 => ⟨S16384x64x1, .f32⟩
  | 35 => ⟨S16384x64, .f32⟩
  | 36 => ⟨S16384x64x8, .f32⟩
  | 37 => ⟨S_, .i32⟩
  | 38 => ⟨S16384x64x1, .i32⟩
  | 39 => ⟨S16384x64x1, .i1⟩
  | 40 => ⟨S_, .i32⟩
  | 41 => ⟨S16384x64x1, .i32⟩
  | 42 => ⟨S16384x64x1, .i32⟩
  | 43 => ⟨S16384x64x1, .i32⟩
  | 44 => ⟨S16384x64x1x1, .i32⟩
  | 45 => ⟨S16384x64x1, .f32⟩
  | 46 => ⟨S16384x64, .f32⟩
  | 47 => ⟨S_, .i32⟩
  | 48 => ⟨S16384x64x1, .i32⟩
  | 49 => ⟨S16384x64x1, .i1⟩
  | 50 => ⟨S_, .i32⟩
  | 51 => ⟨S16384x64x1, .i32⟩
  | 52 => ⟨S16384x64x1, .i32⟩
  | 53 => ⟨S16384x64x1, .i32⟩
  | 54 => ⟨S16384x64x1x1, .i32⟩
  | 55 => ⟨S16384x64x1, .f32⟩
  | 56 => ⟨S16384x64, .f32⟩
  | 57 => ⟨S16384x64, .f32⟩
  | 58 => ⟨S16384x64, .f32⟩
  | 59 => ⟨S_, .f32⟩
  | 60 => ⟨S16384x64, .f32⟩
  | 61 => ⟨S16384x64, .f32⟩
  | 62 => ⟨S16384x64, .f32⟩
  | 63 => ⟨S16384x64, .f32⟩
  | 64 => ⟨S16384x64, .f32⟩
  | 65 => ⟨S16384x64, .f32⟩
  | 66 => ⟨S16384x64, .f32⟩
  | 67 => ⟨S16384x64, .f32⟩
  | 68 => ⟨S16384x64, .f32⟩
  | 69 => ⟨S_, .f32⟩
  | 70 => ⟨S16384x64, .f32⟩
  | 71 => ⟨S16384x64, .f32⟩
  | 72 => ⟨S16384x64, .f32⟩
  | 73 => ⟨S16384x64, .f32⟩
  | 74 => ⟨S16384x64, .f32⟩
  | 75 => ⟨S16384x64, .f32⟩
  | 76 => ⟨S16384x64, .f32⟩
  | 77 => ⟨S16384x64, .f32⟩
  | 78 => ⟨S16384x64, .f32⟩
  | 79 => ⟨S16384x64, .f32⟩
  | 80 => ⟨S_, .f32⟩
  | 81 => ⟨S16384x64, .f32⟩
  | 82 => ⟨S16384x64, .f32⟩
  | 83 => ⟨S16384x64, .f32⟩
  | 84 => ⟨S16384x64, .f32⟩
  | 85 => ⟨S_, .f32⟩
  | 86 => ⟨S16384x64, .f32⟩
  | 87 => ⟨S16384x64, .f32⟩
  | 88 => ⟨S16384x64, .f32⟩
  | 89 => ⟨S16384x64, .f32⟩
  | 90 => ⟨S16384x64, .f32⟩
  | 91 => ⟨S16384x64, .f32⟩
  | 92 => ⟨S16384x64, .f32⟩
  | 93 => ⟨S16384x64, .f32⟩
  | 94 => ⟨S_, .f32⟩
  | 95 => ⟨S16384x64, .f32⟩
  | 96 => ⟨S16384x64, .f32⟩
  | 97 => ⟨S16384x64, .f32⟩
  | 98 => ⟨S16384x64, .f32⟩
  | 99 => ⟨S_, .f32⟩
  | 100 => ⟨S_, .f32⟩
  | 101 => ⟨S16384x64, .f32⟩
  | 102 => ⟨S16384x64, .f32⟩
  | 103 => ⟨S_, .f32⟩
  | 104 => ⟨S16384, .f32⟩
  | 105 => ⟨S16384, .f32⟩
  | 106 => ⟨S16384x128, .f32⟩
  | 107 => ⟨S1x16384, .f32⟩
  | _ => ⟨S16384x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_cst_0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_1 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_cst_3 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_cst_5 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_7 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call2_call0_cst : Ref sig .tc := ⟨.hbm, 84, rfl⟩
abbrev main_call2_call0_v0 : Ref sig .tc := ⟨.hbm, 85, rfl⟩
abbrev main_v45 : Ref sig .tc := ⟨.hbm, 86, rfl⟩
abbrev main_cst_9 : Ref sig .tc := ⟨.hbm, 87, rfl⟩
abbrev main_v46 : Ref sig .tc := ⟨.hbm, 88, rfl⟩
abbrev main_v47 : Ref sig .tc := ⟨.hbm, 89, rfl⟩
abbrev main_cst_10 : Ref sig .tc := ⟨.hbm, 90, rfl⟩
abbrev main_v48 : Ref sig .tc := ⟨.hbm, 91, rfl⟩
abbrev main_v49 : Ref sig .tc := ⟨.hbm, 92, rfl⟩
abbrev main_cst_11 : Ref sig .tc := ⟨.hbm, 93, rfl⟩
abbrev main_v50 : Ref sig .tc := ⟨.hbm, 94, rfl⟩
abbrev main_cst_12 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_13 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_14 : Ref sig .tc := ⟨.hbm, 106, rfl⟩
abbrev main_cst_15 : Ref sig .tc := ⟨.hbm, 107, rfl⟩
abbrev main_v60 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_cst_16 : Ref sig .tc := ⟨.hbm, 125, rfl⟩
abbrev main_cst_17 : Ref sig .tc := ⟨.hbm, 126, rfl⟩
abbrev main_v64 : Ref sig .tc := ⟨.hbm, 127, rfl⟩
abbrev main_cst_18 : Ref sig .tc := ⟨.hbm, 128, rfl⟩
abbrev main_v65 : Ref sig .tc := ⟨.hbm, 129, rfl⟩
abbrev main_cst_19 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_20 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_21 : Ref sig .tc := ⟨.hbm, 142, rfl⟩
abbrev main_v76 : Ref sig .tc := ⟨.hbm, 143, rfl⟩
abbrev main_cst_22 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_call4_call0_cst : Ref sig .tc := ⟨.hbm, 150, rfl⟩
abbrev main_call4_call0_v0 : Ref sig .tc := ⟨.hbm, 151, rfl⟩
abbrev main_v82 : Ref sig .tc := ⟨.hbm, 152, rfl⟩
abbrev main_cst_23 : Ref sig .tc := ⟨.hbm, 153, rfl⟩
abbrev main_v83 : Ref sig .tc := ⟨.hbm, 154, rfl⟩
abbrev main_v84 : Ref sig .tc := ⟨.hbm, 155, rfl⟩
abbrev main_cst_24 : Ref sig .tc := ⟨.hbm, 156, rfl⟩
abbrev main_v85 : Ref sig .tc := ⟨.hbm, 157, rfl⟩
abbrev main_v86 : Ref sig .tc := ⟨.hbm, 158, rfl⟩
abbrev main_cst_25 : Ref sig .tc := ⟨.hbm, 159, rfl⟩
abbrev main_v87 : Ref sig .tc := ⟨.hbm, 160, rfl⟩
abbrev main_cst_26 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_27 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_cst_28 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_c : Ref sig .tc := ⟨.hbm, 182, rfl⟩
abbrev main_v106 : Ref sig .tc := ⟨.hbm, 183, rfl⟩
abbrev main_c_29 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_30 : Ref sig .tc := ⟨.hbm, 188, rfl⟩
abbrev main_c_31 : Ref sig .tc := ⟨.hbm, 189, rfl⟩
abbrev main_call5_v0 : Ref sig .tc := ⟨.hbm, 190, rfl⟩
abbrev main_call5_v1 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_v110 : Ref sig .tc := ⟨.hbm, 195, rfl⟩
abbrev main_call6_c : Ref sig .tc := ⟨.hbm, 196, rfl⟩
abbrev main_call6_v0 : Ref sig .tc := ⟨.hbm, 197, rfl⟩
abbrev main_call6_v1 : Ref sig .tc := ⟨.hbm, 198, rfl⟩
abbrev main_call6_c_0 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_v111 : Ref sig .tc := ⟨.hbm, 204, rfl⟩
abbrev main_v112 : Ref sig .tc := ⟨.hbm, 205, rfl⟩
abbrev main_call7_c : Ref sig .tc := ⟨.hbm, 206, rfl⟩
abbrev main_call7_v0 : Ref sig .tc := ⟨.hbm, 207, rfl⟩
abbrev main_call7_v1 : Ref sig .tc := ⟨.hbm, 208, rfl⟩
abbrev main_call7_c_0 : Ref sig .tc := ⟨.hbm, 209, rfl⟩
abbrev main_call7_v2 : Ref sig .tc := ⟨.hbm, 210, rfl⟩
abbrev main_call7_v3 : Ref sig .tc := ⟨.hbm, 211, rfl⟩
abbrev main_call7_v4 : Ref sig .tc := ⟨.hbm, 212, rfl⟩
abbrev main_call7_v5 : Ref sig .tc := ⟨.hbm, 213, rfl⟩
abbrev main_v113 : Ref sig .tc := ⟨.hbm, 214, rfl⟩
abbrev main_v114 : Ref sig .tc := ⟨.hbm, 215, rfl⟩
abbrev main_call8_c : Ref sig .tc := ⟨.hbm, 216, rfl⟩
abbrev main_call8_v0 : Ref sig .tc := ⟨.hbm, 217, rfl⟩
abbrev main_call8_v1 : Ref sig .tc := ⟨.hbm, 218, rfl⟩
abbrev main_call8_c_0 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_v5 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_call9_c : Ref sig .tc := ⟨.hbm, 227, rfl⟩
abbrev main_call9_v0 : Ref sig .tc := ⟨.hbm, 228, rfl⟩
abbrev main_call9_v1 : Ref sig .tc := ⟨.hbm, 229, rfl⟩
abbrev main_call9_c_0 : Ref sig .tc := ⟨.hbm, 230, rfl⟩
abbrev main_call9_v2 : Ref sig .tc := ⟨.hbm, 231, rfl⟩
abbrev main_call9_v3 : Ref sig .tc := ⟨.hbm, 232, rfl⟩
abbrev main_call9_v4 : Ref sig .tc := ⟨.hbm, 233, rfl⟩
abbrev main_call9_v5 : Ref sig .tc := ⟨.hbm, 234, rfl⟩
abbrev main_v118 : Ref sig .tc := ⟨.hbm, 235, rfl⟩
abbrev main_v119 : Ref sig .tc := ⟨.hbm, 236, rfl⟩
abbrev main_call10_c : Ref sig .tc := ⟨.hbm, 237, rfl⟩
abbrev main_call10_v0 : Ref sig .tc := ⟨.hbm, 238, rfl⟩
abbrev main_call10_v1 : Ref sig .tc := ⟨.hbm, 239, rfl⟩
abbrev main_call10_c_0 : Ref sig .tc := ⟨.hbm, 240, rfl⟩
abbrev main_call10_v2 : Ref sig .tc := ⟨.hbm, 241, rfl⟩
abbrev main_call10_v3 : Ref sig .tc := ⟨.hbm, 242, rfl⟩
abbrev main_call10_v4 : Ref sig .tc := ⟨.hbm, 243, rfl⟩
abbrev main_call10_v5 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_call11_c : Ref sig .tc := ⟨.hbm, 248, rfl⟩
abbrev main_call11_v0 : Ref sig .tc := ⟨.hbm, 249, rfl⟩
abbrev main_call11_v1 : Ref sig .tc := ⟨.hbm, 250, rfl⟩
abbrev main_call11_c_0 : Ref sig .tc := ⟨.hbm, 251, rfl⟩
abbrev main_call11_v2 : Ref sig .tc := ⟨.hbm, 252, rfl⟩
abbrev main_call11_v3 : Ref sig .tc := ⟨.hbm, 253, rfl⟩
abbrev main_call11_v4 : Ref sig .tc := ⟨.hbm, 254, rfl⟩
abbrev main_call11_v5 : Ref sig .tc := ⟨.hbm, 255, rfl⟩
abbrev main_v123 : Ref sig .tc := ⟨.hbm, 256, rfl⟩
abbrev main_v124 : Ref sig .tc := ⟨.hbm, 257, rfl⟩
abbrev main_call12_c : Ref sig .tc := ⟨.hbm, 258, rfl⟩
abbrev main_call12_v0 : Ref sig .tc := ⟨.hbm, 259, rfl⟩
abbrev main_call12_v1 : Ref sig .tc := ⟨.hbm, 260, rfl⟩
abbrev main_call12_c_0 : Ref sig .tc := ⟨.hbm, 261, rfl⟩
abbrev main_call12_v2 : Ref sig .tc := ⟨.hbm, 262, rfl⟩
abbrev main_call12_v3 : Ref sig .tc := ⟨.hbm, 263, rfl⟩
abbrev main_call12_v4 : Ref sig .tc := ⟨.hbm, 264, rfl⟩
abbrev main_call12_v5 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_cst_32 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_cst_33 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_cst_34 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩
abbrev main_v151 : Ref sig .tc := ⟨.hbm, 295, rfl⟩
abbrev main_cst_35 : Ref sig .tc := ⟨.hbm, 296, rfl⟩
abbrev main_v152 : Ref sig .tc := ⟨.hbm, 297, rfl⟩
abbrev main_v153 : Ref sig .tc := ⟨.hbm, 298, rfl⟩
abbrev main_v154 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩
abbrev main_v158 : Ref sig .tc := ⟨.hbm, 303, rfl⟩
abbrev main_v159 : Ref sig .tc := ⟨.hbm, 304, rfl⟩
abbrev main_cst_36 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_cst_37 : Ref sig .tc := ⟨.hbm, 310, rfl⟩
abbrev main_call14_v0 : Ref sig .tc := ⟨.hbm, 311, rfl⟩
abbrev main_call14_v1 : Ref sig .tc := ⟨.hbm, 312, rfl⟩
abbrev main_v164 : Ref sig .tc := ⟨.hbm, 313, rfl⟩
abbrev main_cst_38 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_call15_v0 : Ref sig .tc := ⟨.hbm, 320, rfl⟩
abbrev main_call15_v1 : Ref sig .tc := ⟨.hbm, 321, rfl⟩
abbrev main_call15_cst : Ref sig .tc := ⟨.hbm, 322, rfl⟩
abbrev main_call15_v2 : Ref sig .tc := ⟨.hbm, 323, rfl⟩
abbrev main_call15_v3 : Ref sig .tc := ⟨.hbm, 324, rfl⟩
abbrev main_call15_cst_0 : Ref sig .tc := ⟨.hbm, 325, rfl⟩
abbrev main_call15_v4 : Ref sig .tc := ⟨.hbm, 326, rfl⟩
abbrev main_call15_v5 : Ref sig .tc := ⟨.hbm, 327, rfl⟩
abbrev main_v170 : Ref sig .tc := ⟨.hbm, 328, rfl⟩
abbrev main_v171 : Ref sig .tc := ⟨.hbm, 329, rfl⟩
abbrev main_v172 : Ref sig .tc := ⟨.hbm, 330, rfl⟩
abbrev main_v173 : Ref sig .tc := ⟨.hbm, 331, rfl⟩
abbrev main_v174 : Ref sig .tc := ⟨.hbm, 332, rfl⟩
abbrev main_call16_v0 : Ref sig .tc := ⟨.hbm, 333, rfl⟩
abbrev main_call16_v1 : Ref sig .tc := ⟨.hbm, 334, rfl⟩
abbrev main_call16_cst : Ref sig .tc := ⟨.hbm, 335, rfl⟩
abbrev main_call16_v2 : Ref sig .tc := ⟨.hbm, 336, rfl⟩
abbrev main_call16_v3 : Ref sig .tc := ⟨.hbm, 337, rfl⟩
abbrev main_call16_cst_0 : Ref sig .tc := ⟨.hbm, 338, rfl⟩
abbrev main_call16_v4 : Ref sig .tc := ⟨.hbm, 339, rfl⟩
abbrev main_call16_v5 : Ref sig .tc := ⟨.hbm, 340, rfl⟩
abbrev main_v175 : Ref sig .tc := ⟨.hbm, 341, rfl⟩
abbrev main_v176 : Ref sig .tc := ⟨.hbm, 342, rfl⟩
abbrev main_v177 : Ref sig .tc := ⟨.hbm, 343, rfl⟩
abbrev main_v178 : Ref sig .tc := ⟨.hbm, 344, rfl⟩
abbrev main_v179 : Ref sig .tc := ⟨.hbm, 345, rfl⟩
abbrev main_v180 : Ref sig .tc := ⟨.hbm, 346, rfl⟩
abbrev main_v181 : Ref sig .tc := ⟨.hbm, 347, rfl⟩
abbrev main_v182 : Ref sig .tc := ⟨.hbm, 348, rfl⟩
abbrev main_v183 : Ref sig .tc := ⟨.hbm, 349, rfl⟩
abbrev main_cst_39 : Ref sig .tc := ⟨.hbm, 350, rfl⟩
abbrev main_v184 : Ref sig .tc := ⟨.hbm, 351, rfl⟩
abbrev main_v185 : Ref sig .tc := ⟨.hbm, 352, rfl⟩
abbrev main_cst_40 : Ref sig .tc := ⟨.hbm, 353, rfl⟩
abbrev main_v186 : Ref sig .tc := ⟨.hbm, 354, rfl⟩
abbrev main_v187 : Ref sig .tc := ⟨.hbm, 355, rfl⟩
abbrev main_v188 : Ref sig .tc := ⟨.hbm, 356, rfl⟩
abbrev main_cst_41 : Ref sig .tc := ⟨.hbm, 357, rfl⟩
abbrev main_v189 : Ref sig .tc := ⟨.hbm, 358, rfl⟩
abbrev main_v190 : Ref sig .tc := ⟨.hbm, 359, rfl⟩
abbrev main_cst_42 : Ref sig .tc := ⟨.hbm, 360, rfl⟩
abbrev main_cst_43 : Ref sig .tc := ⟨.hbm, 361, rfl⟩
abbrev main_v191 : Ref sig .tc := ⟨.hbm, 362, rfl⟩
abbrev main_cst_44 : Ref sig .tc := ⟨.hbm, 363, rfl⟩
abbrev main_v192 : Ref sig .tc := ⟨.hbm, 364, rfl⟩
abbrev main_cst_45 : Ref sig .tc := ⟨.hbm, 365, rfl⟩
abbrev main_v193 : Ref sig .tc := ⟨.hbm, 366, rfl⟩
abbrev main_v194 : Ref sig .tc := ⟨.hbm, 367, rfl⟩
abbrev main_v195 : Ref sig .tc := ⟨.hbm, 368, rfl⟩
abbrev main_v196 : Ref sig .tc := ⟨.hbm, 369, rfl⟩
abbrev main_v197 : Ref sig .tc := ⟨.hbm, 370, rfl⟩
abbrev main_v198 : Ref sig .tc := ⟨.hbm, 371, rfl⟩
abbrev main_cst_46 : Ref sig .tc := ⟨.hbm, 372, rfl⟩
abbrev main_v199 : Ref sig .tc := ⟨.hbm, 373, rfl⟩
abbrev main_v200 : Ref sig .tc := ⟨.hbm, 374, rfl⟩
abbrev main_v201 : Ref sig .tc := ⟨.hbm, 375, rfl⟩
abbrev main_v202 : Ref sig .tc := ⟨.hbm, 376, rfl⟩
abbrev main_cst_47 : Ref sig .tc := ⟨.hbm, 377, rfl⟩
abbrev main_v203 : Ref sig .tc := ⟨.hbm, 378, rfl⟩
abbrev main_cst_48 : Ref sig .tc := ⟨.hbm, 379, rfl⟩
abbrev main_v204 : Ref sig .tc := ⟨.hbm, 380, rfl⟩
abbrev main_v205 : Ref sig .tc := ⟨.hbm, 381, rfl⟩
abbrev main_v206 : Ref sig .tc := ⟨.hbm, 382, rfl⟩
abbrev main_v207 : Ref sig .tc := ⟨.hbm, 383, rfl⟩
abbrev main_v208 : Ref sig .tc := ⟨.hbm, 384, rfl⟩
abbrev main_call17_call0_cst : Ref sig .tc := ⟨.hbm, 385, rfl⟩
abbrev main_call17_call0_v0 : Ref sig .tc := ⟨.hbm, 386, rfl⟩
abbrev main_v209 : Ref sig .tc := ⟨.hbm, 387, rfl⟩
abbrev main_cst_49 : Ref sig .tc := ⟨.hbm, 388, rfl⟩
abbrev main_v210 : Ref sig .tc := ⟨.hbm, 389, rfl⟩
abbrev main_v211 : Ref sig .tc := ⟨.hbm, 390, rfl⟩
abbrev main_cst_50 : Ref sig .tc := ⟨.hbm, 391, rfl⟩
abbrev main_v212 : Ref sig .tc := ⟨.hbm, 392, rfl⟩
abbrev main_v213 : Ref sig .tc := ⟨.hbm, 393, rfl⟩
abbrev main_cst_51 : Ref sig .tc := ⟨.hbm, 394, rfl⟩
abbrev main_v214 : Ref sig .tc := ⟨.hbm, 395, rfl⟩
abbrev main_cst_52 : Ref sig .tc := ⟨.hbm, 396, rfl⟩
abbrev main_v215 : Ref sig .tc := ⟨.hbm, 397, rfl⟩
abbrev main_v216 : Ref sig .tc := ⟨.hbm, 398, rfl⟩
abbrev main_v217 : Ref sig .tc := ⟨.hbm, 399, rfl⟩
abbrev main_cst_53 : Ref sig .tc := ⟨.hbm, 400, rfl⟩
abbrev main_v218 : Ref sig .tc := ⟨.hbm, 401, rfl⟩
abbrev main_v219 : Ref sig .tc := ⟨.hbm, 402, rfl⟩
abbrev main_v220 : Ref sig .tc := ⟨.hbm, 403, rfl⟩
abbrev main_v221 : Ref sig .tc := ⟨.hbm, 404, rfl⟩
abbrev main_v222 : Ref sig .tc := ⟨.hbm, 405, rfl⟩
abbrev main_v223 : Ref sig .tc := ⟨.hbm, 406, rfl⟩
abbrev main_cst_54 : Ref sig .tc := ⟨.hbm, 407, rfl⟩
abbrev main_cst_55 : Ref sig .tc := ⟨.hbm, 408, rfl⟩
abbrev main_v224 : Ref sig .tc := ⟨.hbm, 409, rfl⟩
abbrev main_call18_cst : Ref sig .tc := ⟨.hbm, 410, rfl⟩
abbrev main_call18_v0 : Ref sig .tc := ⟨.hbm, 411, rfl⟩
abbrev main_call18_v1 : Ref sig .tc := ⟨.hbm, 412, rfl⟩
abbrev main_call18_v2 : Ref sig .tc := ⟨.hbm, 413, rfl⟩
abbrev main_call18_v3 : Ref sig .tc := ⟨.hbm, 414, rfl⟩
abbrev main_call18_v4 : Ref sig .tc := ⟨.hbm, 415, rfl⟩
abbrev main_call18_v5 : Ref sig .tc := ⟨.hbm, 416, rfl⟩
abbrev main_call18_v6 : Ref sig .tc := ⟨.hbm, 417, rfl⟩
abbrev main_call18_v7 : Ref sig .tc := ⟨.hbm, 418, rfl⟩
abbrev main_call18_v8 : Ref sig .tc := ⟨.hbm, 419, rfl⟩
abbrev main_call18_v9 : Ref sig .tc := ⟨.hbm, 420, rfl⟩
abbrev main_call18_v10 : Ref sig .tc := ⟨.hbm, 421, rfl⟩
abbrev main_call18_v11 : Ref sig .tc := ⟨.hbm, 422, rfl⟩
abbrev main_v225 : Ref sig .tc := ⟨.hbm, 423, rfl⟩
abbrev main_v226 : Ref sig .tc := ⟨.hbm, 424, rfl⟩
abbrev main_v227 : Ref sig .tc := ⟨.hbm, 425, rfl⟩
abbrev main_cst_56 : Ref sig .tc := ⟨.hbm, 426, rfl⟩
abbrev main_cst_57 : Ref sig .tc := ⟨.hbm, 427, rfl⟩
abbrev main_v228 : Ref sig .tc := ⟨.hbm, 428, rfl⟩
abbrev main_cst_58 : Ref sig .tc := ⟨.hbm, 429, rfl⟩
abbrev main_v229 : Ref sig .tc := ⟨.hbm, 430, rfl⟩
abbrev main_cst_59 : Ref sig .tc := ⟨.hbm, 431, rfl⟩
abbrev main_v230 : Ref sig .tc := ⟨.hbm, 432, rfl⟩
abbrev main_v231 : Ref sig .tc := ⟨.hbm, 433, rfl⟩
abbrev main_v232 : Ref sig .tc := ⟨.hbm, 434, rfl⟩
abbrev main_v233 : Ref sig .tc := ⟨.hbm, 435, rfl⟩
abbrev main_v234 : Ref sig .tc := ⟨.hbm, 436, rfl⟩
abbrev main_v235 : Ref sig .tc := ⟨.hbm, 437, rfl⟩
abbrev main_cst_60 : Ref sig .tc := ⟨.hbm, 438, rfl⟩
abbrev main_v236 : Ref sig .tc := ⟨.hbm, 439, rfl⟩
abbrev main_v237 : Ref sig .tc := ⟨.hbm, 440, rfl⟩
abbrev main_v238 : Ref sig .tc := ⟨.hbm, 441, rfl⟩
abbrev main_v239 : Ref sig .tc := ⟨.hbm, 442, rfl⟩
abbrev main_cst_61 : Ref sig .tc := ⟨.hbm, 443, rfl⟩
abbrev main_v240 : Ref sig .tc := ⟨.hbm, 444, rfl⟩
abbrev main_cst_62 : Ref sig .tc := ⟨.hbm, 445, rfl⟩
abbrev main_v241 : Ref sig .tc := ⟨.hbm, 446, rfl⟩
abbrev main_v242 : Ref sig .tc := ⟨.hbm, 447, rfl⟩
abbrev main_v243 : Ref sig .tc := ⟨.hbm, 448, rfl⟩
abbrev main_v244 : Ref sig .tc := ⟨.hbm, 449, rfl⟩
abbrev main_v245 : Ref sig .tc := ⟨.hbm, 450, rfl⟩
abbrev main_call19_call0_cst : Ref sig .tc := ⟨.hbm, 451, rfl⟩
abbrev main_call19_call0_v0 : Ref sig .tc := ⟨.hbm, 452, rfl⟩
abbrev main_v246 : Ref sig .tc := ⟨.hbm, 453, rfl⟩
abbrev main_cst_63 : Ref sig .tc := ⟨.hbm, 454, rfl⟩
abbrev main_v247 : Ref sig .tc := ⟨.hbm, 455, rfl⟩
abbrev main_v248 : Ref sig .tc := ⟨.hbm, 456, rfl⟩
abbrev main_cst_64 : Ref sig .tc := ⟨.hbm, 457, rfl⟩
abbrev main_v249 : Ref sig .tc := ⟨.hbm, 458, rfl⟩
abbrev main_v250 : Ref sig .tc := ⟨.hbm, 459, rfl⟩
abbrev main_cst_65 : Ref sig .tc := ⟨.hbm, 460, rfl⟩
abbrev main_v251 : Ref sig .tc := ⟨.hbm, 461, rfl⟩
abbrev main_cst_66 : Ref sig .tc := ⟨.hbm, 462, rfl⟩
abbrev main_v252 : Ref sig .tc := ⟨.hbm, 463, rfl⟩
abbrev main_v253 : Ref sig .tc := ⟨.hbm, 464, rfl⟩
abbrev main_v254 : Ref sig .tc := ⟨.hbm, 465, rfl⟩
abbrev main_cst_67 : Ref sig .tc := ⟨.hbm, 466, rfl⟩
abbrev main_v255 : Ref sig .tc := ⟨.hbm, 467, rfl⟩
abbrev main_v256 : Ref sig .tc := ⟨.hbm, 468, rfl⟩
abbrev main_v257 : Ref sig .tc := ⟨.hbm, 469, rfl⟩
abbrev main_v258 : Ref sig .tc := ⟨.hbm, 470, rfl⟩
abbrev main_v259 : Ref sig .tc := ⟨.hbm, 471, rfl⟩
abbrev main_v260 : Ref sig .tc := ⟨.hbm, 472, rfl⟩
abbrev main_v261 : Ref sig .tc := ⟨.hbm, 473, rfl⟩
abbrev main_v262 : Ref sig .tc := ⟨.hbm, 474, rfl⟩
abbrev main_cst_68 : Ref sig .tc := ⟨.hbm, 475, rfl⟩
abbrev main_v263 : Ref sig .tc := ⟨.hbm, 476, rfl⟩
abbrev main_v264 : Ref sig .tc := ⟨.hbm, 477, rfl⟩
abbrev main_v265 : Ref sig .tc := ⟨.hbm, 478, rfl⟩
abbrev main_v266 : Ref sig .tc := ⟨.hbm, 479, rfl⟩
abbrev main_v267 : Ref sig .tc := ⟨.hbm, 480, rfl⟩
abbrev main_v268 : Ref sig .tc := ⟨.hbm, 481, rfl⟩
abbrev main_v269 : Ref sig .tc := ⟨.hbm, 482, rfl⟩
abbrev main_c_69 : Ref sig .tc := ⟨.hbm, 483, rfl⟩
abbrev main_v270 : Ref sig .tc := ⟨.hbm, 484, rfl⟩
abbrev main_c_70 : Ref sig .tc := ⟨.hbm, 485, rfl⟩
abbrev main_v271 : Ref sig .tc := ⟨.hbm, 486, rfl⟩
abbrev main_v272 : Ref sig .tc := ⟨.hbm, 487, rfl⟩
abbrev main_v273 : Ref sig .tc := ⟨.hbm, 488, rfl⟩
abbrev main_c_71 : Ref sig .tc := ⟨.hbm, 489, rfl⟩
abbrev main_c_72 : Ref sig .tc := ⟨.hbm, 490, rfl⟩
abbrev main_call20_v0 : Ref sig .tc := ⟨.hbm, 491, rfl⟩
abbrev main_call20_v1 : Ref sig .tc := ⟨.hbm, 492, rfl⟩
abbrev main_call20_v2 : Ref sig .tc := ⟨.hbm, 493, rfl⟩
abbrev main_call20_v3 : Ref sig .tc := ⟨.hbm, 494, rfl⟩
abbrev main_call20_v4 : Ref sig .tc := ⟨.hbm, 495, rfl⟩
abbrev main_v274 : Ref sig .tc := ⟨.hbm, 496, rfl⟩
abbrev main_call21_c : Ref sig .tc := ⟨.hbm, 497, rfl⟩
abbrev main_call21_v0 : Ref sig .tc := ⟨.hbm, 498, rfl⟩
abbrev main_call21_v1 : Ref sig .tc := ⟨.hbm, 499, rfl⟩
abbrev main_call21_c_0 : Ref sig .tc := ⟨.hbm, 500, rfl⟩
abbrev main_call21_v2 : Ref sig .tc := ⟨.hbm, 501, rfl⟩
abbrev main_call21_v3 : Ref sig .tc := ⟨.hbm, 502, rfl⟩
abbrev main_call21_v4 : Ref sig .tc := ⟨.hbm, 503, rfl⟩
abbrev main_call21_v5 : Ref sig .tc := ⟨.hbm, 504, rfl⟩
abbrev main_v275 : Ref sig .tc := ⟨.hbm, 505, rfl⟩
abbrev main_v276 : Ref sig .tc := ⟨.hbm, 506, rfl⟩
abbrev main_call22_c : Ref sig .tc := ⟨.hbm, 507, rfl⟩
abbrev main_call22_v0 : Ref sig .tc := ⟨.hbm, 508, rfl⟩
abbrev main_call22_v1 : Ref sig .tc := ⟨.hbm, 509, rfl⟩
abbrev main_call22_c_0 : Ref sig .tc := ⟨.hbm, 510, rfl⟩
abbrev main_call22_v2 : Ref sig .tc := ⟨.hbm, 511, rfl⟩
abbrev main_call22_v3 : Ref sig .tc := ⟨.hbm, 512, rfl⟩
abbrev main_call22_v4 : Ref sig .tc := ⟨.hbm, 513, rfl⟩
abbrev main_call22_v5 : Ref sig .tc := ⟨.hbm, 514, rfl⟩
abbrev main_v277 : Ref sig .tc := ⟨.hbm, 515, rfl⟩
abbrev main_v278 : Ref sig .tc := ⟨.hbm, 516, rfl⟩
abbrev main_call23_c : Ref sig .tc := ⟨.hbm, 517, rfl⟩
abbrev main_call23_v0 : Ref sig .tc := ⟨.hbm, 518, rfl⟩
abbrev main_call23_v1 : Ref sig .tc := ⟨.hbm, 519, rfl⟩
abbrev main_call23_c_0 : Ref sig .tc := ⟨.hbm, 520, rfl⟩
abbrev main_call23_v2 : Ref sig .tc := ⟨.hbm, 521, rfl⟩
abbrev main_call23_v3 : Ref sig .tc := ⟨.hbm, 522, rfl⟩
abbrev main_call23_v4 : Ref sig .tc := ⟨.hbm, 523, rfl⟩
abbrev main_call23_v5 : Ref sig .tc := ⟨.hbm, 524, rfl⟩
abbrev main_v279 : Ref sig .tc := ⟨.hbm, 525, rfl⟩
abbrev main_v280 : Ref sig .tc := ⟨.hbm, 526, rfl⟩
abbrev main_v281 : Ref sig .tc := ⟨.hbm, 527, rfl⟩
abbrev main_call24_c : Ref sig .tc := ⟨.hbm, 528, rfl⟩
abbrev main_call24_v0 : Ref sig .tc := ⟨.hbm, 529, rfl⟩
abbrev main_call24_v1 : Ref sig .tc := ⟨.hbm, 530, rfl⟩
abbrev main_call24_c_0 : Ref sig .tc := ⟨.hbm, 531, rfl⟩
abbrev main_call24_v2 : Ref sig .tc := ⟨.hbm, 532, rfl⟩
abbrev main_call24_v3 : Ref sig .tc := ⟨.hbm, 533, rfl⟩
abbrev main_call24_v4 : Ref sig .tc := ⟨.hbm, 534, rfl⟩
abbrev main_call24_v5 : Ref sig .tc := ⟨.hbm, 535, rfl⟩
abbrev main_v282 : Ref sig .tc := ⟨.hbm, 536, rfl⟩
abbrev main_v283 : Ref sig .tc := ⟨.hbm, 537, rfl⟩
abbrev main_call25_c : Ref sig .tc := ⟨.hbm, 538, rfl⟩
abbrev main_call25_v0 : Ref sig .tc := ⟨.hbm, 539, rfl⟩
abbrev main_call25_v1 : Ref sig .tc := ⟨.hbm, 540, rfl⟩
abbrev main_call25_c_0 : Ref sig .tc := ⟨.hbm, 541, rfl⟩
abbrev main_call25_v2 : Ref sig .tc := ⟨.hbm, 542, rfl⟩
abbrev main_call25_v3 : Ref sig .tc := ⟨.hbm, 543, rfl⟩
abbrev main_call25_v4 : Ref sig .tc := ⟨.hbm, 544, rfl⟩
abbrev main_call25_v5 : Ref sig .tc := ⟨.hbm, 545, rfl⟩
abbrev main_v284 : Ref sig .tc := ⟨.hbm, 546, rfl⟩
abbrev main_v285 : Ref sig .tc := ⟨.hbm, 547, rfl⟩
abbrev main_v286 : Ref sig .tc := ⟨.hbm, 548, rfl⟩
abbrev main_call26_c : Ref sig .tc := ⟨.hbm, 549, rfl⟩
abbrev main_call26_v0 : Ref sig .tc := ⟨.hbm, 550, rfl⟩
abbrev main_call26_v1 : Ref sig .tc := ⟨.hbm, 551, rfl⟩
abbrev main_call26_c_0 : Ref sig .tc := ⟨.hbm, 552, rfl⟩
abbrev main_call26_v2 : Ref sig .tc := ⟨.hbm, 553, rfl⟩
abbrev main_call26_v3 : Ref sig .tc := ⟨.hbm, 554, rfl⟩
abbrev main_call26_v4 : Ref sig .tc := ⟨.hbm, 555, rfl⟩
abbrev main_call26_v5 : Ref sig .tc := ⟨.hbm, 556, rfl⟩
abbrev main_v287 : Ref sig .tc := ⟨.hbm, 557, rfl⟩
abbrev main_v288 : Ref sig .tc := ⟨.hbm, 558, rfl⟩
abbrev main_call27_c : Ref sig .tc := ⟨.hbm, 559, rfl⟩
abbrev main_call27_v0 : Ref sig .tc := ⟨.hbm, 560, rfl⟩
abbrev main_call27_v1 : Ref sig .tc := ⟨.hbm, 561, rfl⟩
abbrev main_call27_c_0 : Ref sig .tc := ⟨.hbm, 562, rfl⟩
abbrev main_call27_v2 : Ref sig .tc := ⟨.hbm, 563, rfl⟩
abbrev main_call27_v3 : Ref sig .tc := ⟨.hbm, 564, rfl⟩
abbrev main_call27_v4 : Ref sig .tc := ⟨.hbm, 565, rfl⟩
abbrev main_call27_v5 : Ref sig .tc := ⟨.hbm, 566, rfl⟩
abbrev main_v289 : Ref sig .tc := ⟨.hbm, 567, rfl⟩
abbrev main_v290 : Ref sig .tc := ⟨.hbm, 568, rfl⟩
abbrev main_v291 : Ref sig .tc := ⟨.hbm, 569, rfl⟩
abbrev main_v292 : Ref sig .tc := ⟨.hbm, 570, rfl⟩
abbrev main_cst_73 : Ref sig .tc := ⟨.hbm, 571, rfl⟩
abbrev main_v293 : Ref sig .tc := ⟨.hbm, 572, rfl⟩
abbrev main_v294 : Ref sig .tc := ⟨.hbm, 573, rfl⟩
abbrev main_v295 : Ref sig .tc := ⟨.hbm, 574, rfl⟩
abbrev main_v296 : Ref sig .tc := ⟨.hbm, 575, rfl⟩
abbrev main_v297 : Ref sig .tc := ⟨.hbm, 576, rfl⟩
abbrev main_v298 : Ref sig .tc := ⟨.hbm, 577, rfl⟩
abbrev main_v299 : Ref sig .tc := ⟨.hbm, 578, rfl⟩
abbrev main_v300 : Ref sig .tc := ⟨.hbm, 579, rfl⟩
abbrev main_v301 : Ref sig .tc := ⟨.hbm, 580, rfl⟩
abbrev main_cst_74 : Ref sig .tc := ⟨.hbm, 581, rfl⟩
abbrev main_v302 : Ref sig .tc := ⟨.hbm, 582, rfl⟩
abbrev main_v303 : Ref sig .tc := ⟨.hbm, 583, rfl⟩
abbrev main_v304 : Ref sig .tc := ⟨.hbm, 584, rfl⟩
abbrev main_v305 : Ref sig .tc := ⟨.hbm, 585, rfl⟩
abbrev main_v306 : Ref sig .tc := ⟨.hbm, 586, rfl⟩
abbrev main_v307 : Ref sig .tc := ⟨.hbm, 587, rfl⟩
abbrev main_v308 : Ref sig .tc := ⟨.hbm, 588, rfl⟩
abbrev main_v309 : Ref sig .tc := ⟨.hbm, 589, rfl⟩
abbrev main_v310 : Ref sig .tc := ⟨.hbm, 590, rfl⟩
abbrev main_v311 : Ref sig .tc := ⟨.hbm, 591, rfl⟩
abbrev main_cst_75 : Ref sig .tc := ⟨.hbm, 592, rfl⟩
abbrev main_v312 : Ref sig .tc := ⟨.hbm, 593, rfl⟩
abbrev main_v313 : Ref sig .tc := ⟨.hbm, 594, rfl⟩
abbrev main_v314 : Ref sig .tc := ⟨.hbm, 595, rfl⟩
abbrev main_v315 : Ref sig .tc := ⟨.hbm, 596, rfl⟩
abbrev main_cst_76 : Ref sig .tc := ⟨.hbm, 597, rfl⟩
abbrev main_v316 : Ref sig .tc := ⟨.hbm, 598, rfl⟩
abbrev main_v317 : Ref sig .tc := ⟨.hbm, 599, rfl⟩
abbrev main_v318 : Ref sig .tc := ⟨.hbm, 600, rfl⟩
abbrev main_v319 : Ref sig .tc := ⟨.hbm, 601, rfl⟩
abbrev main_v320 : Ref sig .tc := ⟨.hbm, 602, rfl⟩
abbrev main_v321 : Ref sig .tc := ⟨.hbm, 603, rfl⟩
abbrev main_v322 : Ref sig .tc := ⟨.hbm, 604, rfl⟩
abbrev main_v323 : Ref sig .tc := ⟨.hbm, 605, rfl⟩
abbrev main_cst_77 : Ref sig .tc := ⟨.hbm, 606, rfl⟩
abbrev main_v324 : Ref sig .tc := ⟨.hbm, 607, rfl⟩
abbrev main_v325 : Ref sig .tc := ⟨.hbm, 608, rfl⟩
abbrev main_v326 : Ref sig .tc := ⟨.hbm, 609, rfl⟩
abbrev main_v327 : Ref sig .tc := ⟨.hbm, 610, rfl⟩
abbrev main_cst_78 : Ref sig .tc := ⟨.hbm, 611, rfl⟩
abbrev main_call29_v0 : Ref sig .tc := ⟨.hbm, 612, rfl⟩
abbrev main_call29_v1 : Ref sig .tc := ⟨.hbm, 613, rfl⟩
abbrev main_v328 : Ref sig .tc := ⟨.hbm, 614, rfl⟩
abbrev main_cst_79 : Ref sig .tc := ⟨.hbm, 615, rfl⟩
abbrev main_v329 : Ref sig .tc := ⟨.hbm, 616, rfl⟩
abbrev main_v330 : Ref sig .tc := ⟨.hbm, 617, rfl⟩
abbrev main_v331 : Ref sig .tc := ⟨.hbm, 618, rfl⟩
abbrev main_v332 : Ref sig .tc := ⟨.hbm, 619, rfl⟩

abbrev nD : Nat := 1
abbrev τ : Topo := Topo.v7x

variable {F : FTy → Type} [FloatOps F]
-- ==== Proof.RefDefs.lean ====
/- The reference's host operations in groups, each a function of the tensors it reads: the layers, the knots, the bin of an
   input, the reads at the bin and the rational-quadratic piece. -/
module

public import proofs.«01_k».proof.Proof.Gen.ReferenceIdeal
public import Idealize.ShloMosaic.PureOps.Ideal

@[expose] public section

set_option maxRecDepth 16384

noncomputable section

namespace Cert.Spline

open Cert.ReferenceIdeal Cert.ReferenceIdeal.Gen Idealize.ShloMosaic Idealize.ShloMosaic.TcCoe

/-- The first layer before its activation. -/
def rLin1 (x : FVec Ideal S16384x64 .f32) (w : FVec Ideal S64x256 .f32) (b : FVec Ideal S256 .f32) : FVec Ideal S16384x256 .f32 :=
  addf (Host.dotGeneral dot_S16384x64_S64x256_S16384x256_1_0_0_1_n_n none x w) (broadcastInDim S16384x256 ![0, 1] bcast_S1x256_S16384x256_0_1 (broadcastInDim S1x256 ![1] bcast_S256_S1x256_1 b))

/-- The activation `h · 1/(1 + exp (-h))`. -/
def rSilu (h : FVec Ideal S16384x256 .f32) : FVec Ideal S16384x256 .f32 :=
  mulf h (Host.divf (broadcastInDim S16384x256 ![] bcast_S_S16384x256 (constant (F := Ideal) S_ .f32 0x3F800000#32)) (addf (broadcastInDim S16384x256 ![] bcast_S_S16384x256 (constant (F := Ideal) S_ .f32 0x3F800000#32)) (Host.exp (Host.negf h))))

/-- The second layer before its activation. -/
def rLin2 (x : FVec Ideal S16384x256 .f32) (w : FVec Ideal S256x256 .f32) (b : FVec Ideal S256 .f32) : FVec Ideal S16384x256 .f32 :=
  addf (Host.dotGeneral dot_S16384x256_S256x256_S16384x256_1_0_0_1_n_n none x w) (broadcastInDim S16384x256 ![0, 1] bcast_S1x256_S16384x256_0_1 (broadcastInDim S1x256 ![1] bcast_S256_S1x256_1 b))

/-- The output layer. -/
def rLin3 (x : FVec Ideal S16384x256 .f32) (w : FVec Ideal S256x1472 .f32) (b : FVec Ideal S1472 .f32) : FVec Ideal S16384x1472 .f32 :=
  addf (Host.dotGeneral dot_S16384x256_S256x1472_S16384x1472_1_0_0_1_n_n none x w) (broadcastInDim S16384x1472 ![0, 1] bcast_S1x1472_S16384x1472_0_1 (broadcastInDim S1x1472 ![1] bcast_S1472_S1x1472_1 b))

/-- The eight width logits of each coordinate. -/
def rWid (o : FVec Ideal S16384x1472 .f32) : FVec Ideal S16384x64x8 .f32 :=
  extractStridedSlice S16384x64x8 ![0, 0, 0] (shapeCast S16384x64x23 o shapeCasts_S16384x1472_S16384x64x23) slices_S16384x64x23_S16384x64x8_0_0_0

/-- The eight height logits of each coordinate. -/
def rHgt (o : FVec Ideal S16384x1472 .f32) : FVec Ideal S16384x64x8 .f32 :=
  extractStridedSlice S16384x64x8 ![0, 0, 8] (shapeCast S16384x64x23 o shapeCasts_S16384x1472_S16384x64x23) slices_S16384x64x23_S16384x64x8_0_0_8

/-- The seven inner slope logits of each coordinate. -/
def rSlp (o : FVec Ideal S16384x1472 .f32) : FVec Ideal S16384x64x7 .f32 :=
  extractStridedSlice S16384x64x7 ![0, 0, 16] (shapeCast S16384x64x23 o shapeCasts_S16384x1472_S16384x64x23) slices_S16384x64x23_S16384x64x7_0_0_16

/-- Whether the input is inside the interval. -/
def rIn (x : FVec Ideal S16384x64 .f32) : IVec S16384x64 1 :=
  andi (cmpf .oge x (broadcastInDim S16384x64 ![] bcast_S_S16384x64 (constant (F := Ideal) S_ .f32 0xC0400000#32))) (cmpf .ole x (broadcastInDim S16384x64 ![] bcast_S_S16384x64 (constant (F := Ideal) S_ .f32 0x40400000#32)))

/-- The nine slope logits, the two outer ones fixed. -/
def rExt (d : FVec Ideal S16384x64x7 .f32) : FVec Ideal S16384x64x9 .f32 :=
  concatenate S16384x64x9 2 [⟨S16384x64x1, (broadcastInDim S16384x64x1 ![] bcast_S_S16384x64x1 (constant (F := Ideal) S_ .f32 0x3F0A2C8F#32))⟩, ⟨S16384x64x7, d⟩, ⟨S16384x64x1, (broadcastInDim S16384x64x1 ![] bcast_S_S16384x64x1 (constant (F := Ideal) S_ .f32 0x3F0A2C8F#32))⟩] concatenates_S16384x64x1_S16384x64x7_S16384x64x1_S16384x64x9_d2

/-- The largest of the eight logits. -/
def rTop (u : FVec Ideal S16384x64x8 .f32) : FVec Ideal S16384x64 .f32 :=
  maximumf (broadcastInDim S16384x64 ![] bcast_S_S16384x64 (constant (F := Ideal) S_ .f32 0xFF800000#32)) (Host.reduce (FloatOps.maximumf (F := Ideal) (φ := .f32)) u (constant (F := Ideal) S_ .f32 0xFF800000#32) reducesTo_S16384x64x8_S16384x64_d2 h_S_)

/-- The exponentials of the logits less one number. -/
def rExp (u : FVec Ideal S16384x64x8 .f32) (m : FVec Ideal S16384x64 .f32) : FVec Ideal S16384x64x8 .f32 :=
  Host.exp (subf u (broadcastInDim S16384x64x8 ![0, 1, 2] bcast_S16384x64x1_S16384x64x8_0_1_2 (broadcastInDim S16384x64x1 ![0, 1] bcast_S16384x64_S16384x64x1_0_1 m)))

/-- The sizes of the bins, as parts of one. -/
def rSize (e : FVec Ideal S16384x64x8 .f32) : FVec Ideal S16384x64x8 .f32 :=
  addf (broadcastInDim S16384x64x8 ![] bcast_S_S16384x64x8 (Host.divf (constant (F := Ideal) S_ .f32 0x3F800000#32) (constant (F := Ideal) S_ .f32 0x447A0000#32))) (mulf (broadcastInDim S16384x64x8 ![] bcast_S_S16384x64x8 (subf (constant (F := Ideal) S_ .f32 0x3F800000#32) (mulf (Host.divf (constant (F := Ideal) S_ .f32 0x3F800000#32) (constant (F := Ideal) S_ .f32 0x447A0000#32)) (constant (F := Ideal) S_ .f32 0x41000000#32)))) (Host.divf e (broadcastInDim S16384x64x8 ![0, 1, 2] bcast_S16384x64x1_S16384x64x8_0_1_2 (broadcastInDim S16384x64x1 ![0, 1] bcast_S16384x64_S16384x64x1_0_1 (Host.reduceAdd e (constant (F := Ideal) S_ .f32 0x00000000#32) reducesTo_S16384x64x8_S16384x64_d2 h_S_)))))

/-- The knots from the sizes. -/
def rKnot (s : FVec Ideal S16384x64x8 .f32) : FVec Ideal S16384x64x9 .f32 :=
  concatenate S16384x64x9 2 [⟨S16384x64x1, (mulf (broadcastInDim S16384x64x1 ![] bcast_S_S16384x64x1 (constant (F := Ideal) S_ .f32 0xC0400000#32)) (broadcastInDim S16384x64x1 ![] bcast_S_S16384x64x1 (constant (F := Ideal) S_ .f32 0x3F800000#32)))⟩, ⟨S16384x64x7, (extractStridedSlice S16384x64x7 ![0, 0, 0] (addf (mulf (broadcastInDim S16384x64x8 ![] bcast_S_S16384x64x8 (constant (F := Ideal) S_ .f32 0x40C00000#32)) (Host.reduceWindowAdd ![1, 1, 8] ![1, 1, 1] ![0, 0, 7] ![0, 0, 0] s (broadcastInDim S_ ![] bcast_S_S_ (constant (F := Ideal) S_ .f32 0x00000000#32)) reduceWindows_S16384x64x8_S16384x64x8_w1s1p0_0_w1s1p0_0_w8s1p7_0 h_S_)) (broadcastInDim S16384x64x8 ![] bcast_S_S16384x64x8 (constant (F := Ideal) S_ .f32 0xC0400000#32))) slices_S16384x64x8_S16384x64x7_0_0_0)⟩, ⟨S16384x64x1, (mulf (broadcastInDim S16384x64x1 ![] bcast_S_S16384x64x1 (constant (F := Ideal) S_ .f32 0x40400000#32)) (broadcastInDim S16384x64x1 ![] bcast_S_S16384x64x1 (constant (F := Ideal) S_ .f32 0x3F800000#32)))⟩] concatenates_S16384x64x1_S16384x64x7_S16384x64x1_S16384x64x9_d2

/-- The widths from the knots. -/
def rDiff (k : FVec Ideal S16384x64x9 .f32) : FVec Ideal S16384x64x8 .f32 :=
  subf (extractStridedSlice S16384x64x8 ![0, 0, 1] k slices_S16384x64x9_S16384x64x8_0_0_1) (extractStridedSlice S16384x64x8 ![0, 0, 0] k slices_S16384x64x9_S16384x64x8_0_0_0)

/-- The slopes at the knots from their logits. -/
def rSlope (d : FVec Ideal S16384x64x9 .f32) : FVec Ideal S16384x64x9 .f32 :=
  addf (broadcastInDim S16384x64x9 ![] bcast_S_S16384x64x9 (Host.divf (constant (F := Ideal) S_ .f32 0x3F800000#32) (constant (F := Ideal) S_ .f32 0x447A0000#32))) (select (cmpf .une (subf d (broadcastInDim S16384x64x9 ![] bcast_S_S16384x64x9 (constant (F := Ideal) S_ .f32 0x00000000#32))) (subf d (broadcastInDim S16384x64x9 ![] bcast_S_S16384x64x9 (constant (F := Ideal) S_ .f32 0x00000000#32)))) (addf d (broadcastInDim S16384x64x9 ![] bcast_S_S16384x64x9 (constant (F := Ideal) S_ .f32 0x00000000#32))) (addf (maximumf d (broadcastInDim S16384x64x9 ![] bcast_S_S16384x64x9 (constant (F := Ideal) S_ .f32 0x00000000#32))) (Host.log1p (Host.exp (Host.negf (Host.absf (subf d (broadcastInDim S16384x64x9 ![] bcast_S_S16384x64x9 (constant (F := Ideal) S_ .f32 0x00000000#32)))))))))

/-- The knots, the last one moved up a little. -/
def rEdge (k : FVec Ideal S16384x64x9 .f32) : FVec Ideal S16384x64x9 .f32 :=
  concatenate S16384x64x9 2 [⟨S16384x64x8, (extractStridedSlice S16384x64x8 ![0, 0, 0] k slices_S16384x64x9_S16384x64x8_0_0_0)⟩, ⟨S16384x64x1, (addf (extractStridedSlice S16384x64x1 ![0, 0, 8] k slices_S16384x64x9_S16384x64x1_0_0_8) (broadcastInDim S16384x64x1 ![] bcast_S_S16384x64x1 (constant (F := Ideal) S_ .f32 0x358637BD#32)))⟩] concatenates_S16384x64x8_S16384x64x1_S16384x64x9_d2

/-- How many of the knots are at most the input. -/
def rCount (k : FVec Ideal S16384x64x9 .f32) (x : FVec Ideal S16384x64 .f32) : IVec S16384x64 32 :=
  Host.reduce IntOp.addi (extui 32 (cmpf .oge (broadcastInDim S16384x64x9 ![0, 1, 2] bcast_S16384x64x1_S16384x64x9_0_1_2 (broadcastInDim S16384x64x1 ![0, 1] bcast_S16384x64_S16384x64x1_0_1 x)) k) natLt_1_32) (constantI S_ 32 0#32) reducesTo_S16384x64x9_S16384x64_d2 h_S_

/-- The bin from the count. -/
def rBin (c : IVec S16384x64 32) : IVec S16384x64x1 32 :=
  minsi (broadcastInDim S16384x64x1 ![] bcast_S_S16384x64x1 (id (constantI S_ 32 7#32))) (maxsi (broadcastInDim S16384x64x1 ![] bcast_S_S16384x64x1 (id (constantI S_ 32 0#32))) (broadcastInDim S16384x64x1 ![0, 1] bcast_S16384x64_S16384x64x1_0_1 (subi c (broadcastInDim S16384x64 ![] bcast_S_S16384x64 (constantI S_ 32 1#32)))))

/-- The entry of nine at the bin. -/
def rTake9 (k : FVec Ideal S16384x64x9 .f32) (i : IVec S16384x64x1 32) : FVec Ideal S16384x64 .f32 :=
  shapeCast S16384x64 (Host.gather gather_S16384x64x9_S16384x64x1x1_S16384x64x1_n_2_01_01_2_3_111 k (shapeCast S16384x64x1x1 (select (cmpi .slt i (broadcastInDim S16384x64x1 ![] bcast_S_S16384x64x1 (constantI S_ 32 0#32))) (addi i (broadcastInDim S16384x64x1 ![] bcast_S_S16384x64x1 (constantI S_ 32 9#32))) i) shapeCasts_S16384x64x1_S16384x64x1x1)) shapeCasts_S16384x64x1_S16384x64

/-- The entry of eight at the bin. -/
def rTake8 (k : FVec Ideal S16384x64x8 .f32) (i : IVec S16384x64x1 32) : FVec Ideal S16384x64 .f32 :=
  shapeCast S16384x64 (Host.gather gather_S16384x64x8_S16384x64x1x1_S16384x64x1_n_2_01_01_2_3_111 k (shapeCast S16384x64x1x1 (select (cmpi .slt i (broadcastInDim S16384x64x1 ![] bcast_S_S16384x64x1 (constantI S_ 32 0#32))) (addi i (broadcastInDim S16384x64x1 ![] bcast_S_S16384x64x1 (constantI S_ 32 8#32))) i) shapeCasts_S16384x64x1_S16384x64x1x1)) shapeCasts_S16384x64x1_S16384x64

/-- The mean slopes of the bins, heights over widths. -/
def rQuot (h : FVec Ideal S16384x64x8 .f32) (w : FVec Ideal S16384x64x8 .f32) : FVec Ideal S16384x64x8 .f32 :=
  Host.divf h w

/-- The slopes but the first. -/
def rNext (s : FVec Ideal S16384x64x9 .f32) : FVec Ideal S16384x64x8 .f32 :=
  extractStridedSlice S16384x64x8 ![0, 0, 1] s slices_S16384x64x9_S16384x64x8_0_0_1

/-- The relative position of the input in its bin. -/
def rTheta (x : FVec Ideal S16384x64 .f32) (a : FVec Ideal S16384x64 .f32) (w : FVec Ideal S16384x64 .f32) : FVec Ideal S16384x64 .f32 :=
  Host.divf (subf x a) w

/-- `θ (1 - θ)`. -/
def rTT (t : FVec Ideal S16384x64 .f32) : FVec Ideal S16384x64 .f32 :=
  mulf t (subf (broadcastInDim S16384x64 ![] bcast_S_S16384x64 (constant (F := Ideal) S_ .f32 0x3F800000#32)) t)

/-- The denominator of the piece. -/
def rDen (δ : FVec Ideal S16384x64 .f32) (s : FVec Ideal S16384x64 .f32) (z : FVec Ideal S16384x64 .f32) (p : FVec Ideal S16384x64 .f32) : FVec Ideal S16384x64 .f32 :=
  addf δ (mulf (subf (addf s z) (mulf (broadcastInDim S16384x64 ![] bcast_S_S16384x64 (constant (F := Ideal) S_ .f32 0x40000000#32)) δ)) p)

/-- The piece. -/
def rOut (b : FVec Ideal S16384x64 .f32) (g : FVec Ideal S16384x64 .f32) (δ : FVec Ideal S16384x64 .f32) (t : FVec Ideal S16384x64 .f32) (s : FVec Ideal S16384x64 .f32) (p : FVec Ideal S16384x64 .f32) (n : FVec Ideal S16384x64 .f32) : FVec Ideal S16384x64 .f32 :=
  addf b (Host.divf (mulf g (addf (mulf δ (mulf t t)) (mulf s p))) n)

/-- The logarithm of the slope of the piece. -/
def rLogd (δ : FVec Ideal S16384x64 .f32) (z : FVec Ideal S16384x64 .f32) (t : FVec Ideal S16384x64 .f32) (p : FVec Ideal S16384x64 .f32) (s : FVec Ideal S16384x64 .f32) (n : FVec Ideal S16384x64 .f32) : FVec Ideal S16384x64 .f32 :=
  subf (Host.log (mulf (mulf δ δ) (addf (addf (mulf z (mulf t t)) (mulf (mulf (broadcastInDim S16384x64 ![] bcast_S_S16384x64 (constant (F := Ideal) S_ .f32 0x40000000#32)) δ) p)) (mulf s (mulf (subf (broadcastInDim S16384x64 ![] bcast_S_S16384x64 (constant (F := Ideal) S_ .f32 0x3F800000#32)) t) (subf (broadcastInDim S16384x64 ![] bcast_S_S16384x64 (constant (F := Ideal) S_ .f32 0x3F800000#32)) t)))))) (mulf (broadcastInDim S16384x64 ![] bcast_S_S16384x64 (constant (F := Ideal) S_ .f32 0x40000000#32)) (Host.log n))

/-- The piece inside, the input outside. -/
def rSel (c : IVec S16384x64 1) (y : FVec Ideal S16384x64 .f32) (x : FVec Ideal S16384x64 .f32) : FVec Ideal S16384x64 .f32 :=
  select c y x

/-- The logarithm inside, zero outside. -/
def rSelLog (c : IVec S16384x64 1) (y : FVec Ideal S16384x64 .f32) : FVec Ideal S16384x64 .f32 :=
  select c y (broadcastInDim S16384x64 ![] bcast_S_S16384x64 (id (constant (F := Ideal) S_ .f32 0x00000000#32)))

/-- The sum over a row. -/
def rSum (y : FVec Ideal S16384x64 .f32) : FVec Ideal S16384 .f32 :=
  Host.reduceAdd y (constant (F := Ideal) S_ .f32 0x00000000#32) reducesTo_S16384x64_S16384_d1 h_S_

end Cert.Spline

end
-- ==== Proof.Consts.lean ====
/- The float words the two programs spell, as the extended reals they denote. -/
module

public import Idealize.ShloMosaic.PureOps.Ideal

@[expose] public section

noncomputable section

namespace Cert.Spline

open Idealize.ShloMosaic

/-- The slope logit given to the two outer knots, the real its float word denotes. -/
def endLogit : ℝ := 9055375 / 16777216

/-- The word of `-3.0` denotes the real `-3`. -/
theorem word_neg3 : Ideal.ofBits .f32 0xC0400000#32 = ((-3 : ℝ) : EReal) := by
  simp [Ideal.ofBits, Ideal.ieee, -EReal.coe_mul]; norm_num

/-- The word of `3.0` denotes the real `3`. -/
theorem word_3 : Ideal.ofBits .f32 0x40400000#32 = ((3 : ℝ) : EReal) := by
  simp [Ideal.ofBits, Ideal.ieee, -EReal.coe_mul]; norm_num

/-- The word of `2.0` denotes the real `2`. -/
theorem word_2 : Ideal.ofBits .f32 0x40000000#32 = ((2 : ℝ) : EReal) := by
  simp [Ideal.ofBits, Ideal.ieee, -EReal.coe_mul]; norm_num

/-- The word of `6.0` denotes the real `6`. -/
theorem word_6 : Ideal.ofBits .f32 0x40C00000#32 = ((6 : ℝ) : EReal) := by
  simp [Ideal.ofBits, Ideal.ieee, -EReal.coe_mul]; norm_num

/-- The word of `1.0` denotes the real `1`. -/
theorem word_1 : Ideal.ofBits .f32 0x3F800000#32 = ((1 : ℝ) : EReal) := by
  simp [Ideal.ofBits, Ideal.ieee, -EReal.coe_mul]; norm_num

/-- The zero word denotes the real `0`. -/
theorem word_0 : Ideal.ofBits .f32 0x00000000#32 = ((0 : ℝ) : EReal) := by
  simp [Ideal.ofBits, Ideal.ieee, -EReal.coe_mul]

/-- The outer slope logit's word denotes `endLogit`. -/
theorem word_end : Ideal.ofBits .f32 0x3F0A2C8F#32 = ((endLogit : ℝ) : EReal) := by
  simp [Ideal.ofBits, Ideal.ieee, endLogit, -EReal.coe_mul]; norm_num

/-- The word of `1e-6` denotes a positive real. -/
theorem word_eps : ∃ e : ℝ, 0 < e ∧ Ideal.ofBits .f32 0x358637BD#32 = ((e : ℝ) : EReal) := by
  refine ⟨8796093 / 8796093022208, by norm_num, ?_⟩
  simp [Ideal.ofBits, Ideal.ieee, -EReal.coe_mul]; norm_num

/-- The word of minus infinity denotes the least extended real. -/
theorem word_neginf : Ideal.ofBits .f32 0xFF800000#32 = (⊥ : EReal) := by
  simp [Ideal.ofBits, Ideal.ieee]

/-- The word of plus infinity denotes the greatest extended real. -/
theorem word_inf : Ideal.ofBits .f32 0x7F800000#32 = (⊤ : EReal) := by
  simp [Ideal.ofBits, Ideal.ieee]

end Cert.Spline

end
-- ==== Proof.Spline.lean ====
/- The real mathematics both programs are shown to compute: the knots of a rational-quadratic spline, the bin an input
   falls in, the spline and the logarithm of its slope, and the small network the logits come from. -/
module

public import proofs.«01_k».proof.Proof.Consts
public import Mathlib.Analysis.SpecialFunctions.Log.Basic
public import Mathlib.Algebra.BigOperators.Fin
public import Mathlib.Tactic.FieldSimp
public import Mathlib.Tactic.Linarith
public import Mathlib.Tactic.Positivity
public import Mathlib.Tactic.IntervalCases

@[expose] public section

noncomputable section

namespace Cert.Spline

open Finset

/-! ### Knots -/

/-- The sum of the exponentials of the first `k` logits. -/
def part (u : ℕ → ℝ) (k : ℕ) : ℝ := ∑ j ∈ range k, Real.exp (u j)

/-- Knot `k` of eight bins of `[-3, 3]`: every bin has width at least `6/1000`, and the rest of the interval is shared
    out by the softmax of the logits. -/
def knot (u : ℕ → ℝ) (k : ℕ) : ℝ := -3 + (6 * (k : ℝ) / 1000 + 744 / 125 * (part u k / part u 8))

/-- The whole sum of exponentials is positive. -/
theorem part_pos (u : ℕ → ℝ) : 0 < part u 8 := by
  unfold part
  exact Finset.sum_pos (fun j _ => Real.exp_pos _) ⟨0, by simp⟩

/-- The first knot is the left end. -/
theorem knot_zero (u : ℕ → ℝ) : knot u 0 = -3 := by simp [knot, part]

/-- The last knot is the right end. -/
theorem knot_eight (u : ℕ → ℝ) : knot u 8 = 3 := by
  unfold knot
  rw [div_self (part_pos u).ne']
  norm_num

/-- Each knot is below the next. -/
theorem knot_lt_succ (u : ℕ → ℝ) (k : ℕ) : knot u k < knot u (k + 1) := by
  have h8 := part_pos u
  have h : part u k ≤ part u (k + 1) := by
    unfold part; rw [sum_range_succ]; have := Real.exp_pos (u k); linarith
  have h' : part u k / part u 8 ≤ part u (k + 1) / part u 8 := div_le_div_of_nonneg_right h h8.le
  unfold knot
  push_cast
  linarith

/-- The knots increase. -/
theorem knot_mono (u : ℕ → ℝ) : StrictMono (knot u) := strictMono_nat_of_lt_succ (knot_lt_succ u)

/-- Taking a common number off every logit divides every partial sum by one number. -/
theorem part_shift (u : ℕ → ℝ) (m : ℝ) (k : ℕ) :
    ∑ j ∈ range k, Real.exp (u j - m) = part u k * Real.exp (-m) := by
  unfold part
  rw [sum_mul]
  exact sum_congr rfl fun j _ => by rw [← Real.exp_add]; ring_nf

/-- The knots from shifted exponentials, the scale divided once: the unnormalised form. -/
theorem knot_of_scaled (u : ℕ → ℝ) (m : ℝ) (k : ℕ) :
    -3 + (6 * (k : ℝ) / 1000 + 744 / 125 * (1 / ∑ j ∈ range 8, Real.exp (u j - m)) * ∑ j ∈ range k, Real.exp (u j - m))
      = knot u k := by
  rw [part_shift, part_shift]
  have h := part_pos u
  have h' := Real.exp_pos (-m)
  unfold knot
  field_simp

/-- The knots from a softmax whose terms are given their least size one by one and then summed. -/
theorem knot_of_softmax (u : ℕ → ℝ) (m : ℝ) (k : ℕ) :
    6 * (∑ j ∈ range k, (1 / 1000 + 124 / 125 * (Real.exp (u j - m) * (1 / ∑ i ∈ range 8, Real.exp (u i - m))))) + -3
      = knot u k := by
  rw [sum_add_distrib, ← mul_sum, ← sum_mul, part_shift, part_shift]
  have h := part_pos u
  have h' := Real.exp_pos (-m)
  unfold knot
  simp only [sum_const, card_range, nsmul_eq_mul]
  field_simp
  ring

/-! ### The bin of an input -/

/-- The bin `x` falls in: how many of the seven inner knots are at most `x`. -/
def bin (t : ℕ → ℝ) (x : ℝ) : ℕ := ((range 7).filter fun k => t (k + 1) ≤ x).card

/-- There are eight bins. -/
theorem bin_le (t : ℕ → ℝ) (x : ℝ) : bin t x ≤ 7 := by
  unfold bin
  exact (card_filter_le _ _).trans (by simp)

/-- The inner knots at most `x` are the first `bin t x` of them. -/
theorem le_bin_iff {t : ℕ → ℝ} (ht : StrictMono t) (x : ℝ) {k : ℕ} (hk : k < 7) : t (k + 1) ≤ x ↔ k + 1 ≤ bin t x := by
  constructor
  · intro h
    have : range (k + 1) ⊆ (range 7).filter fun j => t (j + 1) ≤ x := by
      intro j hj
      rw [mem_range] at hj
      exact mem_filter.2 ⟨mem_range.2 (by omega), (ht.monotone (by omega)).trans h⟩
    simpa [bin] using card_le_card this
  · intro h
    by_contra hx
    have : ((range 7).filter fun j => t (j + 1) ≤ x) ⊆ range k := by
      intro j hj
      rw [mem_filter] at hj
      rw [mem_range]
      by_contra hjk
      exact hx ((ht.monotone (by omega)).trans hj.2)
    have := card_le_card this
    rw [card_range] at this
    unfold bin at h
    omega

/-- The last of `v 0, …, v n` whose knot is at most `x`, taken by overwriting from the left. -/
def chain {α : Type} (t : ℕ → ℝ) (x : ℝ) (v : ℕ → α) : ℕ → α
  | 0 => v 0
  | n + 1 => if t (n + 1) ≤ x then v (n + 1) else chain t x v n

/-- Overwriting from the left ends at the bin. -/
theorem chain_eq {α : Type} {t : ℕ → ℝ} (ht : StrictMono t) (x : ℝ) (v : ℕ → α) : chain t x v 7 = v (bin t x) := by
  have key : ∀ n ≤ 7, chain t x v n = v (min n (bin t x)) := by
    intro n
    induction n with
    | zero => intro _; simp [chain]
    | succ n ih =>
      intro hn
      unfold chain
      rw [ih (by omega)]
      have := le_bin_iff ht x (k := n) (by omega)
      by_cases h : t (n + 1) ≤ x
      · rw [if_pos h, min_eq_left (this.1 h)]
      · rw [if_neg h]
        have : ¬ n + 1 ≤ bin t x := fun h' => h (this.2 h')
        congr 1
        omega
  rw [key 7 le_rfl, min_eq_right (bin_le t x)]

/-- An input inside the interval is between the two knots of its bin. -/
theorem bin_bounds (u : ℕ → ℝ) {x : ℝ} (h0 : -3 ≤ x) (h1 : x ≤ 3) :
    knot u (bin (knot u) x) ≤ x ∧ x ≤ knot u (bin (knot u) x + 1) := by
  have hb := bin_le (knot u) x
  constructor
  · rcases Nat.eq_zero_or_pos (bin (knot u) x) with h | h
    · rw [h, knot_zero]; exact h0
    · obtain ⟨k, hk⟩ : ∃ k, bin (knot u) x = k + 1 := ⟨bin (knot u) x - 1, by omega⟩
      rw [hk]
      exact (le_bin_iff (knot_mono u) x (by omega)).2 (by omega)
  · rcases Nat.lt_or_ge (bin (knot u) x) 7 with h | h
    · by_contra hx
      have := (le_bin_iff (knot_mono u) x h).1 (le_of_not_ge hx)
      omega
    · have : bin (knot u) x = 7 := by omega
      rw [this, show (7 : ℕ) + 1 = 8 from rfl, knot_eight]
      exact h1

/-! ### The spline on one bin -/

/-- `log (1 + exp x)`, written without overflow. -/
def softplus (x : ℝ) : ℝ := max x 0 + Real.log (1 + Real.exp (-|x|))

/-- The softplus is not negative. -/
theorem softplus_nonneg (x : ℝ) : 0 ≤ softplus x := by
  unfold softplus
  have := Real.exp_pos (-|x|)
  exact add_nonneg (le_max_right _ _) (Real.log_nonneg (by linarith))

/-- The slope logit at knot `k`: the two outer knots have a fixed one. -/
def slopeLogit (d : ℕ → ℝ) (k : ℕ) : ℝ := if k = 0 ∨ k = 8 then endLogit else d (k - 1)

/-- The slope at knot `k`. -/
def slope (d : ℕ → ℝ) (k : ℕ) : ℝ := 1 / 1000 + softplus (slopeLogit d k)

/-- Slopes are positive. -/
theorem slope_pos (d : ℕ → ℝ) (k : ℕ) : 0 < slope d k := by
  have := softplus_nonneg (slopeLogit d k)
  unfold slope
  linarith

/-- The denominator of the rational-quadratic piece at relative position `θ`, mean slope `δ`, end slopes `s`, `s'`. -/
def den (δ s s' θ : ℝ) : ℝ := δ + (s + s' - 2 * δ) * (θ * (1 - θ))

/-- The numerator of the piece's derivative. -/
def dnum (δ s s' θ : ℝ) : ℝ := δ ^ 2 * (s' * θ ^ 2 + 2 * δ * (θ * (1 - θ)) + s * (1 - θ) ^ 2)

/-- The rational-quadratic piece over a bin from `a` to `a'` that rises from `b` to `b'`. -/
def rq (x a a' b b' s s' : ℝ) : ℝ :=
  b + (b' - b) * ((b' - b) / (a' - a) * ((x - a) / (a' - a)) ^ 2 + s * ((x - a) / (a' - a) * (1 - (x - a) / (a' - a))))
    / den ((b' - b) / (a' - a)) s s' ((x - a) / (a' - a))

/-- The logarithm of the piece's slope. -/
def rqLog (x a a' b b' s s' : ℝ) : ℝ :=
  Real.log (dnum ((b' - b) / (a' - a)) s s' ((x - a) / (a' - a)))
    - 2 * Real.log (den ((b' - b) / (a' - a)) s s' ((x - a) / (a' - a)))

/-- The denominator is positive. -/
theorem den_pos {δ s s' θ : ℝ} (hδ : 0 < δ) (hs : 0 < s) (hs' : 0 < s') (h0 : 0 ≤ θ) (h1 : θ ≤ 1) : 0 < den δ s s' θ := by
  unfold den
  have ht : 0 ≤ θ * (1 - θ) := mul_nonneg h0 (by linarith)
  have ht' : θ * (1 - θ) ≤ 1 / 4 := by nlinarith [sq_nonneg (θ - 1 / 2)]
  have e : δ + (s + s' - 2 * δ) * (θ * (1 - θ)) = δ * (1 - 2 * (θ * (1 - θ))) + (s + s') * (θ * (1 - θ)) := by ring
  rw [e]
  have : 0 < δ * (1 - 2 * (θ * (1 - θ))) := mul_pos hδ (by linarith)
  have : 0 ≤ (s + s') * (θ * (1 - θ)) := mul_nonneg (by linarith) ht
  linarith

/-- The derivative's numerator is positive. -/
theorem dnum_pos {δ s s' θ : ℝ} (hδ : 0 < δ) (hs : 0 < s) (hs' : 0 < s') (h0 : 0 ≤ θ) (h1 : θ ≤ 1) : 0 < dnum δ s s' θ := by
  unfold dnum
  have ht : 0 ≤ 2 * δ * (θ * (1 - θ)) := mul_nonneg (by linarith) (mul_nonneg h0 (by linarith))
  have ha : 0 ≤ s' * θ ^ 2 := by positivity
  have hb : 0 ≤ s * (1 - θ) ^ 2 := by positivity
  refine mul_pos (by positivity) ?_
  rcases eq_or_lt_of_le h0 with h | h
  · have : 0 < s * (1 - θ) ^ 2 := by rw [← h]; simpa using hs
    linarith
  · have : 0 < s' * θ ^ 2 := by positivity
    linarith

/-- The relative position is between 0 and 1. -/
theorem pos_bounds {x a a' : ℝ} (ha : a < a') (h0 : a ≤ x) (h1 : x ≤ a') : 0 ≤ (x - a) / (a' - a) ∧ (x - a) / (a' - a) ≤ 1 := by
  have : 0 < a' - a := by linarith
  exact ⟨div_nonneg (by linarith) this.le, (div_le_one this).2 (by linarith)⟩

/-! ### The spline -/

/-- The spline with the identity outside `[-3, 3]`. -/
def spl (w h d : ℕ → ℝ) (x : ℝ) : ℝ :=
  if -3 ≤ x ∧ x ≤ 3 then
    rq x (knot w (bin (knot w) x)) (knot w (bin (knot w) x + 1)) (knot h (bin (knot w) x)) (knot h (bin (knot w) x + 1))
      (slope d (bin (knot w) x)) (slope d (bin (knot w) x + 1))
  else x

/-- The logarithm of the spline's slope, 0 outside `[-3, 3]`. -/
def splLog (w h d : ℕ → ℝ) (x : ℝ) : ℝ :=
  if -3 ≤ x ∧ x ≤ 3 then
    rqLog x (knot w (bin (knot w) x)) (knot w (bin (knot w) x + 1)) (knot h (bin (knot w) x)) (knot h (bin (knot w) x + 1))
      (slope d (bin (knot w) x)) (slope d (bin (knot w) x + 1))
  else 0

/-! ### The network -/

/-- `h · 1/(1 + exp (-h))`. -/
def silu (h : ℝ) : ℝ := h * (1 + Real.exp (-h))⁻¹

/-- The weights of a network: two hidden layers of 256 and an output layer of 1472. -/
structure Net where
  w1 : Fin 64 → Fin 256 → ℝ
  b1 : Fin 256 → ℝ
  w2 : Fin 256 → Fin 256 → ℝ
  b2 : Fin 256 → ℝ
  w3 : Fin 256 → Fin 1472 → ℝ
  b3 : Fin 1472 → ℝ

/-- The first hidden layer. -/
def Net.hid1 (f : Net) (v : Fin 64 → ℝ) (q : Fin 256) : ℝ := silu (∑ p, v p * f.w1 p q + f.b1 q)

/-- The second hidden layer. -/
def Net.hid2 (f : Net) (v : Fin 64 → ℝ) (q : Fin 256) : ℝ := silu (∑ p, f.hid1 v p * f.w2 p q + f.b2 q)

/-- The output layer. -/
def Net.out (f : Net) (v : Fin 64 → ℝ) (q : Fin 1472) : ℝ := ∑ p, f.hid2 v p * f.w3 p q + f.b3 q

/-- Output `c` of the 23 of coordinate `j`, as a function of a natural number. -/
def Net.logit (f : Net) (v : Fin 64 → ℝ) (j : Fin 64) (c : ℕ) : ℝ :=
  if h : c < 23 then f.out v ⟨j.val * 23 + c, by have := j.isLt; omega⟩ else 0

/-- The spline a network's outputs give at coordinate `j`: eight width logits, eight height logits, seven slope logits. -/
def Net.map (f : Net) (v : Fin 64 → ℝ) (j : Fin 64) (x : ℝ) : ℝ :=
  spl (f.logit v j) (fun k => f.logit v j (8 + k)) (fun k => f.logit v j (16 + k)) x

/-- The logarithm of that spline's slope. -/
def Net.mapLog (f : Net) (v : Fin 64 → ℝ) (j : Fin 64) (x : ℝ) : ℝ :=
  splLog (f.logit v j) (fun k => f.logit v j (8 + k)) (fun k => f.logit v j (16 + k)) x

/-! ### The layer -/

/-- The upper half of a row, mapped by the spline the lower half gives. -/
def upper (f : Net) (lo up : Fin 64 → ℝ) (j : Fin 64) : ℝ := f.map lo j (up j)

/-- The lower half of a row, mapped by the spline the mapped upper half gives. -/
def lower (f g : Net) (lo up : Fin 64 → ℝ) (j : Fin 64) : ℝ := g.map (upper f lo up) j (lo j)

/-- The row's logarithm of the determinant. -/
def logDet (f g : Net) (lo up : Fin 64 → ℝ) : ℝ :=
  (∑ j, f.mapLog lo j (up j)) + ∑ j, g.mapLog (upper f lo up) j (lo j)

end Cert.Spline

end
-- ==== Proof.Scalar.lean ====
/- One element of the kernel's spline, as a function of extended reals in the kernel's order of operations, and its value
   when the logits and the input are real: the spline of `Proof.Spline`. -/
module

public import proofs.«01_k».proof.Proof.Spline
public import Idealize.ShloMosaic.Lib.Pointwise.Select

@[expose] public section

noncomputable section

namespace Cert.Spline

open Idealize.ShloMosaic Finset

/-- Eight values as a function of a natural number. -/
def lg8 {α : Type} (a0 a1 a2 a3 a4 a5 a6 a7 : α) : ℕ → α
  | 0 => a0 | 1 => a1 | 2 => a2 | 3 => a3 | 4 => a4 | 5 => a5 | 6 => a6 | _ => a7

/-- The largest of eight values, taken from the left. -/
def kMax (a : ℕ → EReal) : EReal :=
  max (max (max (max (max (max (max (a 0) (a 1)) (a 2)) (a 3)) (a 4)) (a 5)) (a 6)) (a 7)

/-- The running sum of the exponentials of the values less the largest. -/
def kCum (a : ℕ → EReal) : ℕ → EReal
  | 0 => Ideal.exp (a 0 - kMax a)
  | n + 1 => kCum a n + Ideal.exp (a (n + 1) - kMax a)

/-- The free length `f` over the whole sum. -/
def kScale (f : EReal) (a : ℕ → EReal) : EReal := Ideal.div f (kCum a 7)

/-- Knot `n + 1` from the free length `f`, the share `e` of the least widths and the running sum. -/
def kKnot (f : EReal) (a : ℕ → EReal) (e : EReal) (n : ℕ) : EReal :=
  Ideal.ofBits .f32 0xC0400000#32 + (e + kScale f a * kCum a n)

/-- Overwriting from the left under seven masks. -/
def kChain (b : ℕ → BitVec 1) (v : ℕ → EReal) : ℕ → EReal
  | 0 => v 0
  | n + 1 => Scalar.select (b n) (v (n + 1)) (kChain b v n)

/-- The slope from its logit and the least slope `f`. -/
def kSlope (f z : EReal) : EReal :=
  f +
    Scalar.select (Ideal.cmp .one (z - Ideal.ofBits .f32 0x00000000#32) (z - Ideal.ofBits .f32 0x00000000#32))
      (z + Ideal.ofBits .f32 0x00000000#32)
      (max z (Ideal.ofBits .f32 0x00000000#32) +
        Ideal.log1p (Ideal.exp (Ideal.ofBits .f32 0x00000000#32 -
          max (z - Ideal.ofBits .f32 0x00000000#32) (-(z - Ideal.ofBits .f32 0x00000000#32)))))

/-- One over the bin's width. -/
def kInv (c c' : EReal) : EReal := Ideal.div (Ideal.ofBits .f32 0x3F800000#32) (c' - c)

/-- The bin's mean slope. -/
def kDelta (c c' h h' : EReal) : EReal := (h' - h) * kInv c c'

/-- The relative position in the bin. -/
def kTheta (x c c' : EReal) : EReal := (x - c) * kInv c c'

/-- Position times one less position. -/
def kTT (x c c' : EReal) : EReal := kTheta x c c' * (Ideal.ofBits .f32 0x3F800000#32 - kTheta x c c')

/-- One over the denominator. -/
def kRden (x c c' h h' s s' : EReal) : EReal :=
  Ideal.div (Ideal.ofBits .f32 0x3F800000#32)
    (kDelta c c' h h' + ((s + s') - Ideal.ofBits .f32 0x40000000#32 * kDelta c c' h h') * kTT x c c')

/-- Whether the input is inside the interval. -/
def kIn (x : EReal) : BitVec 1 :=
  Ideal.cmp .oge x (Ideal.ofBits .f32 0xC0400000#32) &&& Ideal.cmp .ole x (Ideal.ofBits .f32 0x40400000#32)

/-- The mapped input. -/
def kOut (x c c' h h' s s' : EReal) : EReal :=
  Scalar.select (kIn x)
    (h + (h' - h) * (kDelta c c' h h' * (kTheta x c c' * kTheta x c c') + s * kTT x c c') * kRden x c c' h h' s s') x

/-- The logarithm of the slope at the input. -/
def kLog (x c c' h h' s s' : EReal) : EReal :=
  Scalar.select (kIn x)
    (Ideal.log (kDelta c c' h h' * kDelta c c' h h' *
      (s' * (kTheta x c c' * kTheta x c c') + Ideal.ofBits .f32 0x40000000#32 * kDelta c c' h h' * kTT x c c'
        + s * (Ideal.ofBits .f32 0x3F800000#32 - kTheta x c c') * (Ideal.ofBits .f32 0x3F800000#32 - kTheta x c c'))
      * kRden x c c' h h' s s' * kRden x c c' h h' s s'))
    (Ideal.ofBits .f32 0x00000000#32)

/-! ### Real values -/

/-- The largest of eight reals. -/
def rMax (u : ℕ → ℝ) : ℝ := max (max (max (max (max (max (max (u 0) (u 1)) (u 2)) (u 3)) (u 4)) (u 5)) (u 6)) (u 7)

/-- The maximum of two reals is the same in the extended reals. -/
theorem coe_max' (a b : ℝ) : max (a : EReal) (b : EReal) = ((max a b : ℝ) : EReal) :=
  (EReal.coe_strictMono.monotone.map_max).symm

/-- A quotient of reals with a divisor other than zero. -/
theorem div_real {y : ℝ} (h : y ≠ 0) (x : ℝ) : Ideal.div (x : EReal) (y : EReal) = ((x / y : ℝ) : EReal) := by
  rw [Ideal.div_coe h, ← EReal.coe_mul, mul_one_div]

/-- The kernel's largest logit is real. -/
theorem kMax_coe {a : ℕ → EReal} {u : ℕ → ℝ} (ha : ∀ k < 8, a k = (u k : EReal)) : kMax a = (rMax u : EReal) := by
  unfold kMax rMax
  rw [ha 0 (by omega), ha 1 (by omega), ha 2 (by omega), ha 3 (by omega), ha 4 (by omega), ha 5 (by omega),
    ha 6 (by omega), ha 7 (by omega)]
  simp only [coe_max']

/-- The kernel's running sums are real. -/
theorem kCum_coe {a : ℕ → EReal} {u : ℕ → ℝ} (ha : ∀ k < 8, a k = (u k : EReal)) {n : ℕ} (hn : n < 8) :
    kCum a n = ((∑ j ∈ range (n + 1), Real.exp (u j - rMax u) : ℝ) : EReal) := by
  induction n with
  | zero => rw [kCum, ha 0 (by omega), kMax_coe ha, ← EReal.coe_sub, Ideal.exp_coe]; simp
  | succ n ih =>
    rw [kCum, ih (by omega), ha _ hn, kMax_coe ha, ← EReal.coe_sub, Ideal.exp_coe, ← EReal.coe_add,
      ← sum_range_succ (fun j => Real.exp (u j - rMax u)) (n + 1)]

/-- The kernel's knots are the spline's. -/
theorem kKnot_coe {a : ℕ → EReal} {u : ℕ → ℝ} (ha : ∀ k < 8, a k = (u k : EReal)) {n : ℕ} (hn : n < 8) {e : ℝ}
    (he : e = 6 * ((n + 1 : ℕ) : ℝ) / 1000) : kKnot ((744 / 125 : ℝ) : EReal) a (e : EReal) n = (knot u (n + 1) : EReal) := by
  have hp : (∑ j ∈ range (7 + 1), Real.exp (u j - rMax u)) ≠ 0 :=
    (sum_pos (fun j _ => Real.exp_pos _) ⟨0, by simp⟩).ne'
  unfold kKnot kScale
  rw [kCum_coe ha hn, kCum_coe ha (n := 7) (by omega), word_neg3, div_real hp, ← EReal.coe_mul, ← EReal.coe_add,
    ← EReal.coe_add, ← knot_of_scaled u (rMax u) (n + 1), he]
  congr 1
  ring

/-- Overwriting under the masks of an increasing row of knots ends at the bin. -/
theorem kChain_coe {b : ℕ → BitVec 1} {v : ℕ → EReal} {t : ℕ → ℝ} {x : ℝ} {w : ℕ → ℝ} (ht : StrictMono t)
    (hb : ∀ k < 7, b k = Ideal.cmp .oge (x : EReal) (t (k + 1) : EReal)) (hv : ∀ k < 8, v k = (w k : EReal)) :
    kChain b v 7 = (w (bin t x) : EReal) := by
  have hc : w (bin t x) = chain t x w 7 := (chain_eq ht x w).symm
  rw [hc]
  have key : ∀ n ≤ 7, kChain b v n = ((chain t x w n : ℝ) : EReal) := by
    intro n
    induction n with
    | zero => intro _; exact hv 0 (by omega)
    | succ n ih =>
      intro hn
      rw [kChain, chain, ih (by omega), hb n (by omega), hv _ (by omega)]
      unfold Scalar.select
      simp only [Ideal.cmp_oge_eq_one, EReal.coe_le_coe_iff]
      split <;> rfl
  exact key 7 le_rfl

/-- The kernel's slope is the spline's. -/
theorem kSlope_coe (z : ℝ) : kSlope ((1 / 1000 : ℝ) : EReal) (z : EReal) = ((1 / 1000 + softplus z : ℝ) : EReal) := by
  unfold kSlope softplus
  rw [word_0]
  have h1 : ¬ Ideal.cmp .one ((z : EReal) - ((0 : ℝ) : EReal)) ((z : EReal) - ((0 : ℝ) : EReal)) = 1 := by
    rw [Ideal.cmp_one_eq_one]; simp
  unfold Scalar.select
  rw [if_neg h1, ← EReal.coe_sub, ← EReal.coe_neg, coe_max', coe_max', ← EReal.coe_sub, Ideal.exp_coe]
  have e : (0 : ℝ) - max (z - 0) (-(z - 0)) = -|z| := by rw [sub_zero, zero_sub]; rfl
  rw [e]
  unfold Ideal.log1p
  have hp : ¬ (1 + Real.exp (-|z|) ≤ 0) := by have := Real.exp_pos (-|z|); linarith
  rw [← EReal.coe_one, ← EReal.coe_add, Ideal.log_coe, if_neg hp, ← EReal.coe_add, ← EReal.coe_add]

/-- The kernel's test for the interval. -/
theorem kIn_coe (x : ℝ) : kIn (x : EReal) = 1 ↔ -3 ≤ x ∧ x ≤ 3 := by
  unfold kIn
  rw [word_neg3, word_3, Ideal.cmp_oge, Ideal.cmp_ole]
  simp only [EReal.coe_le_coe_iff]
  by_cases h0 : -3 ≤ x <;> by_cases h1 : x ≤ 3 <;> simp [h0, h1]

section Piece
variable {x a a' b b' s s' : ℝ} (ha : a < a') (hb : b < b') (hs : 0 < s) (hs' : 0 < s') (h0 : a ≤ x) (h1 : x ≤ a')

include ha in
/-- One over the width. -/
theorem kInv_coe : kInv (a : EReal) (a' : EReal) = ((1 / (a' - a) : ℝ) : EReal) := by
  unfold kInv
  rw [word_1, ← EReal.coe_sub, div_real (by linarith)]

include ha in
/-- The mean slope. -/
theorem kDelta_coe : kDelta (a : EReal) (a' : EReal) (b : EReal) (b' : EReal) = (((b' - b) / (a' - a) : ℝ) : EReal) := by
  unfold kDelta
  rw [kInv_coe ha, ← EReal.coe_sub, ← EReal.coe_mul, mul_one_div]

include ha in
/-- The relative position. -/
theorem kTheta_coe : kTheta (x : EReal) (a : EReal) (a' : EReal) = (((x - a) / (a' - a) : ℝ) : EReal) := by
  unfold kTheta
  rw [kInv_coe ha, ← EReal.coe_sub, ← EReal.coe_mul, mul_one_div]

include ha in
/-- Position times one less position. -/
theorem kTT_coe : kTT (x : EReal) (a : EReal) (a' : EReal)
    = (((x - a) / (a' - a) * (1 - (x - a) / (a' - a)) : ℝ) : EReal) := by
  unfold kTT
  rw [kTheta_coe ha, word_1, ← EReal.coe_sub, ← EReal.coe_mul]

include ha hb hs hs' h0 h1 in
/-- One over the denominator. -/
theorem kRden_coe : kRden (x : EReal) (a : EReal) (a' : EReal) (b : EReal) (b' : EReal) (s : EReal) (s' : EReal)
    = ((1 / den ((b' - b) / (a' - a)) s s' ((x - a) / (a' - a)) : ℝ) : EReal) := by
  have hp := pos_bounds ha h0 h1
  have hδ : 0 < (b' - b) / (a' - a) := div_pos (by linarith) (by linarith)
  have hd := den_pos hδ hs hs' hp.1 hp.2
  unfold kRden
  rw [kDelta_coe ha, kTT_coe ha, word_1, word_2]
  simp only [← EReal.coe_sub, ← EReal.coe_add, ← EReal.coe_mul]
  exact div_real hd.ne' 1

include ha hb hs hs' h0 h1 in
/-- The mapped input of a bin. -/
theorem kPiece_coe :
    (b : EReal) + ((b' : EReal) - b) * (kDelta a a' b b' * (kTheta x a a' * kTheta x a a') + s * kTT x a a') * kRden x a a' b b' s s'
      = (rq x a a' b b' s s' : EReal) := by
  rw [kRden_coe ha hb hs hs' h0 h1, kDelta_coe ha, kTT_coe ha, kTheta_coe ha]
  simp only [← EReal.coe_sub, ← EReal.coe_add, ← EReal.coe_mul]
  congr 1
  unfold rq
  rw [mul_one_div, pow_two]

include ha hb hs hs' h0 h1 in
/-- The logarithm of a bin's slope. -/
theorem kPieceLog_coe :
    Ideal.log (kDelta a a' b b' * kDelta a a' b b' *
      (s' * (kTheta x a a' * kTheta x a a') + Ideal.ofBits .f32 0x40000000#32 * kDelta a a' b b' * kTT x a a'
        + s * (Ideal.ofBits .f32 0x3F800000#32 - kTheta x a a') * (Ideal.ofBits .f32 0x3F800000#32 - kTheta x a a'))
      * kRden x a a' b b' s s' * kRden x a a' b b' s s')
      = (rqLog x a a' b b' s s' : EReal) := by
  have hp := pos_bounds ha h0 h1
  have hδ : 0 < (b' - b) / (a' - a) := div_pos (by linarith) (by linarith)
  have hd := den_pos hδ hs hs' hp.1 hp.2
  have hn := dnum_pos hδ hs hs' hp.1 hp.2
  rw [kRden_coe ha hb hs hs' h0 h1, kDelta_coe ha, kTT_coe ha, kTheta_coe ha, word_1, word_2]
  simp only [← EReal.coe_sub, ← EReal.coe_add, ← EReal.coe_mul]
  generalize hθ : (x - a) / (a' - a) = θ at *
  generalize hδ' : (b' - b) / (a' - a) = δ at *
  have e : δ * δ * (s' * (θ * θ) + 2 * δ * (θ * (1 - θ)) + s * (1 - θ) * (1 - θ)) * (1 / den δ s s' θ) * (1 / den δ s s' θ)
      = dnum δ s s' θ / (den δ s s' θ * den δ s s' θ) := by unfold dnum; field_simp
  rw [e, Ideal.log_coe, if_neg (not_le.2 (div_pos hn (mul_pos hd hd))), Real.log_div hn.ne' (mul_pos hd hd).ne',
    Real.log_mul hd.ne' hd.ne']
  congr 1
  unfold rqLog
  rw [hθ, hδ']
  ring
end Piece

/-- The kernel's mapped input at the bin of the input is the spline. -/
theorem kOut_coe (w h d : ℕ → ℝ) (x : ℝ) :
    kOut (x : EReal) (knot w (bin (knot w) x) : EReal) (knot w (bin (knot w) x + 1) : EReal)
      (knot h (bin (knot w) x) : EReal) (knot h (bin (knot w) x + 1) : EReal)
      (slope d (bin (knot w) x) : EReal) (slope d (bin (knot w) x + 1) : EReal) = (spl w h d x : EReal) := by
  unfold kOut spl Scalar.select
  simp only [kIn_coe]
  split
  · next hx =>
    obtain ⟨l, r⟩ := bin_bounds w hx.1 hx.2
    exact kPiece_coe (knot_lt_succ w _) (knot_lt_succ h _) (slope_pos d _) (slope_pos d _) l r
  · rfl

/-- The kernel's logarithm of the slope at the bin of the input is the spline's. -/
theorem kLog_coe (w h d : ℕ → ℝ) (x : ℝ) :
    kLog (x : EReal) (knot w (bin (knot w) x) : EReal) (knot w (bin (knot w) x + 1) : EReal)
      (knot h (bin (knot w) x) : EReal) (knot h (bin (knot w) x + 1) : EReal)
      (slope d (bin (knot w) x) : EReal) (slope d (bin (knot w) x + 1) : EReal) = (splLog w h d x : EReal) := by
  unfold kLog splLog Scalar.select
  simp only [kIn_coe]
  split
  · next hx =>
    obtain ⟨l, r⟩ := bin_bounds w hx.1 hx.2
    exact kPieceLog_coe (knot_lt_succ w _) (knot_lt_succ h _) (slope_pos d _) (slope_pos d _) l r
  · exact word_0

end Cert.Spline

end
-- ==== Proof.Pay.lean ====
/- Payloads of the kernel body at one index, as scalar functions of the values they read, and their real values. -/
module

public import proofs.«01_k».proof.Proof.Scalar
public import proofs.«01_k».proof.Proof.Gen.KernelIdeal.Skeleton

@[expose] public section

set_option maxRecDepth 16384

noncomputable section

namespace Cert.KernelIdeal.Gen

open Idealize.ShloMosaic Cert.Spline

variable {i : S64x2048.Idx}

/-- The named free length. -/
theorem named_span : Named.named (F := Ideal) (φ := .f32) κ "span" 0x40BE76C9#32 = ((744 / 125 : ℝ) : EReal) := rfl

/-- The named least slope. -/
theorem named_min : Named.named (F := Ideal) (φ := .f32) κ "min_size" 0x3A83126F#32 = ((1 / 1000 : ℝ) : EReal) := rfl

/-- The named share 1 of the least widths. -/
theorem named_edge1 : Named.named (F := Ideal) (φ := .f32) κ "edge1" 0x3BC49BA6#32 = ((3/500 : ℝ) : EReal) := rfl

/-- The named share 2 of the least widths. -/
theorem named_edge2 : Named.named (F := Ideal) (φ := .f32) κ "edge2" 0x3C449BA6#32 = ((3/250 : ℝ) : EReal) := rfl

/-- The named share 3 of the least widths. -/
theorem named_edge3 : Named.named (F := Ideal) (φ := .f32) κ "edge3" 0x3C9374BC#32 = ((9/500 : ℝ) : EReal) := rfl

/-- The named share 4 of the least widths. -/
theorem named_edge4 : Named.named (F := Ideal) (φ := .f32) κ "edge4" 0x3CC49BA6#32 = ((3/125 : ℝ) : EReal) := rfl

/-- The named share 5 of the least widths. -/
theorem named_edge5 : Named.named (F := Ideal) (φ := .f32) κ "edge5" 0x3CF5C28F#32 = ((3/100 : ℝ) : EReal) := rfl

/-- The named share 6 of the least widths. -/
theorem named_edge6 : Named.named (F := Ideal) (φ := .f32) κ "edge6" 0x3D1374BC#32 = ((9/250 : ℝ) : EReal) := rfl

/-- The named share 7 of the least widths. -/
theorem named_edge7 : Named.named (F := Ideal) (φ := .f32) κ "edge7" 0x3D2C0831#32 = ((21/500 : ℝ) : EReal) := rfl

/-- Knot 1 of family `w1`. -/
theorem knot_w1_1 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay25 v32 v33 v34 v35 v36 v37 v38 v39 (maximumf (maximumf v32 v33) v34) i = (knot u 1 : EReal) := by
  have e : k0_pay25 v32 v33 v34 v35 v36 v37 v38 v39 (maximumf (maximumf v32 v33) v34) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge1" 0x3BC49BA6#32) 0 := rfl
  rw [e, named_span, named_edge1]
  exact kKnot_coe hu (by omega) (by norm_num)

/-- Knot 2 of family `w1`. -/
theorem knot_w1_2 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay26 v32 v33 v34 v35 v36 v37 v38 v39 (maximumf (maximumf v32 v33) v34) i = (knot u 2 : EReal) := by
  have e : k0_pay26 v32 v33 v34 v35 v36 v37 v38 v39 (maximumf (maximumf v32 v33) v34) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge2" 0x3C449BA6#32) 1 := rfl
  rw [e, named_span, named_edge2]
  exact kKnot_coe hu (by omega) (by norm_num)

/-- Knot 3 of family `w1`. -/
theorem knot_w1_3 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay27 v32 v33 v34 v35 v36 v37 v38 v39 (maximumf (maximumf v32 v33) v34) i = (knot u 3 : EReal) := by
  have e : k0_pay27 v32 v33 v34 v35 v36 v37 v38 v39 (maximumf (maximumf v32 v33) v34) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge3" 0x3C9374BC#32) 2 := rfl
  rw [e, named_span, named_edge3]
  exact kKnot_coe hu (by omega) (by norm_num)

/-- Knot 4 of family `w1`. -/
theorem knot_w1_4 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay28 v32 v33 v34 v35 v36 v37 v38 v39 (maximumf (maximumf v32 v33) v34) i = (knot u 4 : EReal) := by
  have e : k0_pay28 v32 v33 v34 v35 v36 v37 v38 v39 (maximumf (maximumf v32 v33) v34) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge4" 0x3CC49BA6#32) 3 := rfl
  rw [e, named_span, named_edge4]
  exact kKnot_coe hu (by omega) (by norm_num)

/-- Knot 5 of family `w1`. -/
theorem knot_w1_5 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay30 (k0_pay29 v32 v33 v34 v35 v36 v37 v38 v39 (maximumf (maximumf v32 v33) v34)) i = (knot u 5 : EReal) := by
  have e : k0_pay30 (k0_pay29 v32 v33 v34 v35 v36 v37 v38 v39 (maximumf (maximumf v32 v33) v34)) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge5" 0x3CF5C28F#32) 4 := rfl
  rw [e, named_span, named_edge5]
  exact kKnot_coe hu (by omega) (by norm_num)

/-- Knot 6 of family `w1`. -/
theorem knot_w1_6 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay31 (k0_pay22 v32 v33 v34 v35 v36 v37 v38 v39 (maximumf (maximumf v32 v33) v34)) (k0_pay24 v32 v33 v34 v35 v36 v37 v38 v39 (maximumf (maximumf v32 v33) v34)) i = (knot u 6 : EReal) := by
  have e : k0_pay31 (k0_pay22 v32 v33 v34 v35 v36 v37 v38 v39 (maximumf (maximumf v32 v33) v34)) (k0_pay24 v32 v33 v34 v35 v36 v37 v38 v39 (maximumf (maximumf v32 v33) v34)) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge6" 0x3D1374BC#32) 5 := rfl
  rw [e, named_span, named_edge6]
  exact kKnot_coe hu (by omega) (by norm_num)

/-- Knot 7 of family `w1`. -/
theorem knot_w1_7 (v32 v33 v34 v35 v36 v37 v38 v39 : FVec Ideal S64x2048 .f32) {u : ℕ → ℝ} (hu : ∀ k < 8, (lg8 (v32 i) (v33 i) (v34 i) (v35 i) (v36 i) (v37 i) (v38 i) (v39 i)) k = (u k : EReal)) :
    k0_pay32 (k0_pay23 v32 v33 v34 v35 v36 v37 v38 v39 (maximumf (maximumf v32 v33) v34)) (k0_pay24 v32 v33 v34 v35 v36 v37 v38 v39 (maximumf (maximumf v32 v33) v34)) i = (knot u 7 : EReal) := by
  have e : k0_pay32 (k0_pay23 v32 v33 v34 v35 v36 v37 v38 v39 (maximumf (maximumf v32 v33) v34)) (k0_pay24 v32 v33 v34 v35 v36 v37 v38 v39 (maximumf (maximumf v32 v33) v34)) i = kKnot (Named.named (F := Ideal) (φ := .f32) κ "span" 0x40BE76C9#32) (lg8 (v32 i) (v33 i) (v34 i) (v35 i) (v36 i) (v37 i) (v38 i) (v39 i)) (Named.named (F := Ideal) (φ := .f32) κ "edge7" 0x3D2C0831#32) 6 := rfl
  rw [e, named_span, named_edge7]
  exact kKnot_coe hu (by omega) (by norm_num)

/-- Knot 1 of family `h1`. -/
theorem knot_h1_1 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay60 v136 v137 v138 v139 i = (knot u 1 : EReal) := by
  have e : k0_pay60 v136 v137 v138 v139 i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge1" 0x3BC49BA6#32) 0 := rfl
  rw [e, named_span, named_edge1]
  exact kKnot_coe hu (by omega) (by norm_num)

/-- Knot 2 of family `h1`. -/
theorem knot_h1_2 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay61 v136 v137 v138 v139 i = (knot u 2 : EReal) := by
  have e : k0_pay61 v136 v137 v138 v139 i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge2" 0x3C449BA6#32) 1 := rfl
  rw [e, named_span, named_edge2]
  exact kKnot_coe hu (by omega) (by norm_num)

/-- Knot 3 of family `h1`. -/
theorem knot_h1_3 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay62 v136 v137 v138 v139 i = (knot u 3 : EReal) := by
  have e : k0_pay62 v136 v137 v138 v139 i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge3" 0x3C9374BC#32) 2 := rfl
  rw [e, named_span, named_edge3]
  exact kKnot_coe hu (by omega) (by norm_num)

/-- Knot 4 of family `h1`. -/
theorem knot_h1_4 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay64 (k0_pay63 v136 v137 v138 v139) i = (knot u 4 : EReal) := by
  have e : k0_pay64 (k0_pay63 v136 v137 v138 v139) i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge4" 0x3CC49BA6#32) 3 := rfl
  rw [e, named_span, named_edge4]
  exact kKnot_coe hu (by omega) (by norm_num)

/-- Knot 5 of family `h1`. -/
theorem knot_h1_5 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay65 (k0_pay56 v136 v137 v138 v139) (k0_pay59 v136 v137 v138 v139) i = (knot u 5 : EReal) := by
  have e : k0_pay65 (k0_pay56 v136 v137 v138 v139) (k0_pay59 v136 v137 v138 v139) i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge5" 0x3CF5C28F#32) 4 := rfl
  rw [e, named_span, named_edge5]
  exact kKnot_coe hu (by omega) (by norm_num)

/-- Knot 6 of family `h1`. -/
theorem knot_h1_6 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay66 (k0_pay57 v136 v137 v138 v139) (k0_pay59 v136 v137 v138 v139) i = (knot u 6 : EReal) := by
  have e : k0_pay66 (k0_pay57 v136 v137 v138 v139) (k0_pay59 v136 v137 v138 v139) i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge6" 0x3D1374BC#32) 5 := rfl
  rw [e, named_span, named_edge6]
  exact kKnot_coe hu (by omega) (by norm_num)

/-- Knot 7 of family `h1`. -/
theorem knot_h1_7 (v136 : FVec Ideal S512x2048 .f32) (v137 v138 v139 : FVec Ideal S64x2048 .f32) {u : ℕ → ℝ} (hu : ∀ k < 8, (lg8 (v137 i) (v138 i) (v139 i) (k0_pay46 v136 i) (k0_pay47 v136 i) (k0_pay48 v136 i) (k0_pay49 v136 i) (k0_pay50 v136 i)) k = (u k : EReal)) :
    k0_pay67 (k0_pay58 v136 v137 v138 v139) (k0_pay59 v136 v137 v138 v139) i = (knot u 7 : EReal) := by
  have e : k0_pay67 (k0_pay58 v136 v137 v138 v139) (k0_pay59 v136 v137 v138 v139) i = kKnot (Named.named (F := Ideal) (φ := .f32) κ "span" 0x40BE76C9#32) (lg8 (v137 i) (v138 i) (v139 i) (k0_pay46 v136 i) (k0_pay47 v136 i) (k0_pay48 v136 i) (k0_pay49 v136 i) (k0_pay50 v136 i)) (Named.named (F := Ideal) (φ := .f32) κ "edge7" 0x3D2C0831#32) 6 := rfl
  rw [e, named_span, named_edge7]
  exact kKnot_coe hu (by omega) (by norm_num)

/-- Knot 1 of family `w2`. -/
theorem knot_w2_1 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay109 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = (knot u 1 : EReal) := by
  have e : k0_pay109 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge1" 0x3BC49BA6#32) 0 := rfl
  rw [e, named_span, named_edge1]
  exact kKnot_coe hu (by omega) (by norm_num)

/-- Knot 2 of family `w2`. -/
theorem knot_w2_2 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay110 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = (knot u 2 : EReal) := by
  have e : k0_pay110 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge2" 0x3C449BA6#32) 1 := rfl
  rw [e, named_span, named_edge2]
  exact kKnot_coe hu (by omega) (by norm_num)

/-- Knot 3 of family `w2`. -/
theorem knot_w2_3 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay111 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = (knot u 3 : EReal) := by
  have e : k0_pay111 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge3" 0x3C9374BC#32) 2 := rfl
  rw [e, named_span, named_edge3]
  exact kKnot_coe hu (by omega) (by norm_num)

/-- Knot 4 of family `w2`. -/
theorem knot_w2_4 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay112 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = (knot u 4 : EReal) := by
  have e : k0_pay112 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge4" 0x3CC49BA6#32) 3 := rfl
  rw [e, named_span, named_edge4]
  exact kKnot_coe hu (by omega) (by norm_num)

/-- Knot 5 of family `w2`. -/
theorem knot_w2_5 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay113 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = (knot u 5 : EReal) := by
  have e : k0_pay113 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge5" 0x3CF5C28F#32) 4 := rfl
  rw [e, named_span, named_edge5]
  exact kKnot_coe hu (by omega) (by norm_num)

/-- Knot 6 of family `w2`. -/
theorem knot_w2_6 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay115 (k0_pay114 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375)))) i = (knot u 6 : EReal) := by
  have e : k0_pay115 (k0_pay114 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375)))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge6" 0x3D1374BC#32) 5 := rfl
  rw [e, named_span, named_edge6]
  exact kKnot_coe hu (by omega) (by norm_num)

/-- Knot 7 of family `w2`. -/
theorem knot_w2_7 (v368 v369 v370 v371 v372 v373 v374 v375 : FVec Ideal S64x2048 .f32) {u : ℕ → ℝ} (hu : ∀ k < 8, (lg8 (v368 i) (v369 i) (v370 i) (v371 i) (v372 i) (v373 i) (v374 i) (v375 i)) k = (u k : EReal)) :
    k0_pay116 (k0_pay107 v369 v370 v371 v372 v373 v374 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375)))) (k0_pay108 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375)))) i = (knot u 7 : EReal) := by
  have e : k0_pay116 (k0_pay107 v369 v370 v371 v372 v373 v374 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375)))) (k0_pay108 v369 v370 v371 v372 v373 v374 v375 (maximumf (maximumf (maximumf (maximumf (maximumf (maximumf (maximumf v368 v369) v370) v371) v372) v373) v374) v375) (exp (subf v368 (maximumf (maximumf (maximumf (maximumf (maximumf (maximumf (maximumf v368 v369) v370) v371) v372) v373) v374) v375)))) i = kKnot (Named.named (F := Ideal) (φ := .f32) κ "span" 0x40BE76C9#32) (lg8 (v368 i) (v369 i) (v370 i) (v371 i) (v372 i) (v373 i) (v374 i) (v375 i)) (Named.named (F := Ideal) (φ := .f32) κ "edge7" 0x3D2C0831#32) 6 := rfl
  rw [e, named_span, named_edge7]
  exact kKnot_coe hu (by omega) (by norm_num)

/-- Knot 1 of family `h2`. -/
theorem knot_h2_1 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay145 v473 v474 v475 v476 v477 v478 v479 v480 (maximumf (maximumf v473 v474) v475) i = (knot u 1 : EReal) := by
  have e : k0_pay145 v473 v474 v475 v476 v477 v478 v479 v480 (maximumf (maximumf v473 v474) v475) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge1" 0x3BC49BA6#32) 0 := rfl
  rw [e, named_span, named_edge1]
  exact kKnot_coe hu (by omega) (by norm_num)

/-- Knot 2 of family `h2`. -/
theorem knot_h2_2 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay146 v473 v474 v475 v476 v477 v478 v479 v480 (maximumf (maximumf v473 v474) v475) i = (knot u 2 : EReal) := by
  have e : k0_pay146 v473 v474 v475 v476 v477 v478 v479 v480 (maximumf (maximumf v473 v474) v475) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge2" 0x3C449BA6#32) 1 := rfl
  rw [e, named_span, named_edge2]
  exact kKnot_coe hu (by omega) (by norm_num)

/-- Knot 3 of family `h2`. -/
theorem knot_h2_3 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay147 v473 v474 v475 v476 v477 v478 v479 v480 (maximumf (maximumf v473 v474) v475) i = (knot u 3 : EReal) := by
  have e : k0_pay147 v473 v474 v475 v476 v477 v478 v479 v480 (maximumf (maximumf v473 v474) v475) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge3" 0x3C9374BC#32) 2 := rfl
  rw [e, named_span, named_edge3]
  exact kKnot_coe hu (by omega) (by norm_num)

/-- Knot 4 of family `h2`. -/
theorem knot_h2_4 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay148 v473 v474 v475 v476 v477 v478 v479 v480 (maximumf (maximumf v473 v474) v475) i = (knot u 4 : EReal) := by
  have e : k0_pay148 v473 v474 v475 v476 v477 v478 v479 v480 (maximumf (maximumf v473 v474) v475) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge4" 0x3CC49BA6#32) 3 := rfl
  rw [e, named_span, named_edge4]
  exact kKnot_coe hu (by omega) (by norm_num)

/-- Knot 5 of family `h2`. -/
theorem knot_h2_5 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay150 (k0_pay149 v473 v474 v475 v476 v477 v478 v479 v480 (maximumf (maximumf v473 v474) v475)) i = (knot u 5 : EReal) := by
  have e : k0_pay150 (k0_pay149 v473 v474 v475 v476 v477 v478 v479 v480 (maximumf (maximumf v473 v474) v475)) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge5" 0x3CF5C28F#32) 4 := rfl
  rw [e, named_span, named_edge5]
  exact kKnot_coe hu (by omega) (by norm_num)

/-- Knot 6 of family `h2`. -/
theorem knot_h2_6 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay151 (k0_pay142 v473 v474 v475 v476 v477 v478 v479 v480 (maximumf (maximumf v473 v474) v475)) (k0_pay144 v473 v474 v475 v476 v477 v478 v479 v480 (maximumf (maximumf v473 v474) v475)) i = (knot u 6 : EReal) := by
  have e : k0_pay151 (k0_pay142 v473 v474 v475 v476 v477 v478 v479 v480 (maximumf (maximumf v473 v474) v475)) (k0_pay144 v473 v474 v475 v476 v477 v478 v479 v480 (maximumf (maximumf v473 v474) v475)) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge6" 0x3D1374BC#32) 5 := rfl
  rw [e, named_span, named_edge6]
  exact kKnot_coe hu (by omega) (by norm_num)

/-- Knot 7 of family `h2`. -/
theorem knot_h2_7 (v473 v474 v475 v476 v477 v478 v479 v480 : FVec Ideal S64x2048 .f32) {u : ℕ → ℝ} (hu : ∀ k < 8, (lg8 (v473 i) (v474 i) (v475 i) (v476 i) (v477 i) (v478 i) (v479 i) (v480 i)) k = (u k : EReal)) :
    k0_pay152 (k0_pay143 v473 v474 v475 v476 v477 v478 v479 v480 (maximumf (maximumf v473 v474) v475)) (k0_pay144 v473 v474 v475 v476 v477 v478 v479 v480 (maximumf (maximumf v473 v474) v475)) i = (knot u 7 : EReal) := by
  have e : k0_pay152 (k0_pay143 v473 v474 v475 v476 v477 v478 v479 v480 (maximumf (maximumf v473 v474) v475)) (k0_pay144 v473 v474 v475 v476 v477 v478 v479 v480 (maximumf (maximumf v473 v474) v475)) i = kKnot (Named.named (F := Ideal) (φ := .f32) κ "span" 0x40BE76C9#32) (lg8 (v473 i) (v474 i) (v475 i) (v476 i) (v477 i) (v478 i) (v479 i) (v480 i)) (Named.named (F := Ideal) (φ := .f32) κ "edge7" 0x3D2C0831#32) 6 := rfl
  rw [e, named_span, named_edge7]
  exact kKnot_coe hu (by omega) (by norm_num)

/-- A mask at an index. -/
theorem mask33 (x v76 : FVec Ideal S64x2048 .f32) : k0_pay33 x v76 i = Ideal.cmp .oge (x i) (v76 i) := rfl

/-- A mask at an index. -/
theorem mask34 (x v76 : FVec Ideal S64x2048 .f32) : k0_pay34 x v76 i = Ideal.cmp .oge (x i) (v76 i) := rfl

/-- A mask at an index. -/
theorem mask35 (x v76 : FVec Ideal S64x2048 .f32) : k0_pay35 x v76 i = Ideal.cmp .oge (x i) (v76 i) := rfl

/-- A mask at an index. -/
theorem mask36 (x v76 : FVec Ideal S64x2048 .f32) : k0_pay36 x v76 i = Ideal.cmp .oge (x i) (v76 i) := rfl

/-- A mask at an index. -/
theorem mask37 (x v76 : FVec Ideal S64x2048 .f32) : k0_pay37 x v76 i = Ideal.cmp .oge (x i) (k0_pay30 v76 i) := rfl

/-- A mask at an index. -/
theorem mask38 (x v76 v77 : FVec Ideal S64x2048 .f32) : k0_pay38 x v76 v77 i = Ideal.cmp .oge (x i) (k0_pay31 v76 v77 i) := rfl

/-- A mask at an index. -/
theorem mask39 (x v76 v77 : FVec Ideal S64x2048 .f32) : k0_pay39 x v76 v77 i = Ideal.cmp .oge (x i) (k0_pay32 v76 v77 i) := rfl

/-- A mask at an index. -/
theorem mask117 (x v76 : FVec Ideal S64x2048 .f32) : k0_pay117 x v76 i = Ideal.cmp .oge (x i) (v76 i) := rfl

/-- A mask at an index. -/
theorem mask118 (x v76 : FVec Ideal S64x2048 .f32) : k0_pay118 x v76 i = Ideal.cmp .oge (x i) (v76 i) := rfl

/-- A mask at an index. -/
theorem mask119 (x v76 : FVec Ideal S64x2048 .f32) : k0_pay119 x v76 i = Ideal.cmp .oge (x i) (v76 i) := rfl

/-- A mask at an index. -/
theorem mask120 (x v76 : FVec Ideal S64x2048 .f32) : k0_pay120 x v76 i = Ideal.cmp .oge (x i) (v76 i) := rfl

/-- A mask at an index. -/
theorem mask121 (x v76 : FVec Ideal S64x2048 .f32) : k0_pay121 x v76 i = Ideal.cmp .oge (x i) (v76 i) := rfl

/-- A mask at an index. -/
theorem mask122 (x v76 : FVec Ideal S64x2048 .f32) : k0_pay122 x v76 i = Ideal.cmp .oge (x i) (k0_pay115 v76 i) := rfl

/-- A mask at an index. -/
theorem mask123 (x v76 v77 : FVec Ideal S64x2048 .f32) : k0_pay123 x v76 v77 i = Ideal.cmp .oge (x i) (k0_pay116 v76 v77 i) := rfl

/-- The lower end of the bin, chosen under the masks. -/
theorem chain40 (v3 v67 v68 v71 v76 v81 v86 v91 v92 : FVec Ideal S64x2048 .f32) {x : ℝ} {w h : ℕ → ℝ}
    (hm : ∀ k < 7, (lg8 (Ideal.cmp .oge (v3 i) (v76 i)) (Ideal.cmp .oge (v3 i) (v81 i)) (Ideal.cmp .oge (v3 i) (v86 i)) (Ideal.cmp .oge (v3 i) (v91 i)) (Ideal.cmp .oge (v3 i) (k0_pay30 v92 i)) (Ideal.cmp .oge (v3 i) (k0_pay31 v67 v71 i)) (Ideal.cmp .oge (v3 i) (k0_pay32 v68 v71 i)) (Ideal.cmp .oge (v3 i) (k0_pay32 v68 v71 i))) k = Ideal.cmp .oge (x : EReal) (knot w (k + 1) : EReal))
    (hk : ∀ k < 7, (lg8 (v76 i) (v81 i) (v86 i) (v91 i) (k0_pay30 v92 i) (k0_pay31 v67 v71 i) (k0_pay32 v68 v71 i) (k0_pay32 v68 v71 i)) k = (knot h (k + 1) : EReal)) :
    k0_pay40 v3 v67 v68 v71 v76 v81 v86 v91 v92 i = (knot h (bin (knot w) x) : EReal) := by
  have e : k0_pay40 v3 v67 v68 v71 v76 v81 v86 v91 v92 i = kChain (lg8 (Ideal.cmp .oge (v3 i) (v76 i)) (Ideal.cmp .oge (v3 i) (v81 i)) (Ideal.cmp .oge (v3 i) (v86 i)) (Ideal.cmp .oge (v3 i) (v91 i)) (Ideal.cmp .oge (v3 i) (k0_pay30 v92 i)) (Ideal.cmp .oge (v3 i) (k0_pay31 v67 v71 i)) (Ideal.cmp .oge (v3 i) (k0_pay32 v68 v71 i)) (Ideal.cmp .oge (v3 i) (k0_pay32 v68 v71 i))) (lg8 (Ideal.ofBits .f32 0xC0400000#32) (v76 i) (v81 i) (v86 i) (v91 i) (k0_pay30 v92 i) (k0_pay31 v67 v71 i) (k0_pay32 v68 v71 i)) 7 := rfl
  rw [e]
  refine kChain_coe (w := fun k => knot h (k)) (knot_mono w) hm fun k hk8 => ?_
  interval_cases k
  · exact word_neg3.trans (congrArg _ (knot_zero h).symm)
  · exact hk 0 (by omega)
  · exact hk 1 (by omega)
  · exact hk 2 (by omega)
  · exact hk 3 (by omega)
  · exact hk 4 (by omega)
  · exact hk 5 (by omega)
  · exact hk 6 (by omega)

/-- The upper end of the bin, chosen under the masks. -/
theorem chain41 (v3 v67 v68 v71 v76 v81 v86 v91 v92 : FVec Ideal S64x2048 .f32) {x : ℝ} {w h : ℕ → ℝ}
    (hm : ∀ k < 7, (lg8 (Ideal.cmp .oge (v3 i) (v76 i)) (Ideal.cmp .oge (v3 i) (v81 i)) (Ideal.cmp .oge (v3 i) (v86 i)) (Ideal.cmp .oge (v3 i) (v91 i)) (Ideal.cmp .oge (v3 i) (k0_pay30 v92 i)) (Ideal.cmp .oge (v3 i) (k0_pay31 v67 v71 i)) (Ideal.cmp .oge (v3 i) (k0_pay32 v68 v71 i)) (Ideal.cmp .oge (v3 i) (k0_pay32 v68 v71 i))) k = Ideal.cmp .oge (x : EReal) (knot w (k + 1) : EReal))
    (hk : ∀ k < 7, (lg8 (v76 i) (v81 i) (v86 i) (v91 i) (k0_pay30 v92 i) (k0_pay31 v67 v71 i) (k0_pay32 v68 v71 i) (k0_pay32 v68 v71 i)) k = (knot h (k + 1) : EReal)) :
    k0_pay41 v3 v67 v68 v71 v76 v81 v86 v91 v92 i = (knot h (bin (knot w) x + 1) : EReal) := by
  have e : k0_pay41 v3 v67 v68 v71 v76 v81 v86 v91 v92 i = kChain (lg8 (Ideal.cmp .oge (v3 i) (v76 i)) (Ideal.cmp .oge (v3 i) (v81 i)) (Ideal.cmp .oge (v3 i) (v86 i)) (Ideal.cmp .oge (v3 i) (v91 i)) (Ideal.cmp .oge (v3 i) (k0_pay30 v92 i)) (Ideal.cmp .oge (v3 i) (k0_pay31 v67 v71 i)) (Ideal.cmp .oge (v3 i) (k0_pay32 v68 v71 i)) (Ideal.cmp .oge (v3 i) (k0_pay32 v68 v71 i))) (lg8 (v76 i) (v81 i) (v86 i) (v91 i) (k0_pay30 v92 i) (k0_pay31 v67 v71 i) (k0_pay32 v68 v71 i) (Ideal.ofBits .f32 0x40400000#32)) 7 := rfl
  rw [e]
  refine kChain_coe (w := fun k => knot h (k + 1)) (knot_mono w) hm fun k hk8 => ?_
  interval_cases k
  · exact hk 0 (by omega)
  · exact hk 1 (by omega)
  · exact hk 2 (by omega)
  · exact hk 3 (by omega)
  · exact hk 4 (by omega)
  · exact hk 5 (by omega)
  · exact hk 6 (by omega)
  · exact word_3.trans (congrArg _ (knot_eight h).symm)

/-- The lower end of the bin, chosen under the masks. -/
theorem chain68 (m0 m1 m2 m3 m4 m5 m6 : IVec S64x2048 1) (v171 v172 v173 v176 v181 v186 v191 v192 : FVec Ideal S64x2048 .f32) {x : ℝ} {w h : ℕ → ℝ}
    (hm : ∀ k < 7, (lg8 (m0 i) (m1 i) (m2 i) (m3 i) (m4 i) (m5 i) (m6 i) (m6 i)) k = Ideal.cmp .oge (x : EReal) (knot w (k + 1) : EReal))
    (hk : ∀ k < 7, (lg8 (v181 i) (v186 i) (v191 i) (k0_pay64 v192 i) (k0_pay65 v171 v176 i) (k0_pay66 v172 v176 i) (k0_pay67 v173 v176 i) (k0_pay67 v173 v176 i)) k = (knot h (k + 1) : EReal)) :
    k0_pay68 m0 m1 m2 m3 m4 m5 m6 v171 v172 v173 v176 v181 v186 v191 v192 i = (knot h (bin (knot w) x) : EReal) := by
  have e : k0_pay68 m0 m1 m2 m3 m4 m5 m6 v171 v172 v173 v176 v181 v186 v191 v192 i = kChain (lg8 (m0 i) (m1 i) (m2 i) (m3 i) (m4 i) (m5 i) (m6 i) (m6 i)) (lg8 (Ideal.ofBits .f32 0xC0400000#32) (v181 i) (v186 i) (v191 i) (k0_pay64 v192 i) (k0_pay65 v171 v176 i) (k0_pay66 v172 v176 i) (k0_pay67 v173 v176 i)) 7 := rfl
  rw [e]
  refine kChain_coe (w := fun k => knot h (k)) (knot_mono w) hm fun k hk8 => ?_
  interval_cases k
  · exact word_neg3.trans (congrArg _ (knot_zero h).symm)
  · exact hk 0 (by omega)
  · exact hk 1 (by omega)
  · exact hk 2 (by omega)
  · exact hk 3 (by omega)
  · exact hk 4 (by omega)
  · exact hk 5 (by omega)
  · exact hk 6 (by omega)

/-- The upper end of the bin, chosen under the masks. -/
theorem chain69 (m0 m1 m2 m3 m4 m5 m6 : IVec S64x2048 1) (v171 v172 v173 v176 v181 v186 v191 v192 : FVec Ideal S64x2048 .f32) {x : ℝ} {w h : ℕ → ℝ}
    (hm : ∀ k < 7, (lg8 (m0 i) (m1 i) (m2 i) (m3 i) (m4 i) (m5 i) (m6 i) (m6 i)) k = Ideal.cmp .oge (x : EReal) (knot w (k + 1) : EReal))
    (hk : ∀ k < 7, (lg8 (v181 i) (v186 i) (v191 i) (k0_pay64 v192 i) (k0_pay65 v171 v176 i) (k0_pay66 v172 v176 i) (k0_pay67 v173 v176 i) (k0_pay67 v173 v176 i)) k = (knot h (k + 1) : EReal)) :
    k0_pay69 m0 m1 m2 m3 m4 m5 m6 v171 v172 v173 v176 v181 v186 v191 v192 i = (knot h (bin (knot w) x + 1) : EReal) := by
  have e : k0_pay69 m0 m1 m2 m3 m4 m5 m6 v171 v172 v173 v176 v181 v186 v191 v192 i = kChain (lg8 (m0 i) (m1 i) (m2 i) (m3 i) (m4 i) (m5 i) (m6 i) (m6 i)) (lg8 (v181 i) (v186 i) (v191 i) (k0_pay64 v192 i) (k0_pay65 v171 v176 i) (k0_pay66 v172 v176 i) (k0_pay67 v173 v176 i) (Ideal.ofBits .f32 0x40400000#32)) 7 := rfl
  rw [e]
  refine kChain_coe (w := fun k => knot h (k + 1)) (knot_mono w) hm fun k hk8 => ?_
  interval_cases k
  · exact hk 0 (by omega)
  · exact hk 1 (by omega)
  · exact hk 2 (by omega)
  · exact hk 3 (by omega)
  · exact hk 4 (by omega)
  · exact hk 5 (by omega)
  · exact hk 6 (by omega)
  · exact word_3.trans (congrArg _ (knot_eight h).symm)

/-- The lower end of the bin, chosen under the masks. -/
theorem chain124 (v2 v404 v407 v412 v417 v422 v427 v432 v433 : FVec Ideal S64x2048 .f32) {x : ℝ} {w h : ℕ → ℝ}
    (hm : ∀ k < 7, (lg8 (Ideal.cmp .oge (v2 i) (v412 i)) (Ideal.cmp .oge (v2 i) (v417 i)) (Ideal.cmp .oge (v2 i) (v422 i)) (Ideal.cmp .oge (v2 i) (v427 i)) (Ideal.cmp .oge (v2 i) (v432 i)) (Ideal.cmp .oge (v2 i) (k0_pay115 v433 i)) (Ideal.cmp .oge (v2 i) (k0_pay116 v404 v407 i)) (Ideal.cmp .oge (v2 i) (k0_pay116 v404 v407 i))) k = Ideal.cmp .oge (x : EReal) (knot w (k + 1) : EReal))
    (hk : ∀ k < 7, (lg8 (v412 i) (v417 i) (v422 i) (v427 i) (v432 i) (k0_pay115 v433 i) (k0_pay116 v404 v407 i) (k0_pay116 v404 v407 i)) k = (knot h (k + 1) : EReal)) :
    k0_pay124 v2 v404 v407 v412 v417 v422 v427 v432 v433 i = (knot h (bin (knot w) x) : EReal) := by
  have e : k0_pay124 v2 v404 v407 v412 v417 v422 v427 v432 v433 i = kChain (lg8 (Ideal.cmp .oge (v2 i) (v412 i)) (Ideal.cmp .oge (v2 i) (v417 i)) (Ideal.cmp .oge (v2 i) (v422 i)) (Ideal.cmp .oge (v2 i) (v427 i)) (Ideal.cmp .oge (v2 i) (v432 i)) (Ideal.cmp .oge (v2 i) (k0_pay115 v433 i)) (Ideal.cmp .oge (v2 i) (k0_pay116 v404 v407 i)) (Ideal.cmp .oge (v2 i) (k0_pay116 v404 v407 i))) (lg8 (Ideal.ofBits .f32 0xC0400000#32) (v412 i) (v417 i) (v422 i) (v427 i) (v432 i) (k0_pay115 v433 i) (k0_pay116 v404 v407 i)) 7 := rfl
  rw [e]
  refine kChain_coe (w := fun k => knot h (k)) (knot_mono w) hm fun k hk8 => ?_
  interval_cases k
  · exact word_neg3.trans (congrArg _ (knot_zero h).symm)
  · exact hk 0 (by omega)
  · exact hk 1 (by omega)
  · exact hk 2 (by omega)
  · exact hk 3 (by omega)
  · exact hk 4 (by omega)
  · exact hk 5 (by omega)
  · exact hk 6 (by omega)

/-- The upper end of the bin, chosen under the masks. -/
theorem chain125 (v2 v404 v407 v412 v417 v422 v427 v432 v433 : FVec Ideal S64x2048 .f32) {x : ℝ} {w h : ℕ → ℝ}
    (hm : ∀ k < 7, (lg8 (Ideal.cmp .oge (v2 i) (v412 i)) (Ideal.cmp .oge (v2 i) (v417 i)) (Ideal.cmp .oge (v2 i) (v422 i)) (Ideal.cmp .oge (v2 i) (v427 i)) (Ideal.cmp .oge (v2 i) (v432 i)) (Ideal.cmp .oge (v2 i) (k0_pay115 v433 i)) (Ideal.cmp .oge (v2 i) (k0_pay116 v404 v407 i)) (Ideal.cmp .oge (v2 i) (k0_pay116 v404 v407 i))) k = Ideal.cmp .oge (x : EReal) (knot w (k + 1) : EReal))
    (hk : ∀ k < 7, (lg8 (v412 i) (v417 i) (v422 i) (v427 i) (v432 i) (k0_pay115 v433 i) (k0_pay116 v404 v407 i) (k0_pay116 v404 v407 i)) k = (knot h (k + 1) : EReal)) :
    k0_pay125 v2 v404 v407 v412 v417 v422 v427 v432 v433 i = (knot h (bin (knot w) x + 1) : EReal) := by
  have e : k0_pay125 v2 v404 v407 v412 v417 v422 v427 v432 v433 i = kChain (lg8 (Ideal.cmp .oge (v2 i) (v412 i)) (Ideal.cmp .oge (v2 i) (v417 i)) (Ideal.cmp .oge (v2 i) (v422 i)) (Ideal.cmp .oge (v2 i) (v427 i)) (Ideal.cmp .oge (v2 i) (v432 i)) (Ideal.cmp .oge (v2 i) (k0_pay115 v433 i)) (Ideal.cmp .oge (v2 i) (k0_pay116 v404 v407 i)) (Ideal.cmp .oge (v2 i) (k0_pay116 v404 v407 i))) (lg8 (v412 i) (v417 i) (v422 i) (v427 i) (v432 i) (k0_pay115 v433 i) (k0_pay116 v404 v407 i) (Ideal.ofBits .f32 0x40400000#32)) 7 := rfl
  rw [e]
  refine kChain_coe (w := fun k => knot h (k + 1)) (knot_mono w) hm fun k hk8 => ?_
  interval_cases k
  · exact hk 0 (by omega)
  · exact hk 1 (by omega)
  · exact hk 2 (by omega)
  · exact hk 3 (by omega)
  · exact hk 4 (by omega)
  · exact hk 5 (by omega)
  · exact hk 6 (by omega)
  · exact word_3.trans (congrArg _ (knot_eight h).symm)

/-- The lower end of the bin, chosen under the masks. -/
theorem chain153 (m0 m1 m2 m3 m4 m5 m6 : IVec S64x2048 1) (v508 v509 v512 v517 v522 v527 v532 v533 : FVec Ideal S64x2048 .f32) {x : ℝ} {w h : ℕ → ℝ}
    (hm : ∀ k < 7, (lg8 (m0 i) (m1 i) (m2 i) (m3 i) (m4 i) (m5 i) (m6 i) (m6 i)) k = Ideal.cmp .oge (x : EReal) (knot w (k + 1) : EReal))
    (hk : ∀ k < 7, (lg8 (v517 i) (v522 i) (v527 i) (v532 i) (k0_pay150 v533 i) (k0_pay151 v508 v512 i) (k0_pay152 v509 v512 i) (k0_pay152 v509 v512 i)) k = (knot h (k + 1) : EReal)) :
    k0_pay153 m0 m1 m2 m3 m4 m5 m6 v508 v509 v512 v517 v522 v527 v532 v533 i = (knot h (bin (knot w) x) : EReal) := by
  have e : k0_pay153 m0 m1 m2 m3 m4 m5 m6 v508 v509 v512 v517 v522 v527 v532 v533 i = kChain (lg8 (m0 i) (m1 i) (m2 i) (m3 i) (m4 i) (m5 i) (m6 i) (m6 i)) (lg8 (Ideal.ofBits .f32 0xC0400000#32) (v517 i) (v522 i) (v527 i) (v532 i) (k0_pay150 v533 i) (k0_pay151 v508 v512 i) (k0_pay152 v509 v512 i)) 7 := rfl
  rw [e]
  refine kChain_coe (w := fun k => knot h (k)) (knot_mono w) hm fun k hk8 => ?_
  interval_cases k
  · exact word_neg3.trans (congrArg _ (knot_zero h).symm)
  · exact hk 0 (by omega)
  · exact hk 1 (by omega)
  · exact hk 2 (by omega)
  · exact hk 3 (by omega)
  · exact hk 4 (by omega)
  · exact hk 5 (by omega)
  · exact hk 6 (by omega)

/-- The upper end of the bin, chosen under the masks. -/
theorem chain154 (m0 m1 m2 m3 m4 m5 m6 : IVec S64x2048 1) (v508 v509 v512 v517 v522 v527 v532 v533 : FVec Ideal S64x2048 .f32) {x : ℝ} {w h : ℕ → ℝ}
    (hm : ∀ k < 7, (lg8 (m0 i) (m1 i) (m2 i) (m3 i) (m4 i) (m5 i) (m6 i) (m6 i)) k = Ideal.cmp .oge (x : EReal) (knot w (k + 1) : EReal))
    (hk : ∀ k < 7, (lg8 (v517 i) (v522 i) (v527 i) (v532 i) (k0_pay150 v533 i) (k0_pay151 v508 v512 i) (k0_pay152 v509 v512 i) (k0_pay152 v509 v512 i)) k = (knot h (k + 1) : EReal)) :
    k0_pay154 m0 m1 m2 m3 m4 m5 m6 v508 v509 v512 v517 v522 v527 v532 v533 i = (knot h (bin (knot w) x + 1) : EReal) := by
  have e : k0_pay154 m0 m1 m2 m3 m4 m5 m6 v508 v509 v512 v517 v522 v527 v532 v533 i = kChain (lg8 (m0 i) (m1 i) (m2 i) (m3 i) (m4 i) (m5 i) (m6 i) (m6 i)) (lg8 (v517 i) (v522 i) (v527 i) (v532 i) (k0_pay150 v533 i) (k0_pay151 v508 v512 i) (k0_pay152 v509 v512 i) (Ideal.ofBits .f32 0x40400000#32)) 7 := rfl
  rw [e]
  refine kChain_coe (w := fun k => knot h (k + 1)) (knot_mono w) hm fun k hk8 => ?_
  interval_cases k
  · exact hk 0 (by omega)
  · exact hk 1 (by omega)
  · exact hk 2 (by omega)
  · exact hk 3 (by omega)
  · exact hk 4 (by omega)
  · exact hk 5 (by omega)
  · exact hk 6 (by omega)
  · exact word_3.trans (congrArg _ (knot_eight h).symm)

/-- The slope at the lower end of the bin. -/
theorem slope78 (m0 m1 m2 m3 m4 m5 m6 : IVec S64x2048 1) (v234 : FVec Ideal S448x2048 .f32) (v235 v236 v237 : FVec Ideal S64x2048 .f32) {x : ℝ} {w d : ℕ → ℝ}
    (hm : ∀ k < 7, (lg8 (m0 i) (m1 i) (m2 i) (m3 i) (m4 i) (m5 i) (m6 i) (m6 i)) k = Ideal.cmp .oge (x : EReal) (knot w (k + 1) : EReal))
    (hd : ∀ k < 7, (lg8 (v235 i) (v236 i) (v237 i) (k0_pay74 v234 i) (k0_pay75 v234 i) (k0_pay76 v234 i) (k0_pay77 v234 i) (k0_pay77 v234 i)) k = (d k : EReal)) :
    k0_pay78 m0 m1 m2 m3 m4 m5 m6 v234 v235 v236 v237 i = (slope d (bin (knot w) x) : EReal) := by
  have e : k0_pay78 m0 m1 m2 m3 m4 m5 m6 v234 v235 v236 v237 i = kSlope (Named.named (F := Ideal) (φ := .f32) κ "min_size" 0x3A83126F#32) (kChain (lg8 (m0 i) (m1 i) (m2 i) (m3 i) (m4 i) (m5 i) (m6 i) (m6 i)) (lg8 (Ideal.ofBits .f32 0x3F0A2C8F#32) (v235 i) (v236 i) (v237 i) (k0_pay74 v234 i) (k0_pay75 v234 i) (k0_pay76 v234 i) (k0_pay77 v234 i)) 7) := rfl
  rw [e, kChain_coe (w := fun k => slopeLogit d (k)) (knot_mono w) hm, named_min, kSlope_coe]
  · rfl
  intro k hk
  interval_cases k
  · exact word_end
  · exact hd 0 (by omega)
  · exact hd 1 (by omega)
  · exact hd 2 (by omega)
  · exact hd 3 (by omega)
  · exact hd 4 (by omega)
  · exact hd 5 (by omega)
  · exact hd 6 (by omega)

/-- The slope at the upper end of the bin. -/
theorem slope79 (m0 m1 m2 m3 m4 m5 m6 : IVec S64x2048 1) (v234 : FVec Ideal S448x2048 .f32) (v235 v236 v237 : FVec Ideal S64x2048 .f32) {x : ℝ} {w d : ℕ → ℝ}
    (hm : ∀ k < 7, (lg8 (m0 i) (m1 i) (m2 i) (m3 i) (m4 i) (m5 i) (m6 i) (m6 i)) k = Ideal.cmp .oge (x : EReal) (knot w (k + 1) : EReal))
    (hd : ∀ k < 7, (lg8 (v235 i) (v236 i) (v237 i) (k0_pay74 v234 i) (k0_pay75 v234 i) (k0_pay76 v234 i) (k0_pay77 v234 i) (k0_pay77 v234 i)) k = (d k : EReal)) :
    k0_pay79 m0 m1 m2 m3 m4 m5 m6 v234 v235 v236 v237 i = (slope d (bin (knot w) x + 1) : EReal) := by
  have e : k0_pay79 m0 m1 m2 m3 m4 m5 m6 v234 v235 v236 v237 i = kSlope (Named.named (F := Ideal) (φ := .f32) κ "min_size" 0x3A83126F#32) (kChain (lg8 (m0 i) (m1 i) (m2 i) (m3 i) (m4 i) (m5 i) (m6 i) (m6 i)) (lg8 (v235 i) (v236 i) (v237 i) (k0_pay74 v234 i) (k0_pay75 v234 i) (k0_pay76 v234 i) (k0_pay77 v234 i) (Ideal.ofBits .f32 0x3F0A2C8F#32)) 7) := rfl
  rw [e, kChain_coe (w := fun k => slopeLogit d (k + 1)) (knot_mono w) hm, named_min, kSlope_coe]
  · rfl
  intro k hk
  interval_cases k
  · exact hd 0 (by omega)
  · exact hd 1 (by omega)
  · exact hd 2 (by omega)
  · exact hd 3 (by omega)
  · exact hd 4 (by omega)
  · exact hd 5 (by omega)
  · exact hd 6 (by omega)
  · exact word_end

/-- The slope at the lower end of the bin. -/
theorem slope164 (m0 m1 m2 m3 m4 m5 m6 : IVec S64x2048 1) (v571 v572 v573 v574 v575 v576 v577 : FVec Ideal S64x2048 .f32) {x : ℝ} {w d : ℕ → ℝ}
    (hm : ∀ k < 7, (lg8 (m0 i) (m1 i) (m2 i) (m3 i) (m4 i) (m5 i) (m6 i) (m6 i)) k = Ideal.cmp .oge (x : EReal) (knot w (k + 1) : EReal))
    (hd : ∀ k < 7, (lg8 (v571 i) (v572 i) (v573 i) (v574 i) (v575 i) (v576 i) (v577 i) (v577 i)) k = (d k : EReal)) :
    k0_pay164 m1 m2 m3 m4 m5 m6 v572 v573 v574 v575 v576 v577 (select m0 v571 (broadcast S64x2048 (Scalar.ofBits .f32 0x3F0A2C8F#32))) i = (slope d (bin (knot w) x) : EReal) := by
  have e : k0_pay164 m1 m2 m3 m4 m5 m6 v572 v573 v574 v575 v576 v577 (select m0 v571 (broadcast S64x2048 (Scalar.ofBits .f32 0x3F0A2C8F#32))) i = kSlope (Named.named (F := Ideal) (φ := .f32) κ "min_size" 0x3A83126F#32) (kChain (lg8 (m0 i) (m1 i) (m2 i) (m3 i) (m4 i) (m5 i) (m6 i) (m6 i)) (lg8 (Ideal.ofBits .f32 0x3F0A2C8F#32) (v571 i) (v572 i) (v573 i) (v574 i) (v575 i) (v576 i) (v577 i)) 7) := rfl
  rw [e, kChain_coe (w := fun k => slopeLogit d (k)) (knot_mono w) hm, named_min, kSlope_coe]
  · rfl
  intro k hk
  interval_cases k
  · exact word_end
  · exact hd 0 (by omega)
  · exact hd 1 (by omega)
  · exact hd 2 (by omega)
  · exact hd 3 (by omega)
  · exact hd 4 (by omega)
  · exact hd 5 (by omega)
  · exact hd 6 (by omega)

/-- The slope at the upper end of the bin. -/
theorem slope165 (m0 m1 m2 m3 m4 m5 m6 : IVec S64x2048 1) (v571 v572 v573 v574 v575 v576 v577 : FVec Ideal S64x2048 .f32) {x : ℝ} {w d : ℕ → ℝ}
    (hm : ∀ k < 7, (lg8 (m0 i) (m1 i) (m2 i) (m3 i) (m4 i) (m5 i) (m6 i) (m6 i)) k = Ideal.cmp .oge (x : EReal) (knot w (k + 1) : EReal))
    (hd : ∀ k < 7, (lg8 (v571 i) (v572 i) (v573 i) (v574 i) (v575 i) (v576 i) (v577 i) (v577 i)) k = (d k : EReal)) :
    k0_pay165 m0 m1 m2 m3 m4 m5 m6 v571 v572 v573 v574 v575 v576 v577 i = (slope d (bin (knot w) x + 1) : EReal) := by
  have e : k0_pay165 m0 m1 m2 m3 m4 m5 m6 v571 v572 v573 v574 v575 v576 v577 i = kSlope (Named.named (F := Ideal) (φ := .f32) κ "min_size" 0x3A83126F#32) (kChain (lg8 (m0 i) (m1 i) (m2 i) (m3 i) (m4 i) (m5 i) (m6 i) (m6 i)) (lg8 (v571 i) (v572 i) (v573 i) (v574 i) (v575 i) (v576 i) (v577 i) (Ideal.ofBits .f32 0x3F0A2C8F#32)) 7) := rfl
  rw [e, kChain_coe (w := fun k => slopeLogit d (k + 1)) (knot_mono w) hm, named_min, kSlope_coe]
  · rfl
  intro k hk
  interval_cases k
  · exact hd 0 (by omega)
  · exact hd 1 (by omega)
  · exact hd 2 (by omega)
  · exact hd 3 (by omega)
  · exact hd 4 (by omega)
  · exact hd 5 (by omega)
  · exact hd 6 (by omega)
  · exact word_end

variable (x c c1 h h1 s s1 : FVec Ideal S64x2048 .f32)

/-- The first mapped input at an index. -/
theorem p88_apply : k0_pay88 x c c1 h h1 s s1 i = kOut (x i) (c i) (c1 i) (h i) (h1 i) (s i) (s1 i) := rfl

/-- The first logarithm of the slope at an index. -/
theorem p89_apply : k0_pay89 x c c1 h h1 s s1 i = kLog (x i) (c i) (c1 i) (h i) (h1 i) (s i) (s1 i) := rfl

/-- The second logarithm of the slope at an index. -/
theorem p175_apply : k0_pay175 x s s1 (k0_pay167 c c1) (k0_pay168 c c1 h h1) (k0_pay169 x c) i = kLog (x i) (c i) (c1 i) (h i) (h1 i) (s i) (s1 i) := rfl

/-- The second mapped input, before the halves are put together. -/
def mapped2 (x c c1 h h1 s s1 : FVec Ideal S64x2048 .f32) : FVec Ideal S64x2048 .f32 :=
  select (k0_pay174 x) (addf h (mulf (mulf (k0_pay166 h h1) (addf (mulf (k0_pay168 c c1 h h1) (k0_pay172 (k0_pay167 c c1) (k0_pay169 x c))) (mulf s (k0_pay171 (k0_pay167 c c1) (k0_pay169 x c))))) (k0_pay173 s s1 (k0_pay167 c c1) (k0_pay168 c c1 h h1) (k0_pay169 x c)))) x

/-- The second mapped input at an index. -/
theorem mapped2_apply : mapped2 x c c1 h h1 s s1 i = kOut (x i) (c i) (c1 i) (h i) (h1 i) (s i) (s1 i) := rfl

/-- The stored block from the mapped input. -/
theorem p176_eq (u : FVec Ideal S64x2048 .f32) : k0_pay176 x u h s s1 (k0_pay166 h h1) (k0_pay167 c c1) (k0_pay168 c c1 h h1) (k0_pay169 x c)
    = transpose S2048x128 [1, 0] (concatenate S128x2048 0 [⟨S64x2048, mapped2 x c c1 h h1 s s1⟩, ⟨S64x2048, u⟩] concatenates_S64x2048_S64x2048_S128x2048_d0) transposes_S128x2048_p1_0_S2048x128 := rfl

end Cert.KernelIdeal.Gen

end
-- ==== Proof.Eqs.lean ====
/- The shared values of the kernel body, each as the payload it is of the shared values before it. -/
module

public import proofs.«01_k».proof.Proof.Pay
public import proofs.«01_k».proof.Proof.Gen.KernelIdeal.Frame

@[expose] public section

set_option maxRecDepth 16384

noncomputable section

namespace Cert.KernelIdeal.Gen

open Idealize.ShloMosaic Cert.Spline

variable (x0 : Vec Ideal S2048x128 .f32) (x1 : Vec Ideal S256x64 .bf16) (x2 : Vec Ideal S256x1 .f32) (x3 : Vec Ideal S256x256 .bf16) (x4 : Vec Ideal S256x1 .f32) (x5 : Vec Ideal S1472x256 .bf16) (x6 : Vec Ideal S1472x1 .f32)
  (x7 : Vec Ideal S256x64 .bf16) (x8 : Vec Ideal S256x1 .f32) (x9 : Vec Ideal S256x256 .bf16) (x10 : Vec Ideal S256x1 .f32) (x11 : Vec Ideal S1472x256 .bf16) (x12 : Vec Ideal S1472x1 .f32)

/-- Shared value 177. -/
theorem eq177 : k0_pay177 x0 x1 x2 x3 x4 x5 x6 x7 x8 x9 x10 x11 x12 = k0_pay3 (View.ld x0 r0_0) := rfl

/-- Shared value 178. -/
theorem eq178 : k0_pay178 x0 x1 x2 x3 x4 x5 x6 x7 x8 x9 x10 x11 x12 = k0_pay4 (View.ld x0 r0_0) := rfl

/-- Shared value 179. -/
theorem eq179 : k0_pay179 x0 x1 x2 x3 x4 x5 x6 x7 x8 x9 x10 x11 x12 = k0_pay5 (View.ld x0 r0_0) (View.ld x2 r0_1) (View.ld x4 r0_1) (View.ld x1 r0_2) (View.ld x3 r0_3) := rfl

/-- Shared value 180. -/
theorem eq180 : k0_pay180 x0 x1 x2 x3 x4 x5 x6 x7 x8 x9 x10 x11 x12 = k0_pay7 (View.ld x0 r0_0) (View.ld x2 r0_1) (View.ld x4 r0_1) (View.ld x1 r0_2) (View.ld x3 r0_3) (View.ld x5 r0_4) (View.ld x6 r0_5) := rfl

/-- Shared value 181. -/
theorem eq181 : k0_pay181 x0 x1 x2 x3 x4 x5 x6 x7 x8 x9 x10 x11 x12 = k0_pay8 (View.ld x0 r0_0) (View.ld x2 r0_1) (View.ld x4 r0_1) (View.ld x1 r0_2) (View.ld x3 r0_3) (View.ld x5 r0_4) (View.ld x6 r0_5) := rfl

/-- Shared value 182. -/
theorem eq182 : k0_pay182 x0 x1 x2 x3 x4 x5 x6 x7 x8 x9 x10 x11 x12 = k0_pay9 (View.ld x0 r0_0) (View.ld x2 r0_1) (View.ld x4 r0_1) (View.ld x1 r0_2) (View.ld x3 r0_3) (View.ld x5 r0_4) (View.ld x6 r0_5) := rfl

/-- Shared value 183. -/
theorem eq183 : k0_pay183 x0 x1 x2 x3 x4 x5 x6 x7 x8 x9 x10 x11 x12 = k0_pay10 (View.ld x0 r0_0) (View.ld x2 r0_1) (View.ld x4 r0_1) (View.ld x1 r0_2) (View.ld x3 r0_3) (View.ld x5 r0_4) (View.ld x6 r0_5) := rfl

/-- Shared value 184. -/
theorem eq184 : k0_pay184 x0 x1 x2 x3 x4 x5 x6 x7 x8 x9 x10 x11 x12 = k0_pay11 (View.ld x0 r0_0) (View.ld x2 r0_1) (View.ld x4 r0_1) (View.ld x1 r0_2) (View.ld x3 r0_3) (View.ld x5 r0_4) (View.ld x6 r0_5) := rfl

/-- Shared value 185. -/
theorem eq185 : k0_pay185 x0 x1 x2 x3 x4 x5 x6 x7 x8 x9 x10 x11 x12 = k0_pay12 (View.ld x0 r0_0) (View.ld x2 r0_1) (View.ld x4 r0_1) (View.ld x1 r0_2) (View.ld x3 r0_3) (View.ld x5 r0_4) (View.ld x6 r0_5) := rfl

/-- Shared value 186. -/
theorem eq186 : k0_pay186 x0 x1 x2 x3 x4 x5 x6 x7 x8 x9 x10 x11 x12 = k0_pay13 (View.ld x0 r0_0) (View.ld x2 r0_1) (View.ld x4 r0_1) (View.ld x1 r0_2) (View.ld x3 r0_3) (View.ld x5 r0_4) (View.ld x6 r0_5) := rfl

/-- Shared value 187. -/
theorem eq187 : k0_pay187 x0 x1 x2 x3 x4 x5 x6 x7 x8 x9 x10 x11 x12 = k0_pay14 (View.ld x0 r0_0) (View.ld x2 r0_1) (View.ld x4 r0_1) (View.ld x1 r0_2) (View.ld x3 r0_3) (View.ld x5 r0_4) (View.ld x6 r0_5) := rfl

/-- Shared value 188. -/
theorem eq188 : k0_pay188 x0 x1 x2 x3 x4 x5 x6 x7 x8 x9 x10 x11 x12 = k0_pay15 (View.ld x0 r0_0) (View.ld x2 r0_1) (View.ld x4 r0_1) (View.ld x1 r0_2) (View.ld x3 r0_3) (View.ld x5 r0_4) (View.ld x6 r0_5) := rfl

/-- Shared value 189. -/
theorem eq189 : k0_pay189 x0 x1 x2 x3 x4 x5 x6 x7 x8 x9 x10 x11 x12 = k0_pay22 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 190. -/
theorem eq190 : k0_pay190 x0 x1 x2 x3 x4 x5 x6 x7 x8 x9 x10 x11 x12 = k0_pay23 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 191. -/
theorem eq191 : k0_pay191 x0 x1 x2 x3 x4 x5 x6 x7 x8 x9 x10 x11 x12 = k0_pay24 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 192. -/
theorem eq192 : k0_pay192 x0 x1 x2 x3 x4 x5 x6 x7 x8 x9 x10 x11 x12 = k0_pay25 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 193. -/
theorem eq193 : k0_pay193 x0 x1 x2 x3 x4 x5 x6 x7 x8 x9 x10 x11 x12 = k0_pay26 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 194. -/
theorem eq194 : k0_pay194 x0 x1 x2 x3 x4 x5 x6 x7 x8 x9 x10 x11 x12 = k0_pay27 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 195. -/
theorem eq195 : k0_pay195 x0 x1 x2 x3 x4 x5 x6 x7 x8 x9 x10 x11 x12 = k0_pay28 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 196. -/
theorem eq196 : k0_pay196 x0 x1 x2 x3 x4 x5 x6 x7 x8 x9 x10 x11 x12 = k0_pay29 (k0_pay180 x0 x1 x2 x3 x4 x5 x6 x7 x8 x9 x10 x11 x12) (k0_pay181 x0 x1 x2 x3 x4 x5 x6 x7 x8 x9 x10 x11 x12) (k0_pay182 x0 x1 x2 x3 x4 x5 x6 x7 x8 x9 x10 x11 x12) (k0_pay183 x0 x1 x2 x3 x4 x5 x6 x7 x8 x9 x10 x11 x12) (k0_pay184 x0 x1 x2 x3 x4 x5 x6 x7 x8 x9 x10 x11 x12) (k0_pay185 x0 x1 x2 x3 x4 x5 x6 x7 x8 x9 x10 x11 x12) (k0_pay186 x0 x1 x2 x3 x4 x5 x6 x7 x8 x9 x10 x11 x12) (k0_pay187 x0 x1 x2 x3 x4 x5 x6 x7 x8 x9 x10 x11 x12) (k0_pay188 x0 x1 x2 x3 x4 x5 x6 x7 x8 x9 x10 x11 x12) := rfl

/-- Shared value 197. -/
theorem eq197 : k0_pay197 x0 x1 x2 x3 x4 x5 x6 x7 x8 x9 x10 x11 x12 = k0_pay33 (k0_pay178 x0 x1 x2 x3 x4 x5 x6 x7 x8 x9 x10 x11 x12) (k0_pay192 x0 x1 x2 x3 x4 x5 x6 x7 x8 x9 x10 x11 x12) := rfl

/-- Shared value 198. -/
theorem eq198 : k0_pay198 x0 x1 x2 x3 x4 x5 x6 x7 x8 x9 x10 x11 x12 = k0_pay34 (k0_pay178 x0 x1 x2 x3 x4 x5 x6 x7 x8 x9 x10 x11 x12) (k0_pay193 x0 x1 x2 x3 x4 x5 x6 x7 x8 x9 x10 x11 x12) := rfl

/-- Shared value 199. -/
theorem eq199 : k0_pay199 x0 x1 x2 x3 x4 x5 x6 x7 x8 x9 x10 x11 x12 = k0_pay35 (k0_pay178 x0 x1 x2 x3 x4 x5 x6 x7 x8 x9 x10 x11 x12) (k0_pay194 x0 x1 x2 x3 x4 x5 x6 x7 x8 x9 x10 x11 x12) := rfl

/-- Shared value 200. -/
theorem eq200 : k0_pay200 x0 x1 x2 x3 x4 x5 x6 x7 x8 x9 x10 x11 x12 = k0_pay36 (k0_pay178 x0 x1 x2 x3 x4 x5 x6 x7 x8 x9 x10 x11 x12) (k0_pay195 x0 x1 x2 x3 x4 x5 x6 x7 x8 x9 x10 x11 x12) := rfl

/-- Shared value 201. -/
theorem eq201 : k0_pay201 x0 x1 x2 x3 x4 x5 x6 x7 x8 x9 x10 x11 x12 = k0_pay37 (k0_pay178 x0 x1 x2 x3 x4 x5 x6 x7 x8 x9 x10 x11 x12) (k0_pay196 x0 x1 x2 x3 x4 x5 x6 x7 x8 x9 x10 x11 x12) := rfl

/-- Shared value 202. -/
theorem eq202 : k0_pay202 x0 x1 x2 x3 x4 x5 x6 x7 x8 x9 x10 x11 x12 = k0_pay38 (k0_pay178 x0 x1 x2 x3 x4 x5 x6 x7 x8 x9 x10 x11 x12) (k0_pay189 x0 x1 x2 x3 x4 x5 x6 x7 x8 x9 x10 x11 x12) (k0_pay191 x0 x1 x2 x3 x4 x5 x6 x7 x8 x9 x10 x11 x12) := rfl

/-- Shared value 203. -/
theorem eq203 : k0_pay203 x0 x1 x2 x3 x4 x5 x6 x7 x8 x9 x10 x11 x12 = k0_pay39 (k0_pay178 x0 x1 x2 x3 x4 x5 x6 x7 x8 x9 x10 x11 x12) (k0_pay190 x0 x1 x2 x3 x4 x5 x6 x7 x8 x9 x10 x11 x12) (k0_pay191 x0 x1 x2 x3 x4 x5 x6 x7 x8 x9 x10 x11 x12) := rfl

/-- Shared value 204. -/
theorem eq204 : k0_pay204 x0 x1 x2 x3 x4 x5 x6 x7 x8 x9 x10 x11 x12 = k0_pay40 (k0_pay178 x0 x1 x2 x3 x4 x5 x6 x7 x8 x9 x10 x11 x12) (k0_pay189 x0 x1 x2 x3 x4 x5 x6 x7 x8 x9 x10 x11 x12) (k0_pay190 x0 x1 x2 x3 x4 x5 x6 x7 x8 x9 x10 x11 x12) (k0_pay191 x0 x1 x2 x3 x4 x5 x6 x7 x8 x9 x10 x11 x12) (k0_pay192 x0 x1 x2 x3 x4 x5 x6 x7 x8 x9 x10 x11 x12) (k0_pay193 x0 x1 x2 x3 x4 x5 x6 x7 x8 x9 x10 x11 x12) (k0_pay194 x0 x1 x2 x3 x4 x5 x6 x7 x8 x9 x10 x11 x12) (k0_pay195 x0 x1 x2 x3 x4 x5 x6 x7 x8 x9 x10 x11 x12) (k0_pay196 x0 x1 x2 x3 x4 x5 x6 x7 x8 x9 x10 x11 x12) := rfl

/-- Shared value 205. -/
theorem eq205 : k0_pay205 x0 x1 x2 x3 x4 x5 x6 x7 x8 x9 x10 x11 x12 = k0_pay41 (k0_pay178 x0 x1 x2 x3 x4 x5 x6 x7 x8 x9 x10 x11 x12) (k0_pay189 x0 x1 x2 x3 x4 x5 x6 x7 x8 x9 x10 x11 x12) (k0_pay190 x0 x1 x2 x3 x4 x5 x6 x7 x8 x9 x10 x11 x12) (k0_pay191 x0 x1 x2 x3 x4 x5 x6 x7 x8 x9 x10 x11 x12) (k0_pay192 x0 x1 x2 x3 x4 x5 x6 x7 x8 x9 x10 x11 x12) (k0_pay193 x0 x1 x2 x3 x4 x5 x6 x7 x8 x9 x10 x11 x12) (k0_pay194 x0 x1 x2 x3 x4 x5 x6 x7 x8 x9 x10 x11 x12) (k0_pay195 x0 x1 x2 x3 x4 x5 x6 x7 x8 x9 x10 x11 x12) (k0_pay196 x0 x1 x2 x3 x4 x5 x6 x7 x8 x9 x10 x11 x12) := rfl

/-- Shared value 206. -/
theorem eq206 : k0_pay206 x0 x1 x2 x3 x4 x5 x6 x7 x8 x9 x10 x11 x12 = k0_pay42 (k0_pay179 x0 x1 x2 x3 x4 x5 x6 x7 x8 x9 x10 x11 x12) (View.ld x5 r0_6) (View.ld x6 r0_7) := rfl

/-- Shared value 207. -/
theorem eq207 : k0_pay207 x0 x1 x2 x3 x4 x5 x6 x7 x8 x9 x10 x11 x12 = k0_pay43 (k0_pay179 x0 x1 x2 x3 x4 x5 x6 x7 x8 x9 x10 x11 x12) (View.ld x5 r0_6) (View.ld x6 r0_7) := rfl

/-- Shared value 208. -/
theorem eq208 : k0_pay208 x0 x1 x2 x3 x4 x5 x6 x7 x8 x9 x10 x11 x12 = k0_pay44 (k0_pay179 x0 x1 x2 x3 x4 x5 x6 x7 x8 x9 x10 x11 x12) (View.ld x5 r0_6) (View.ld x6 r0_7) := rfl

/-- Shared value 209. -/
theorem eq209 : k0_pay209 x0 x1 x2 x3 x4 x5 x6 x7 x8 x9 x10 x11 x12 = k0_pay45 (k0_pay179 x0 x1 x2 x3 x4 x5 x6 x7 x8 x9 x10 x11 x12) (View.ld x5 r0_6) (View.ld x6 r0_7) := rfl

/-- Shared value 210. -/
theorem eq210 : k0_pay210 x0 x1 x2 x3 x4 x5 x6 x7 x8 x9 x10 x11 x12 = k0_pay56 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 211. -/
theorem eq211 : k0_pay211 x0 x1 x2 x3 x4 x5 x6 x7 x8 x9 x10 x11 x12 = k0_pay57 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 212. -/
theorem eq212 : k0_pay212 x0 x1 x2 x3 x4 x5 x6 x7 x8 x9 x10 x11 x12 = k0_pay58 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 213. -/
theorem eq213 : k0_pay213 x0 x1 x2 x3 x4 x5 x6 x7 x8 x9 x10 x11 x12 = k0_pay59 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 214. -/
theorem eq214 : k0_pay214 x0 x1 x2 x3 x4 x5 x6 x7 x8 x9 x10 x11 x12 = k0_pay60 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 215. -/
theorem eq215 : k0_pay215 x0 x1 x2 x3 x4 x5 x6 x7 x8 x9 x10 x11 x12 = k0_pay61 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 216. -/
theorem eq216 : k0_pay216 x0 x1 x2 x3 x4 x5 x6 x7 x8 x9 x10 x11 x12 = k0_pay62 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 217. -/
theorem eq217 : k0_pay217 x0 x1 x2 x3 x4 x5 x6 x7 x8 x9 x10 x11 x12 = k0_pay63 (k0_pay206 x0 x1 x2 x3 x4 x5 x6 x7 x8 x9 x10 x11 x12) (k0_pay207 x0 x1 x2 x3 x4 x5 x6 x7 x8 x9 x10 x11 x12) (k0_pay208 x0 x1 x2 x3 x4 x5 x6 x7 x8 x9 x10 x11 x12) (k0_pay209 x0 x1 x2 x3 x4 x5 x6 x7 x8 x9 x10 x11 x12) := rfl

/-- Shared value 218. -/
theorem eq218 : k0_pay218 x0 x1 x2 x3 x4 x5 x6 x7 x8 x9 x10 x11 x12 = k0_pay68 (k0_pay197 x0 x1 x2 x3 x4 x5 x6 x7 x8 x9 x10 x11 x12) (k0_pay198 x0 x1 x2 x3 x4 x5 x6 x7 x8 x9 x10 x11 x12) (k0_pay199 x0 x1 x2 x3 x4 x5 x6 x7 x8 x9 x10 x11 x12) (k0_pay200 x0 x1 x2 x3 x4 x5 x6 x7 x8 x9 x10 x11 x12) (k0_pay201 x0 x1 x2 x3 x4 x5 x6 x7 x8 x9 x10 x11 x12) (k0_pay202 x0 x1 x2 x3 x4 x5 x6 x7 x8 x9 x10 x11 x12) (k0_pay203 x0 x1 x2 x3 x4 x5 x6 x7 x8 x9 x10 x11 x12) (k0_pay210 x0 x1 x2 x3 x4 x5 x6 x7 x8 x9 x10 x11 x12) (k0_pay211 x0 x1 x2 x3 x4 x5 x6 x7 x8 x9 x10 x11 x12) (k0_pay212 x0 x1 x2 x3 x4 x5 x6 x7 x8 x9 x10 x11 x12) (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) := rfl

/-- Shared value 219. -/
theorem eq219 : k0_pay219 x0 x1 x2 x3 x4 x5 x6 x7 x8 x9 x10 x11 x12 = k0_pay69 (k0_pay197 x0 x1 x2 x3 x4 x5 x6 x7 x8 x9 x10 x11 x12) (k0_pay198 x0 x1 x2 x3 x4 x5 x6 x7 x8 x9 x10 x11 x12) (k0_pay199 x0 x1 x2 x3 x4 x5 x6 x7 x8 x9 x10 x11 x12) (k0_pay200 x0 x1 x2 x3 x4 x5 x6 x7 x8 x9 x10 x11 x12) (k0_pay201 x0 x1 x2 x3 x4 x5 x6 x7 x8 x9 x10 x11 x12) (k0_pay202 x0 x1 x2 x3 x4 x5 x6 x7 x8 x9 x10 x11 x12) (k0_pay203 x0 x1 x2 x3 x4 x5 x6 x7 x8 x9 x10 x11 x12) (k0_pay210 x0 x1 x2 x3 x4 x5 x6 x7 x8 x9 x10 x11 x12) (k0_pay211 x0 x1 x2 x3 x4 x5 x6 x7 x8 x9 x10 x11 x12) (k0_pay212 x0 x1 x2 x3 x4 x5 x6 x7 x8 x9 x10 x11 x12) (k0_pay213 x0 x1 x2 x3 x4 x5 x6 x7 x8 x9 x10 x11 x12) (k0_pay214 x0 x1 x2 x3 x4 x5 x6 x7 x8 x9 x10 x11 x12) (k0_pay215 x0 x1 x2 x3 x4 x5 x6 x7 x8 x9 x10 x11 x12) (k0_pay216 x0 x1 x2 x3 x4 x5 x6 x7 x8 x9 x10 x11 x12) (k0_pay217 x0 x1 x2 x3 x4 x5 x6 x7 x8 x9 x10 x11 x12) := rfl

/-- Shared value 220. -/
theorem eq220 : k0_pay220 x0 x1 x2 x3 x4 x5 x6 x7 x8 x9 x10 x11 x12 = k0_pay70 (k0_pay179 x0 x1 x2 x3 x4 x5 x6 x7 x8 x9 x10 x11 x12) (View.ld x5 r0_8) (View.ld x6 r0_9) := rfl

/-- Shared value 221. -/
theorem eq221 : k0_pay221 x0 x1 x2 x3 x4 x5 x6 x7 x8 x9 x10 x11 x12 = k0_pay71 (k0_pay179 x0 x1 x2 x3 x4 x5 x6 x7 x8 x9 x10 x11 x12) (View.ld x5 r0_8) (View.ld x6 r0_9) := rfl

/-- Shared value 222. -/
theorem eq222 : k0_pay222 x0 x1 x2 x3 x4 x5 x6 x7 x8 x9 x10 x11 x12 = k0_pay72 (k0_pay179 x0 x1 x2 x3 x4 x5 x6 x7 x8 x9 x10 x11 x12) (View.ld x5 r0_8) (View.ld x6 r0_9) := rfl

/-- Shared value 223. -/
theorem eq223 : k0_pay223 x0 x1 x2 x3 x4 x5 x6 x7 x8 x9 x10 x11 x12 = k0_pay73 (k0_pay179 x0 x1 x2 x3 x4 x5 x6 x7 x8 x9 x10 x11 x12) (View.ld x5 r0_8) (View.ld x6 r0_9) := rfl

/-- Shared value 224. -/
theorem eq224 : k0_pay224 x0 x1 x2 x3 x4 x5 x6 x7 x8 x9 x10 x11 x12 = k0_pay78 (k0_pay197 x0 x1 x2 x3 x4 x5 x6 x7 x8 x9 x10 x11 x12) (k0_pay198 x0 x1 x2 x3 x4 x5 x6 x7 x8 x9 x10 x11 x12) (k0_pay199 x0 x1 x2 x3 x4 x5 x6 x7 x8 x9 x10 x11 x12) (k0_pay200 x0 x1 x2 x3 x4 x5 x6 x7 x8 x9 x10 x11 x12) (k0_pay201 x0 x1 x2 x3 x4 x5 x6 x7 x8 x9 x10 x11 x12) (k0_pay202 x0 x1 x2 x3 x4 x5 x6 x7 x8 x9 x10 x11 x12) (k0_pay203 x0 x1 x2 x3 x4 x5 x6 x7 x8 x9 x10 x11 x12) (k0_pay220 x0 x1 x2 x3 x4 x5 x6 x7 x8 x9 x10 x11 x12) (k0_pay221 x0 x1 x2 x3 x4 x5 x6 x7 x8 x9 x10 x11 x12) (k0_pay222 x0 x1 x2 x3 x4 x5 x6 x7 x8 x9 x10 x11 x12) (k0_pay223 x0 x1 x2 x3 x4 x5 x6 x7 x8 x9 x10 x11 x12) := rfl

/-- Shared value 225. -/
theorem eq225 : k0_pay225 x0 x1 x2 x3 x4 x5 x6 x7 x8 x9 x10 x11 x12 = k0_pay79 (k0_pay197 x0 x1 x2 x3 x4 x5 x6 x7 x8 x9 x10 x11 x12) (k0_pay198 x0 x1 x2 x3 x4 x5 x6 x7 x8 x9 x10 x11 x12) (k0_pay199 x0 x1 x2 x3 x4 x5 x6 x7 x8 x9 x10 x11 x12) (k0_pay200 x0 x1 x2 x3 x4 x5 x6 x7 x8 x9 x10 x11 x12) (k0_pay201 x0 x1 x2 x3 x4 x5 x6 x7 x8 x9 x10 x11 x12) (k0_pay202 x0 x1 x2 x3 x4 x5 x6 x7 x8 x9 x10 x11 x12) (k0_pay203 x0 x1 x2 x3 x4 x5 x6 x7 x8 x9 x10 x11 x12) (k0_pay220 x0 x1 x2 x3 x4 x5 x6 x7 x8 x9 x10 x11 x12) (k0_pay221 x0 x1 x2 x3 x4 x5 x6 x7 x8 x9 x10 x11 x12) (k0_pay222 x0 x1 x2 x3 x4 x5 x6 x7 x8 x9 x10 x11 x12) (k0_pay223 x0 x1 x2 x3 x4 x5 x6 x7 x8 x9 x10 x11 x12) := rfl

/-- Shared value 226. -/
theorem eq226 : k0_pay226 x0 x1 x2 x3 x4 x5 x6 x7 x8 x9 x10 x11 x12 = k0_pay88 (k0_pay178 x0 x1 x2 x3 x4 x5 x6 x7 x8 x9 x10 x11 x12) (k0_pay204 x0 x1 x2 x3 x4 x5 x6 x7 x8 x9 x10 x11 x12) (k0_pay205 x0 x1 x2 x3 x4 x5 x6 x7 x8 x9 x10 x11 x12) (k0_pay218 x0 x1 x2 x3 x4 x5 x6 x7 x8 x9 x10 x11 x12) (k0_pay219 x0 x1 x2 x3 x4 x5 x6 x7 x8 x9 x10 x11 x12) (k0_pay224 x0 x1 x2 x3 x4 x5 x6 x7 x8 x9 x10 x11 x12) (k0_pay225 x0 x1 x2 x3 x4 x5 x6 x7 x8 x9 x10 x11 x12) := rfl

/-- Shared value 227. -/
theorem eq227 : k0_pay227 x0 x1 x2 x3 x4 x5 x6 x7 x8 x9 x10 x11 x12 = k0_pay90 (k0_pay226 x0 x1 x2 x3 x4 x5 x6 x7 x8 x9 x10 x11 x12) (View.ld x8 r0_1) (View.ld x10 r0_1) (View.ld x7 r0_2) (View.ld x9 r0_3) := rfl

/-- Shared value 228. -/
theorem eq228 : k0_pay228 x0 x1 x2 x3 x4 x5 x6 x7 x8 x9 x10 x11 x12 = k0_pay93 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 229. -/
theorem eq229 : k0_pay229 x0 x1 x2 x3 x4 x5 x6 x7 x8 x9 x10 x11 x12 = k0_pay94 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 230. -/
theorem eq230 : k0_pay230 x0 x1 x2 x3 x4 x5 x6 x7 x8 x9 x10 x11 x12 = k0_pay95 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 231. -/
theorem eq231 : k0_pay231 x0 x1 x2 x3 x4 x5 x6 x7 x8 x9 x10 x11 x12 = k0_pay96 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 232. -/
theorem eq232 : k0_pay232 x0 x1 x2 x3 x4 x5 x6 x7 x8 x9 x10 x11 x12 = k0_pay97 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 233. -/
theorem eq233 : k0_pay233 x0 x1 x2 x3 x4 x5 x6 x7 x8 x9 x10 x11 x12 = k0_pay98 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 234. -/
theorem eq234 : k0_pay234 x0 x1 x2 x3 x4 x5 x6 x7 x8 x9 x10 x11 x12 = k0_pay99 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 235. -/
theorem eq235 : k0_pay235 x0 x1 x2 x3 x4 x5 x6 x7 x8 x9 x10 x11 x12 = k0_pay100 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 236. -/
theorem eq236 : k0_pay236 x0 x1 x2 x3 x4 x5 x6 x7 x8 x9 x10 x11 x12 = k0_pay101 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5) := rfl

/-- Shared value 237. -/
theorem eq237 : k0_pay237 x0 x1 x2 x3 x4 x5 x6 x7 x8 x9 x10 x11 x12 = k0_pay107 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 238. -/
theorem eq238 : k0_pay238 x0 x1 x2 x3 x4 x5 x6 x7 x8 x9 x10 x11 x12 = k0_pay108 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 239. -/
theorem eq239 : k0_pay239 x0 x1 x2 x3 x4 x5 x6 x7 x8 x9 x10 x11 x12 = k0_pay109 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 240. -/
theorem eq240 : k0_pay240 x0 x1 x2 x3 x4 x5 x6 x7 x8 x9 x10 x11 x12 = k0_pay110 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 241. -/
theorem eq241 : k0_pay241 x0 x1 x2 x3 x4 x5 x6 x7 x8 x9 x10 x11 x12 = k0_pay111 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 242. -/
theorem eq242 : k0_pay242 x0 x1 x2 x3 x4 x5 x6 x7 x8 x9 x10 x11 x12 = k0_pay112 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 243. -/
theorem eq243 : k0_pay243 x0 x1 x2 x3 x4 x5 x6 x7 x8 x9 x10 x11 x12 = k0_pay113 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 244. -/
theorem eq244 : k0_pay244 x0 x1 x2 x3 x4 x5 x6 x7 x8 x9 x10 x11 x12 = k0_pay114 (k0_pay228 x0 x1 x2 x3 x4 x5 x6 x7 x8 x9 x10 x11 x12) (k0_pay229 x0 x1 x2 x3 x4 x5 x6 x7 x8 x9 x10 x11 x12) (k0_pay230 x0 x1 x2 x3 x4 x5 x6 x7 x8 x9 x10 x11 x12) (k0_pay231 x0 x1 x2 x3 x4 x5 x6 x7 x8 x9 x10 x11 x12) (k0_pay232 x0 x1 x2 x3 x4 x5 x6 x7 x8 x9 x10 x11 x12) (k0_pay233 x0 x1 x2 x3 x4 x5 x6 x7 x8 x9 x10 x11 x12) (k0_pay234 x0 x1 x2 x3 x4 x5 x6 x7 x8 x9 x10 x11 x12) (k0_pay235 x0 x1 x2 x3 x4 x5 x6 x7 x8 x9 x10 x11 x12) (k0_pay236 x0 x1 x2 x3 x4 x5 x6 x7 x8 x9 x10 x11 x12) := rfl

/-- Shared value 245. -/
theorem eq245 : k0_pay245 x0 x1 x2 x3 x4 x5 x6 x7 x8 x9 x10 x11 x12 = k0_pay117 (k0_pay177 x0 x1 x2 x3 x4 x5 x6 x7 x8 x9 x10 x11 x12) (k0_pay239 x0 x1 x2 x3 x4 x5 x6 x7 x8 x9 x10 x11 x12) := rfl

/-- Shared value 246. -/
theorem eq246 : k0_pay246 x0 x1 x2 x3 x4 x5 x6 x7 x8 x9 x10 x11 x12 = k0_pay118 (k0_pay177 x0 x1 x2 x3 x4 x5 x6 x7 x8 x9 x10 x11 x12) (k0_pay240 x0 x1 x2 x3 x4 x5 x6 x7 x8 x9 x10 x11 x12) := rfl

/-- Shared value 247. -/
theorem eq247 : k0_pay247 x0 x1 x2 x3 x4 x5 x6 x7 x8 x9 x10 x11 x12 = k0_pay119 (k0_pay177 x0 x1 x2 x3 x4 x5 x6 x7 x8 x9 x10 x11 x12) (k0_pay241 x0 x1 x2 x3 x4 x5 x6 x7 x8 x9 x10 x11 x12) := rfl

/-- Shared value 248. -/
theorem eq248 : k0_pay248 x0 x1 x2 x3 x4 x5 x6 x7 x8 x9 x10 x11 x12 = k0_pay120 (k0_pay177 x0 x1 x2 x3 x4 x5 x6 x7 x8 x9 x10 x11 x12) (k0_pay242 x0 x1 x2 x3 x4 x5 x6 x7 x8 x9 x10 x11 x12) := rfl

/-- Shared value 249. -/
theorem eq249 : k0_pay249 x0 x1 x2 x3 x4 x5 x6 x7 x8 x9 x10 x11 x12 = k0_pay121 (k0_pay177 x0 x1 x2 x3 x4 x5 x6 x7 x8 x9 x10 x11 x12) (k0_pay243 x0 x1 x2 x3 x4 x5 x6 x7 x8 x9 x10 x11 x12) := rfl

/-- Shared value 250. -/
theorem eq250 : k0_pay250 x0 x1 x2 x3 x4 x5 x6 x7 x8 x9 x10 x11 x12 = k0_pay122 (k0_pay177 x0 x1 x2 x3 x4 x5 x6 x7 x8 x9 x10 x11 x12) (k0_pay244 x0 x1 x2 x3 x4 x5 x6 x7 x8 x9 x10 x11 x12) := rfl

/-- Shared value 251. -/
theorem eq251 : k0_pay251 x0 x1 x2 x3 x4 x5 x6 x7 x8 x9 x10 x11 x12 = k0_pay123 (k0_pay177 x0 x1 x2 x3 x4 x5 x6 x7 x8 x9 x10 x11 x12) (k0_pay237 x0 x1 x2 x3 x4 x5 x6 x7 x8 x9 x10 x11 x12) (k0_pay238 x0 x1 x2 x3 x4 x5 x6 x7 x8 x9 x10 x11 x12) := rfl

/-- Shared value 252. -/
theorem eq252 : k0_pay252 x0 x1 x2 x3 x4 x5 x6 x7 x8 x9 x10 x11 x12 = k0_pay124 (k0_pay177 x0 x1 x2 x3 x4 x5 x6 x7 x8 x9 x10 x11 x12) (k0_pay237 x0 x1 x2 x3 x4 x5 x6 x7 x8 x9 x10 x11 x12) (k0_pay238 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (k0_pay241 x0 x1 x2 x3 x4 x5 x6 x7 x8 x9 x10 x11 x12) (k0_pay242 x0 x1 x2 x3 x4 x5 x6 x7 x8 x9 x10 x11 x12) (k0_pay243 x0 x1 x2 x3 x4 x5 x6 x7 x8 x9 x10 x11 x12) (k0_pay244 x0 x1 x2 x3 x4 x5 x6 x7 x8 x9 x10 x11 x12) := rfl

/-- Shared value 253. -/
theorem eq253 : k0_pay253 x0 x1 x2 x3 x4 x5 x6 x7 x8 x9 x10 x11 x12 = k0_pay125 (k0_pay177 x0 x1 x2 x3 x4 x5 x6 x7 x8 x9 x10 x11 x12) (k0_pay237 x0 x1 x2 x3 x4 x5 x6 x7 x8 x9 x10 x11 x12) (k0_pay238 x0 x1 x2 x3 x4 x5 x6 x7 x8 x9 x10 x11 x12) (k0_pay239 x0 x1 x2 x3 x4 x5 x6 x7 x8 x9 x10 x11 x12) (k0_pay240 x0 x1 x2 x3 x4 x5 x6 x7 x8 x9 x10 x11 x12) (k0_pay241 x0 x1 x2 x3 x4 x5 x6 x7 x8 x9 x10 x11 x12) (k0_pay242 x0 x1 x2 x3 x4 x5 x6 x7 x8 x9 x10 x11 x12) (k0_pay243 x0 x1 x2 x3 x4 x5 x6 x7 x8 x9 x10 x11 x12) (k0_pay244 x0 x1 x2 x3 x4 x5 x6 x7 x8 x9 x10 x11 x12) := rfl

/-- Shared value 254. -/
theorem eq254 : k0_pay254 x0 x1 x2 x3 x4 x5 x6 x7 x8 x9 x10 x11 x12 = k0_pay127 (k0_pay227 x0 x1 x2 x3 x4 x5 x6 x7 x8 x9 x10 x11 x12) (View.ld x11 r0_6) (View.ld x12 r0_7) := rfl

/-- Shared value 255. -/
theorem eq255 : k0_pay255 x0 x1 x2 x3 x4 x5 x6 x7 x8 x9 x10 x11 x12 = k0_pay128 (k0_pay227 x0 x1 x2 x3 x4 x5 x6 x7 x8 x9 x10 x11 x12) (View.ld x11 r0_6) (View.ld x12 r0_7) := rfl

/-- Shared value 256. -/
theorem eq256 : k0_pay256 x0 x1 x2 x3 x4 x5 x6 x7 x8 x9 x10 x11 x12 = k0_pay129 (k0_pay227 x0 x1 x2 x3 x4 x5 x6 x7 x8 x9 x10 x11 x12) (View.ld x11 r0_6) (View.ld x12 r0_7) := rfl

/-- Shared value 257. -/
theorem eq257 : k0_pay257 x0 x1 x2 x3 x4 x5 x6 x7 x8 x9 x10 x11 x12 = k0_pay130 (k0_pay227 x0 x1 x2 x3 x4 x5 x6 x7 x8 x9 x10 x11 x12) (View.ld x11 r0_6) (View.ld x12 r0_7) := rfl

/-- Shared value 258. -/
theorem eq258 : k0_pay258 x0 x1 x2 x3 x4 x5 x6 x7 x8 x9 x10 x11 x12 = k0_pay131 (k0_pay227 x0 x1 x2 x3 x4 x5 x6 x7 x8 x9 x10 x11 x12) (View.ld x11 r0_6) (View.ld x12 r0_7) := rfl

/-- Shared value 259. -/
theorem eq259 : k0_pay259 x0 x1 x2 x3 x4 x5 x6 x7 x8 x9 x10 x11 x12 = k0_pay132 (k0_pay227 x0 x1 x2 x3 x4 x5 x6 x7 x8 x9 x10 x11 x12) (View.ld x11 r0_6) (View.ld x12 r0_7) := rfl

/-- Shared value 260. -/
theorem eq260 : k0_pay260 x0 x1 x2 x3 x4 x5 x6 x7 x8 x9 x10 x11 x12 = k0_pay133 (k0_pay227 x0 x1 x2 x3 x4 x5 x6 x7 x8 x9 x10 x11 x12) (View.ld x11 r0_6) (View.ld x12 r0_7) := rfl

/-- Shared value 261. -/
theorem eq261 : k0_pay261 x0 x1 x2 x3 x4 x5 x6 x7 x8 x9 x10 x11 x12 = k0_pay134 (k0_pay227 x0 x1 x2 x3 x4 x5 x6 x7 x8 x9 x10 x11 x12) (View.ld x11 r0_6) (View.ld x12 r0_7) := rfl

/-- Shared value 262. -/
theorem eq262 : k0_pay262 x0 x1 x2 x3 x4 x5 x6 x7 x8 x9 x10 x11 x12 = k0_pay135 (k0_pay227 x0 x1 x2 x3 x4 x5 x6 x7 x8 x9 x10 x11 x12) (View.ld x11 r0_6) (View.ld x12 r0_7) := rfl

/-- Shared value 263. -/
theorem eq263 : k0_pay263 x0 x1 x2 x3 x4 x5 x6 x7 x8 x9 x10 x11 x12 = k0_pay142 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 264. -/
theorem eq264 : k0_pay264 x0 x1 x2 x3 x4 x5 x6 x7 x8 x9 x10 x11 x12 = k0_pay143 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 265. -/
theorem eq265 : k0_pay265 x0 x1 x2 x3 x4 x5 x6 x7 x8 x9 x10 x11 x12 = k0_pay144 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 266. -/
theorem eq266 : k0_pay266 x0 x1 x2 x3 x4 x5 x6 x7 x8 x9 x10 x11 x12 = k0_pay145 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 267. -/
theorem eq267 : k0_pay267 x0 x1 x2 x3 x4 x5 x6 x7 x8 x9 x10 x11 x12 = k0_pay146 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 268. -/
theorem eq268 : k0_pay268 x0 x1 x2 x3 x4 x5 x6 x7 x8 x9 x10 x11 x12 = k0_pay147 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 269. -/
theorem eq269 : k0_pay269 x0 x1 x2 x3 x4 x5 x6 x7 x8 x9 x10 x11 x12 = k0_pay148 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 270. -/
theorem eq270 : k0_pay270 x0 x1 x2 x3 x4 x5 x6 x7 x8 x9 x10 x11 x12 = k0_pay149 (k0_pay254 x0 x1 x2 x3 x4 x5 x6 x7 x8 x9 x10 x11 x12) (k0_pay255 x0 x1 x2 x3 x4 x5 x6 x7 x8 x9 x10 x11 x12) (k0_pay256 x0 x1 x2 x3 x4 x5 x6 x7 x8 x9 x10 x11 x12) (k0_pay257 x0 x1 x2 x3 x4 x5 x6 x7 x8 x9 x10 x11 x12) (k0_pay258 x0 x1 x2 x3 x4 x5 x6 x7 x8 x9 x10 x11 x12) (k0_pay259 x0 x1 x2 x3 x4 x5 x6 x7 x8 x9 x10 x11 x12) (k0_pay260 x0 x1 x2 x3 x4 x5 x6 x7 x8 x9 x10 x11 x12) (k0_pay261 x0 x1 x2 x3 x4 x5 x6 x7 x8 x9 x10 x11 x12) (k0_pay262 x0 x1 x2 x3 x4 x5 x6 x7 x8 x9 x10 x11 x12) := rfl

/-- Shared value 271. -/
theorem eq271 : k0_pay271 x0 x1 x2 x3 x4 x5 x6 x7 x8 x9 x10 x11 x12 = k0_pay153 (k0_pay245 x0 x1 x2 x3 x4 x5 x6 x7 x8 x9 x10 x11 x12) (k0_pay246 x0 x1 x2 x3 x4 x5 x6 x7 x8 x9 x10 x11 x12) (k0_pay247 x0 x1 x2 x3 x4 x5 x6 x7 x8 x9 x10 x11 x12) (k0_pay248 x0 x1 x2 x3 x4 x5 x6 x7 x8 x9 x10 x11 x12) (k0_pay249 x0 x1 x2 x3 x4 x5 x6 x7 x8 x9 x10 x11 x12) (k0_pay250 x0 x1 x2 x3 x4 x5 x6 x7 x8 x9 x10 x11 x12) (k0_pay251 x0 x1 x2 x3 x4 x5 x6 x7 x8 x9 x10 x11 x12) (k0_pay263 x0 x1 x2 x3 x4 x5 x6 x7 x8 x9 x10 x11 x12) (k0_pay264 x0 x1 x2 x3 x4 x5 x6 x7 x8 x9 x10 x11 x12) (k0_pay265 x0 x1 x2 x3 x4 x5 x6 x7 x8 x9 x10 x11 x12) (k0_pay266 x0 x1 x2 x3 x4 x5 x6 x7 x8 x9 x10 x11 x12) (k0_pay267 x0 x1 x2 x3 x4 x5 x6 x7 x8 x9 x10 x11 x12) (k0_pay268 x0 x1 x2 x3 x4 x5 x6 x7 x8 x9 x10 x11 x12) (k0_pay269 x0 x1 x2 x3 x4 x5 x6 x7 x8 x9 x10 x11 x12) (k0_pay270 x0 x1 x2 x3 x4 x5 x6 x7 x8 x9 x10 x11 x12) := rfl

/-- Shared value 272. -/
theorem eq272 : k0_pay272 x0 x1 x2 x3 x4 x5 x6 x7 x8 x9 x10 x11 x12 = k0_pay154 (k0_pay245 x0 x1 x2 x3 x4 x5 x6 x7 x8 x9 x10 x11 x12) (k0_pay246 x0 x1 x2 x3 x4 x5 x6 x7 x8 x9 x10 x11 x12) (k0_pay247 x0 x1 x2 x3 x4 x5 x6 x7 x8 x9 x10 x11 x12) (k0_pay248 x0 x1 x2 x3 x4 x5 x6 x7 x8 x9 x10 x11 x12) (k0_pay249 x0 x1 x2 x3 x4 x5 x6 x7 x8 x9 x10 x11 x12) (k0_pay250 x0 x1 x2 x3 x4 x5 x6 x7 x8 x9 x10 x11 x12) (k0_pay251 x0 x1 x2 x3 x4 x5 x6 x7 x8 x9 x10 x11 x12) (k0_pay263 x0 x1 x2 x3 x4 x5 x6 x7 x8 x9 x10 x11 x12) (k0_pay264 x0 x1 x2 x3 x4 x5 x6 x7 x8 x9 x10 x11 x12) (k0_pay265 x0 x1 x2 x3 x4 x5 x6 x7 x8 x9 x10 x11 x12) (k0_pay266 x0 x1 x2 x3 x4 x5 x6 x7 x8 x9 x10 x11 x12) (k0_pay267 x0 x1 x2 x3 x4 x5 x6 x7 x8 x9 x10 x11 x12) (k0_pay268 x0 x1 x2 x3 x4 x5 x6 x7 x8 x9 x10 x11 x12) (k0_pay269 x0 x1 x2 x3 x4 x5 x6 x7 x8 x9 x10 x11 x12) (k0_pay270 x0 x1 x2 x3 x4 x5 x6 x7 x8 x9 x10 x11 x12) := rfl

/-- Shared value 273. -/
theorem eq273 : k0_pay273 x0 x1 x2 x3 x4 x5 x6 x7 x8 x9 x10 x11 x12 = k0_pay157 (k0_pay227 x0 x1 x2 x3 x4 x5 x6 x7 x8 x9 x10 x11 x12) (View.ld x11 r0_8) (View.ld x12 r0_9) := rfl

/-- Shared value 274. -/
theorem eq274 : k0_pay274 x0 x1 x2 x3 x4 x5 x6 x7 x8 x9 x10 x11 x12 = k0_pay158 (k0_pay227 x0 x1 x2 x3 x4 x5 x6 x7 x8 x9 x10 x11 x12) (View.ld x11 r0_8) (View.ld x12 r0_9) := rfl

/-- Shared value 275. -/
theorem eq275 : k0_pay275 x0 x1 x2 x3 x4 x5 x6 x7 x8 x9 x10 x11 x12 = k0_pay159 (k0_pay227 x0 x1 x2 x3 x4 x5 x6 x7 x8 x9 x10 x11 x12) (View.ld x11 r0_8) (View.ld x12 r0_9) := rfl

/-- Shared value 276. -/
theorem eq276 : k0_pay276 x0 x1 x2 x3 x4 x5 x6 x7 x8 x9 x10 x11 x12 = k0_pay160 (k0_pay227 x0 x1 x2 x3 x4 x5 x6 x7 x8 x9 x10 x11 x12) (View.ld x11 r0_8) (View.ld x12 r0_9) := rfl

/-- Shared value 277. -/
theorem eq277 : k0_pay277 x0 x1 x2 x3 x4 x5 x6 x7 x8 x9 x10 x11 x12 = k0_pay161 (k0_pay227 x0 x1 x2 x3 x4 x5 x6 x7 x8 x9 x10 x11 x12) (View.ld x11 r0_8) (View.ld x12 r0_9) := rfl

/-- Shared value 278. -/
theorem eq278 : k0_pay278 x0 x1 x2 x3 x4 x5 x6 x7 x8 x9 x10 x11 x12 = k0_pay162 (k0_pay227 x0 x1 x2 x3 x4 x5 x6 x7 x8 x9 x10 x11 x12) (View.ld x11 r0_8) (View.ld x12 r0_9) := rfl

/-- Shared value 279. -/
theorem eq279 : k0_pay279 x0 x1 x2 x3 x4 x5 x6 x7 x8 x9 x10 x11 x12 = k0_pay164 (k0_pay246 x0 x1 x2 x3 x4 x5 x6 x7 x8 x9 x10 x11 x12) (k0_pay247 x0 x1 x2 x3 x4 x5 x6 x7 x8 x9 x10 x11 x12) (k0_pay248 x0 x1 x2 x3 x4 x5 x6 x7 x8 x9 x10 x11 x12) (k0_pay249 x0 x1 x2 x3 x4 x5 x6 x7 x8 x9 x10 x11 x12) (k0_pay250 x0 x1 x2 x3 x4 x5 x6 x7 x8 x9 x10 x11 x12) (k0_pay251 x0 x1 x2 x3 x4 x5 x6 x7 x8 x9 x10 x11 x12) (k0_pay273 x0 x1 x2 x3 x4 x5 x6 x7 x8 x9 x10 x11 x12) (k0_pay274 x0 x1 x2 x3 x4 x5 x6 x7 x8 x9 x10 x11 x12) (k0_pay275 x0 x1 x2 x3 x4 x5 x6 x7 x8 x9 x10 x11 x12) (k0_pay276 x0 x1 x2 x3 x4 x5 x6 x7 x8 x9 x10 x11 x12) (k0_pay277 x0 x1 x2 x3 x4 x5 x6 x7 x8 x9 x10 x11 x12) (k0_pay278 x0 x1 x2 x3 x4 x5 x6 x7 x8 x9 x10 x11 x12) (k0_pay163 (k0_pay227 x0 x1 x2 x3 x4 x5 x6 x7 x8 x9 x10 x11 x12) (k0_pay245 x0 x1 x2 x3 x4 x5 x6 x7 x8 x9 x10 x11 x12) (View.ld x11 r0_8) (View.ld x12 r0_9)) := rfl

/-- Shared value 280. -/
theorem eq280 : k0_pay280 x0 x1 x2 x3 x4 x5 x6 x7 x8 x9 x10 x11 x12 = k0_pay165 (k0_pay245 x0 x1 x2 x3 x4 x5 x6 x7 x8 x9 x10 x11 x12) (k0_pay246 x0 x1 x2 x3 x4 x5 x6 x7 x8 x9 x10 x11 x12) (k0_pay247 x0 x1 x2 x3 x4 x5 x6 x7 x8 x9 x10 x11 x12) (k0_pay248 x0 x1 x2 x3 x4 x5 x6 x7 x8 x9 x10 x11 x12) (k0_pay249 x0 x1 x2 x3 x4 x5 x6 x7 x8 x9 x10 x11 x12) (k0_pay250 x0 x1 x2 x3 x4 x5 x6 x7 x8 x9 x10 x11 x12) (k0_pay251 x0 x1 x2 x3 x4 x5 x6 x7 x8 x9 x10 x11 x12) (k0_pay156 (k0_pay227 x0 x1 x2 x3 x4 x5 x6 x7 x8 x9 x10 x11 x12) (View.ld x11 r0_8) (View.ld x12 r0_9)) (k0_pay273 x0 x1 x2 x3 x4 x5 x6 x7 x8 x9 x10 x11 x12) (k0_pay274 x0 x1 x2 x3 x4 x5 x6 x7 x8 x9 x10 x11 x12) (k0_pay275 x0 x1 x2 x3 x4 x5 x6 x7 x8 x9 x10 x11 x12) (k0_pay276 x0 x1 x2 x3 x4 x5 x6 x7 x8 x9 x10 x11 x12) (k0_pay277 x0 x1 x2 x3 x4 x5 x6 x7 x8 x9 x10 x11 x12) (k0_pay278 x0 x1 x2 x3 x4 x5 x6 x7 x8 x9 x10 x11 x12) := rfl

/-- Shared value 281. -/
theorem eq281 : k0_pay281 x0 x1 x2 x3 x4 x5 x6 x7 x8 x9 x10 x11 x12 = k0_pay167 (k0_pay252 x0 x1 x2 x3 x4 x5 x6 x7 x8 x9 x10 x11 x12) (k0_pay253 x0 x1 x2 x3 x4 x5 x6 x7 x8 x9 x10 x11 x12) := rfl

/-- Shared value 282. -/
theorem eq282 : k0_pay282 x0 x1 x2 x3 x4 x5 x6 x7 x8 x9 x10 x11 x12 = k0_pay168 (k0_pay252 x0 x1 x2 x3 x4 x5 x6 x7 x8 x9 x10 x11 x12) (k0_pay253 x0 x1 x2 x3 x4 x5 x6 x7 x8 x9 x10 x11 x12) (k0_pay271 x0 x1 x2 x3 x4 x5 x6 x7 x8 x9 x10 x11 x12) (k0_pay272 x0 x1 x2 x3 x4 x5 x6 x7 x8 x9 x10 x11 x12) := rfl

/-- Shared value 283. -/
theorem eq283 : k0_pay283 x0 x1 x2 x3 x4 x5 x6 x7 x8 x9 x10 x11 x12 = k0_pay169 (k0_pay177 x0 x1 x2 x3 x4 x5 x6 x7 x8 x9 x10 x11 x12) (k0_pay252 x0 x1 x2 x3 x4 x5 x6 x7 x8 x9 x10 x11 x12) := rfl

/-- The maximum of the first three width logits. -/
theorem max188 : k0_pay188 x0 x1 x2 x3 x4 x5 x6 x7 x8 x9 x10 x11 x12 = maximumf (maximumf (k0_pay180 x0 x1 x2 x3 x4 x5 x6 x7 x8 x9 x10 x11 x12) (k0_pay181 x0 x1 x2 x3 x4 x5 x6 x7 x8 x9 x10 x11 x12)) (k0_pay182 x0 x1 x2 x3 x4 x5 x6 x7 x8 x9 x10 x11 x12) := rfl

/-- The largest width logit. -/
theorem max235 : k0_pay235 x0 x1 x2 x3 x4 x5 x6 x7 x8 x9 x10 x11 x12 = maximumf (maximumf (maximumf (maximumf (maximumf (maximumf (maximumf (k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) (k0_pay228 x0 x1 x2 x3 x4 x5 x6 x7 x8 x9 x10 x11 x12)) (k0_pay229 x0 x1 x2 x3 x4 x5 x6 x7 x8 x9 x10 x11 x12)) (k0_pay230 x0 x1 x2 x3 x4 x5 x6 x7 x8 x9 x10 x11 x12)) (k0_pay231 x0 x1 x2 x3 x4 x5 x6 x7 x8 x9 x10 x11 x12)) (k0_pay232 x0 x1 x2 x3 x4 x5 x6 x7 x8 x9 x10 x11 x12)) (k0_pay233 x0 x1 x2 x3 x4 x5 x6 x7 x8 x9 x10 x11 x12)) (k0_pay234 x0 x1 x2 x3 x4 x5 x6 x7 x8 x9 x10 x11 x12) := rfl

/-- The exponential of the first width logit. -/
theorem exp236 : k0_pay236 x0 x1 x2 x3 x4 x5 x6 x7 x8 x9 x10 x11 x12 = exp (subf (k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) (maximumf (maximumf (maximumf (maximumf (maximumf (maximumf (maximumf (k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) (k0_pay228 x0 x1 x2 x3 x4 x5 x6 x7 x8 x9 x10 x11 x12)) (k0_pay229 x0 x1 x2 x3 x4 x5 x6 x7 x8 x9 x10 x11 x12)) (k0_pay230 x0 x1 x2 x3 x4 x5 x6 x7 x8 x9 x10 x11 x12)) (k0_pay231 x0 x1 x2 x3 x4 x5 x6 x7 x8 x9 x10 x11 x12)) (k0_pay232 x0 x1 x2 x3 x4 x5 x6 x7 x8 x9 x10 x11 x12)) (k0_pay233 x0 x1 x2 x3 x4 x5 x6 x7 x8 x9 x10 x11 x12)) (k0_pay234 x0 x1 x2 x3 x4 x5 x6 x7 x8 x9 x10 x11 x12))) := rfl

/-- The partial maximum of the height logits. -/
theorem max262 : k0_pay262 x0 x1 x2 x3 x4 x5 x6 x7 x8 x9 x10 x11 x12 = (maximumf (maximumf (k0_pay254 x0 x1 x2 x3 x4 x5 x6 x7 x8 x9 x10 x11 x12) (k0_pay255 x0 x1 x2 x3 x4 x5 x6 x7 x8 x9 x10 x11 x12)) (k0_pay256 x0 x1 x2 x3 x4 x5 x6 x7 x8 x9 x10 x11 x12)) := rfl

end Cert.KernelIdeal.Gen

end
-- ==== Proof.Stage1.lean ====
/- First spline of the kernel body at one index, when the input and the logits are real. -/
module

public import proofs.«01_k».proof.Proof.Eqs

@[expose] public section

set_option maxRecDepth 16384

noncomputable section

namespace Cert.KernelIdeal.Gen

open Idealize.ShloMosaic Cert.Spline

variable {x0 : Vec Ideal S2048x128 .f32} {x1 : Vec Ideal S256x64 .bf16} {x2 : Vec Ideal S256x1 .f32} {x3 : Vec Ideal S256x256 .bf16} {x4 : Vec Ideal S256x1 .f32} {x5 : Vec Ideal S1472x256 .bf16} {x6 : Vec Ideal S1472x1 .f32}
  {x7 : Vec Ideal S256x64 .bf16} {x8 : Vec Ideal S256x1 .f32} {x9 : Vec Ideal S256x256 .bf16} {x10 : Vec Ideal S256x1 .f32} {x11 : Vec Ideal S1472x256 .bf16} {x12 : Vec Ideal S1472x1 .f32}
  {i : S64x2048.Idx} {x : ℝ} {w h d : ℕ → ℝ}

/-- The seven inner width knots are the real ones. -/
theorem wk1 (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) :
    ∀ k < 7, (lg8 ((k0_pay192 x0 x1 x2 x3 x4 x5 x6 x7 x8 x9 x10 x11 x12) i) ((k0_pay193 x0 x1 x2 x3 x4 x5 x6 x7 x8 x9 x10 x11 x12) i) ((k0_pay194 x0 x1 x2 x3 x4 x5 x6 x7 x8 x9 x10 x11 x12) i) ((k0_pay195 x0 x1 x2 x3 x4 x5 x6 x7 x8 x9 x10 x11 x12) i) ((k0_pay30 (k0_pay196 x0 x1 x2 x3 x4 x5 x6 x7 x8 x9 x10 x11 x12)) i) ((k0_pay31 (k0_pay189 x0 x1 x2 x3 x4 x5 x6 x7 x8 x9 x10 x11 x12) (k0_pay191 x0 x1 x2 x3 x4 x5 x6 x7 x8 x9 x10 x11 x12)) i) ((k0_pay32 (k0_pay190 x0 x1 x2 x3 x4 x5 x6 x7 x8 x9 x10 x11 x12) (k0_pay191 x0 x1 x2 x3 x4 x5 x6 x7 x8 x9 x10 x11 x12)) i) ((k0_pay32 (k0_pay190 x0 x1 x2 x3 x4 x5 x6 x7 x8 x9 x10 x11 x12) (k0_pay191 x0 x1 x2 x3 x4 x5 x6 x7 x8 x9 x10 x11 x12)) i)) k = (knot w (k + 1) : EReal) := by
  intro k hk
  interval_cases k
  · show (k0_pay192 x0 x1 x2 x3 x4 x5 x6 x7 x8 x9 x10 x11 x12) i = _
    rw [eq192, max188]
    exact knot_w1_1 _ _ _ _ _ _ _ _ hw
  · show (k0_pay193 x0 x1 x2 x3 x4 x5 x6 x7 x8 x9 x10 x11 x12) i = _
    rw [eq193, max188]
    exact knot_w1_2 _ _ _ _ _ _ _ _ hw
  · show (k0_pay194 x0 x1 x2 x3 x4 x5 x6 x7 x8 x9 x10 x11 x12) i = _
    rw [eq194, max188]
    exact knot_w1_3 _ _ _ _ _ _ _ _ hw
  · show (k0_pay195 x0 x1 x2 x3 x4 x5 x6 x7 x8 x9 x10 x11 x12) i = _
    rw [eq195, max188]
    exact knot_w1_4 _ _ _ _ _ _ _ _ hw
  · show (k0_pay30 (k0_pay196 x0 x1 x2 x3 x4 x5 x6 x7 x8 x9 x10 x11 x12)) i = _
    rw [eq196, max188]
    exact knot_w1_5 _ _ _ _ _ _ _ _ hw
  · show (k0_pay31 (k0_pay189 x0 x1 x2 x3 x4 x5 x6 x7 x8 x9 x10 x11 x12) (k0_pay191 x0 x1 x2 x3 x4 x5 x6 x7 x8 x9 x10 x11 x12)) i = _
    rw [eq189, eq191, max188]
    exact knot_w1_6 _ _ _ _ _ _ _ _ hw
  · show (k0_pay32 (k0_pay190 x0 x1 x2 x3 x4 x5 x6 x7 x8 x9 x10 x11 x12) (k0_pay191 x0 x1 x2 x3 x4 x5 x6 x7 x8 x9 x10 x11 x12)) i = _
    rw [eq190, eq191, max188]
    exact knot_w1_7 _ _ _ _ _ _ _ _ hw

/-- The seven inner height knots are the real ones. -/
theorem hk1 (hh : ∀ k < 8, (lg8 ((k0_pay207 x0 x1 x2 x3 x4 x5 x6 x7 x8 x9 x10 x11 x12) i) ((k0_pay208 x0 x1 x2 x3 x4 x5 x6 x7 x8 x9 x10 x11 x12) i) ((k0_pay209 x0 x1 x2 x3 x4 x5 x6 x7 x8 x9 x10 x11 x12) i) ((k0_pay46 (k0_pay206 x0 x1 x2 x3 x4 x5 x6 x7 x8 x9 x10 x11 x12)) i) ((k0_pay47 (k0_pay206 x0 x1 x2 x3 x4 x5 x6 x7 x8 x9 x10 x11 x12)) i) ((k0_pay48 (k0_pay206 x0 x1 x2 x3 x4 x5 x6 x7 x8 x9 x10 x11 x12)) i) ((k0_pay49 (k0_pay206 x0 x1 x2 x3 x4 x5 x6 x7 x8 x9 x10 x11 x12)) i) ((k0_pay50 (k0_pay206 x0 x1 x2 x3 x4 x5 x6 x7 x8 x9 x10 x11 x12)) i)) k = (h k : EReal)) :
    ∀ k < 7, (lg8 ((k0_pay214 x0 x1 x2 x3 x4 x5 x6 x7 x8 x9 x10 x11 x12) i) ((k0_pay215 x0 x1 x2 x3 x4 x5 x6 x7 x8 x9 x10 x11 x12) i) ((k0_pay216 x0 x1 x2 x3 x4 x5 x6 x7 x8 x9 x10 x11 x12) i) ((k0_pay64 (k0_pay217 x0 x1 x2 x3 x4 x5 x6 x7 x8 x9 x10 x11 x12)) i) ((k0_pay65 (k0_pay210 x0 x1 x2 x3 x4 x5 x6 x7 x8 x9 x10 x11 x12) (k0_pay213 x0 x1 x2 x3 x4 x5 x6 x7 x8 x9 x10 x11 x12)) i) ((k0_pay66 (k0_pay211 x0 x1 x2 x3 x4 x5 x6 x7 x8 x9 x10 x11 x12) (k0_pay213 x0 x1 x2 x3 x4 x5 x6 x7 x8 x9 x10 x11 x12)) i) ((k0_pay67 (k0_pay212 x0 x1 x2 x3 x4 x5 x6 x7 x8 x9 x10 x11 x12) (k0_pay213 x0 x1 x2 x3 x4 x5 x6 x7 x8 x9 x10 x11 x12)) i) ((k0_pay67 (k0_pay212 x0 x1 x2 x3 x4 x5 x6 x7 x8 x9 x10 x11 x12) (k0_pay213 x0 x1 x2 x3 x4 x5 x6 x7 x8 x9 x10 x11 x12)) i)) k = (knot h (k + 1) : EReal) := by
  intro k hk
  interval_cases k
  · show (k0_pay214 x0 x1 x2 x3 x4 x5 x6 x7 x8 x9 x10 x11 x12) i = _
    rw [eq214]
    exact knot_h1_1 _ _ _ _ hh
  · show (k0_pay215 x0 x1 x2 x3 x4 x5 x6 x7 x8 x9 x10 x11 x12) i = _
    rw [eq215]
    exact knot_h1_2 _ _ _ _ hh
  · show (k0_pay216 x0 x1 x2 x3 x4 x5 x6 x7 x8 x9 x10 x11 x12) i = _
    rw [eq216]
    exact knot_h1_3 _ _ _ _ hh
  · show (k0_pay64 (k0_pay217 x0 x1 x2 x3 x4 x5 x6 x7 x8 x9 x10 x11 x12)) i = _
    rw [eq217]
    exact knot_h1_4 _ _ _ _ hh
  · show (k0_pay65 (k0_pay210 x0 x1 x2 x3 x4 x5 x6 x7 x8 x9 x10 x11 x12) (k0_pay213 x0 x1 x2 x3 x4 x5 x6 x7 x8 x9 x10 x11 x12)) i = _
    rw [eq210, eq213]
    exact knot_h1_5 _ _ _ _ hh
  · show (k0_pay66 (k0_pay211 x0 x1 x2 x3 x4 x5 x6 x7 x8 x9 x10 x11 x12) (k0_pay213 x0 x1 x2 x3 x4 x5 x6 x7 x8 x9 x10 x11 x12)) i = _
    rw [eq211, eq213]
    exact knot_h1_6 _ _ _ _ hh
  · show (k0_pay67 (k0_pay212 x0 x1 x2 x3 x4 x5 x6 x7 x8 x9 x10 x11 x12) (k0_pay213 x0 x1 x2 x3 x4 x5 x6 x7 x8 x9 x10 x11 x12)) i = _
    rw [eq212, eq213]
    exact knot_h1_7 _ _ _ _ hh

/-- The masks compare the input with the inner width knots. -/
theorem mk1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) :
    ∀ k < 7, (lg8 ((k0_pay197 x0 x1 x2 x3 x4 x5 x6 x7 x8 x9 x10 x11 x12) i) ((k0_pay198 x0 x1 x2 x3 x4 x5 x6 x7 x8 x9 x10 x11 x12) i) ((k0_pay199 x0 x1 x2 x3 x4 x5 x6 x7 x8 x9 x10 x11 x12) i) ((k0_pay200 x0 x1 x2 x3 x4 x5 x6 x7 x8 x9 x10 x11 x12) i) ((k0_pay201 x0 x1 x2 x3 x4 x5 x6 x7 x8 x9 x10 x11 x12) i) ((k0_pay202 x0 x1 x2 x3 x4 x5 x6 x7 x8 x9 x10 x11 x12) i) ((k0_pay203 x0 x1 x2 x3 x4 x5 x6 x7 x8 x9 x10 x11 x12) i) ((k0_pay203 x0 x1 x2 x3 x4 x5 x6 x7 x8 x9 x10 x11 x12) i)) k = Ideal.cmp .oge (x : EReal) (knot w (k + 1) : EReal) := by
  intro k hk
  have hk7 := wk1 hw k hk
  rw [← hk7, ← hx]
  clear hk7
  interval_cases k
  · show (k0_pay197 x0 x1 x2 x3 x4 x5 x6 x7 x8 x9 x10 x11 x12) i = Ideal.cmp .oge ((k0_pay178 x0 x1 x2 x3 x4 x5 x6 x7 x8 x9 x10 x11 x12) i) ((k0_pay192 x0 x1 x2 x3 x4 x5 x6 x7 x8 x9 x10 x11 x12) i)
    rw [eq197]
    exact mask33 _ _
  · show (k0_pay198 x0 x1 x2 x3 x4 x5 x6 x7 x8 x9 x10 x11 x12) i = Ideal.cmp .oge ((k0_pay178 x0 x1 x2 x3 x4 x5 x6 x7 x8 x9 x10 x11 x12) i) ((k0_pay193 x0 x1 x2 x3 x4 x5 x6 x7 x8 x9 x10 x11 x12) i)
    rw [eq198]
    exact mask34 _ _
  · show (k0_pay199 x0 x1 x2 x3 x4 x5 x6 x7 x8 x9 x10 x11 x12) i = Ideal.cmp .oge ((k0_pay178 x0 x1 x2 x3 x4 x5 x6 x7 x8 x9 x10 x11 x12) i) ((k0_pay194 x0 x1 x2 x3 x4 x5 x6 x7 x8 x9 x10 x11 x12) i)
    rw [eq199]
    exact mask35 _ _
  · show (k0_pay200 x0 x1 x2 x3 x4 x5 x6 x7 x8 x9 x10 x11 x12) i = Ideal.cmp .oge ((k0_pay178 x0 x1 x2 x3 x4 x5 x6 x7 x8 x9 x10 x11 x12) i) ((k0_pay195 x0 x1 x2 x3 x4 x5 x6 x7 x8 x9 x10 x11 x12) i)
    rw [eq200]
    exact mask36 _ _
  · show (k0_pay201 x0 x1 x2 x3 x4 x5 x6 x7 x8 x9 x10 x11 x12) i = Ideal.cmp .oge ((k0_pay178 x0 x1 x2 x3 x4 x5 x6 x7 x8 x9 x10 x11 x12) i) ((k0_pay30 (k0_pay196 x0 x1 x2 x3 x4 x5 x6 x7 x8 x9 x10 x11 x12)) i)
    rw [eq201]
    exact mask37 _ _
  · show (k0_pay202 x0 x1 x2 x3 x4 x5 x6 x7 x8 x9 x10 x11 x12) i = Ideal.cmp .oge ((k0_pay178 x0 x1 x2 x3 x4 x5 x6 x7 x8 x9 x10 x11 x12) i) ((k0_pay31 (k0_pay189 x0 x1 x2 x3 x4 x5 x6 x7 x8 x9 x10 x11 x12) (k0_pay191 x0 x1 x2 x3 x4 x5 x6 x7 x8 x9 x10 x11 x12)) i)
    rw [eq202]
    exact mask38 _ _ _
  · show (k0_pay203 x0 x1 x2 x3 x4 x5 x6 x7 x8 x9 x10 x11 x12) i = Ideal.cmp .oge ((k0_pay178 x0 x1 x2 x3 x4 x5 x6 x7 x8 x9 x10 x11 x12) i) ((k0_pay32 (k0_pay190 x0 x1 x2 x3 x4 x5 x6 x7 x8 x9 x10 x11 x12) (k0_pay191 x0 x1 x2 x3 x4 x5 x6 x7 x8 x9 x10 x11 x12)) i)
    rw [eq203]
    exact mask39 _ _ _

/-- An end of the bin. -/
theorem cw1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) :
    (k0_pay204 x0 x1 x2 x3 x4 x5 x6 x7 x8 x9 x10 x11 x12) i = (knot w (bin (knot w) x) : EReal) := by
  rw [eq204]
  refine chain40 _ _ _ _ _ _ _ _ _ (fun k hk => ?_) (wk1 hw)
  rw [← mk1 hx hw k hk]
  interval_cases k
  · show _ = (k0_pay197 x0 x1 x2 x3 x4 x5 x6 x7 x8 x9 x10 x11 x12) i
    rw [eq197]
    exact (mask33 _ _).symm
  · show _ = (k0_pay198 x0 x1 x2 x3 x4 x5 x6 x7 x8 x9 x10 x11 x12) i
    rw [eq198]
    exact (mask34 _ _).symm
  · show _ = (k0_pay199 x0 x1 x2 x3 x4 x5 x6 x7 x8 x9 x10 x11 x12) i
    rw [eq199]
    exact (mask35 _ _).symm
  · show _ = (k0_pay200 x0 x1 x2 x3 x4 x5 x6 x7 x8 x9 x10 x11 x12) i
    rw [eq200]
    exact (mask36 _ _).symm
  · show _ = (k0_pay201 x0 x1 x2 x3 x4 x5 x6 x7 x8 x9 x10 x11 x12) i
    rw [eq201]
    exact (mask37 _ _).symm
  · show _ = (k0_pay202 x0 x1 x2 x3 x4 x5 x6 x7 x8 x9 x10 x11 x12) i
    rw [eq202]
    exact (mask38 _ _ _).symm
  · show _ = (k0_pay203 x0 x1 x2 x3 x4 x5 x6 x7 x8 x9 x10 x11 x12) i
    rw [eq203]
    exact (mask39 _ _ _).symm

/-- An end of the bin. -/
theorem cv1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) :
    (k0_pay205 x0 x1 x2 x3 x4 x5 x6 x7 x8 x9 x10 x11 x12) i = (knot w (bin (knot w) x + 1) : EReal) := by
  rw [eq205]
  refine chain41 _ _ _ _ _ _ _ _ _ (fun k hk => ?_) (wk1 hw)
  rw [← mk1 hx hw k hk]
  interval_cases k
  · show _ = (k0_pay197 x0 x1 x2 x3 x4 x5 x6 x7 x8 x9 x10 x11 x12) i
    rw [eq197]
    exact (mask33 _ _).symm
  · show _ = (k0_pay198 x0 x1 x2 x3 x4 x5 x6 x7 x8 x9 x10 x11 x12) i
    rw [eq198]
    exact (mask34 _ _).symm
  · show _ = (k0_pay199 x0 x1 x2 x3 x4 x5 x6 x7 x8 x9 x10 x11 x12) i
    rw [eq199]
    exact (mask35 _ _).symm
  · show _ = (k0_pay200 x0 x1 x2 x3 x4 x5 x6 x7 x8 x9 x10 x11 x12) i
    rw [eq200]
    exact (mask36 _ _).symm
  · show _ = (k0_pay201 x0 x1 x2 x3 x4 x5 x6 x7 x8 x9 x10 x11 x12) i
    rw [eq201]
    exact (mask37 _ _).symm
  · show _ = (k0_pay202 x0 x1 x2 x3 x4 x5 x6 x7 x8 x9 x10 x11 x12) i
    rw [eq202]
    exact (mask38 _ _ _).symm
  · show _ = (k0_pay203 x0 x1 x2 x3 x4 x5 x6 x7 x8 x9 x10 x11 x12) i
    rw [eq203]
    exact (mask39 _ _ _).symm

/-- The height at an end of the bin. -/
theorem ch1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) (hh : ∀ k < 8, (lg8 ((k0_pay207 x0 x1 x2 x3 x4 x5 x6 x7 x8 x9 x10 x11 x12) i) ((k0_pay208 x0 x1 x2 x3 x4 x5 x6 x7 x8 x9 x10 x11 x12) i) ((k0_pay209 x0 x1 x2 x3 x4 x5 x6 x7 x8 x9 x10 x11 x12) i) ((k0_pay46 (k0_pay206 x0 x1 x2 x3 x4 x5 x6 x7 x8 x9 x10 x11 x12)) i) ((k0_pay47 (k0_pay206 x0 x1 x2 x3 x4 x5 x6 x7 x8 x9 x10 x11 x12)) i) ((k0_pay48 (k0_pay206 x0 x1 x2 x3 x4 x5 x6 x7 x8 x9 x10 x11 x12)) i) ((k0_pay49 (k0_pay206 x0 x1 x2 x3 x4 x5 x6 x7 x8 x9 x10 x11 x12)) i) ((k0_pay50 (k0_pay206 x0 x1 x2 x3 x4 x5 x6 x7 x8 x9 x10 x11 x12)) i)) k = (h k : EReal)) :
    (k0_pay218 x0 x1 x2 x3 x4 x5 x6 x7 x8 x9 x10 x11 x12) i = (knot h (bin (knot w) x) : EReal) := by
  rw [eq218]
  exact chain68 _ _ _ _ _ _ _ _ _ _ _ _ _ _ _ (mk1 hx hw) (hk1 hh)

/-- The height at an end of the bin. -/
theorem cg1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) (hh : ∀ k < 8, (lg8 ((k0_pay207 x0 x1 x2 x3 x4 x5 x6 x7 x8 x9 x10 x11 x12) i) ((k0_pay208 x0 x1 x2 x3 x4 x5 x6 x7 x8 x9 x10 x11 x12) i) ((k0_pay209 x0 x1 x2 x3 x4 x5 x6 x7 x8 x9 x10 x11 x12) i) ((k0_pay46 (k0_pay206 x0 x1 x2 x3 x4 x5 x6 x7 x8 x9 x10 x11 x12)) i) ((k0_pay47 (k0_pay206 x0 x1 x2 x3 x4 x5 x6 x7 x8 x9 x10 x11 x12)) i) ((k0_pay48 (k0_pay206 x0 x1 x2 x3 x4 x5 x6 x7 x8 x9 x10 x11 x12)) i) ((k0_pay49 (k0_pay206 x0 x1 x2 x3 x4 x5 x6 x7 x8 x9 x10 x11 x12)) i) ((k0_pay50 (k0_pay206 x0 x1 x2 x3 x4 x5 x6 x7 x8 x9 x10 x11 x12)) i)) k = (h k : EReal)) :
    (k0_pay219 x0 x1 x2 x3 x4 x5 x6 x7 x8 x9 x10 x11 x12) i = (knot h (bin (knot w) x + 1) : EReal) := by
  rw [eq219]
  exact chain69 _ _ _ _ _ _ _ _ _ _ _ _ _ _ _ (mk1 hx hw) (hk1 hh)

/-- The slope at an end of the bin. -/
theorem sl1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) (hd : ∀ k < 7, (lg8 ((k0_pay221 x0 x1 x2 x3 x4 x5 x6 x7 x8 x9 x10 x11 x12) i) ((k0_pay222 x0 x1 x2 x3 x4 x5 x6 x7 x8 x9 x10 x11 x12) i) ((k0_pay223 x0 x1 x2 x3 x4 x5 x6 x7 x8 x9 x10 x11 x12) i) ((k0_pay74 (k0_pay220 x0 x1 x2 x3 x4 x5 x6 x7 x8 x9 x10 x11 x12)) i) ((k0_pay75 (k0_pay220 x0 x1 x2 x3 x4 x5 x6 x7 x8 x9 x10 x11 x12)) i) ((k0_pay76 (k0_pay220 x0 x1 x2 x3 x4 x5 x6 x7 x8 x9 x10 x11 x12)) i) ((k0_pay77 (k0_pay220 x0 x1 x2 x3 x4 x5 x6 x7 x8 x9 x10 x11 x12)) i) ((k0_pay77 (k0_pay220 x0 x1 x2 x3 x4 x5 x6 x7 x8 x9 x10 x11 x12)) i)) k = (d k : EReal)) :
    (k0_pay224 x0 x1 x2 x3 x4 x5 x6 x7 x8 x9 x10 x11 x12) i = (slope d (bin (knot w) x) : EReal) := by
  rw [eq224]
  exact slope78 _ _ _ _ _ _ _ _ _ _ _ (mk1 hx hw) hd

/-- The slope at an end of the bin. -/
theorem sr1 (hx : (k0_pay178 x0 x1 x2 x3 x4 x5 x6 x7 x8 x9 x10 x11 x12) i = (x : EReal)) (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal)) (hd : ∀ k < 7, (lg8 ((k0_pay221 x0 x1 x2 x3 x4 x5 x6 x7 x8 x9 x10 x11 x12) i) ((k0_pay222 x0 x1 x2 x3 x4 x5 x6 x7 x8 x9 x10 x11 x12) i) ((k0_pay223 x0 x1 x2 x3 x4 x5 x6 x7 x8 x9 x10 x11 x12) i) ((k0_pay74 (k0_pay220 x0 x1 x2 x3 x4 x5 x6 x7 x8 x9 x10 x11 x12)) i) ((k0_pay75 (k0_pay220 x0 x1 x2 x3 x4 x5 x6 x7 x8 x9 x10 x11 x12)) i) ((k0_pay76 (k0_pay220 x0 x1 x2 x3 x4 x5 x6 x7 x8 x9 x10 x11 x12)) i) ((k0_pay77 (k0_pay220 x0 x1 x2 x3 x4 x5 x6 x7 x8 x9 x10 x11 x12)) i) ((k0_pay77 (k0_pay220 x0 x1 x2 x3 x4 x5 x6 x7 x8 x9 x10 x11 x12)) i)) k = (d k : EReal)) :
    (k0_pay225 x0 x1 x2 x3 x4 x5 x6 x7 x8 x9 x10 x11 x12) i = (slope d (bin (knot w) x + 1) : EReal) := by
  rw [eq225]
  exact slope79 _ _ _ _ _ _ _ _ _ _ _ (mk1 hx hw) hd

/-- The mapped input is the real spline. -/
theorem out1_coe (hx : (k0_pay178 x0 x1 x2 x3 x4 x5 x6 x7 x8 x9 x10 x11 x12) i = (x : EReal))
    (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal))
    (hh : ∀ k < 8, (lg8 ((k0_pay207 x0 x1 x2 x3 x4 x5 x6 x7 x8 x9 x10 x11 x12) i) ((k0_pay208 x0 x1 x2 x3 x4 x5 x6 x7 x8 x9 x10 x11 x12) i) ((k0_pay209 x0 x1 x2 x3 x4 x5 x6 x7 x8 x9 x10 x11 x12) i) ((k0_pay46 (k0_pay206 x0 x1 x2 x3 x4 x5 x6 x7 x8 x9 x10 x11 x12)) i) ((k0_pay47 (k0_pay206 x0 x1 x2 x3 x4 x5 x6 x7 x8 x9 x10 x11 x12)) i) ((k0_pay48 (k0_pay206 x0 x1 x2 x3 x4 x5 x6 x7 x8 x9 x10 x11 x12)) i) ((k0_pay49 (k0_pay206 x0 x1 x2 x3 x4 x5 x6 x7 x8 x9 x10 x11 x12)) i) ((k0_pay50 (k0_pay206 x0 x1 x2 x3 x4 x5 x6 x7 x8 x9 x10 x11 x12)) i)) k = (h k : EReal))
    (hd : ∀ k < 7, (lg8 ((k0_pay221 x0 x1 x2 x3 x4 x5 x6 x7 x8 x9 x10 x11 x12) i) ((k0_pay222 x0 x1 x2 x3 x4 x5 x6 x7 x8 x9 x10 x11 x12) i) ((k0_pay223 x0 x1 x2 x3 x4 x5 x6 x7 x8 x9 x10 x11 x12) i) ((k0_pay74 (k0_pay220 x0 x1 x2 x3 x4 x5 x6 x7 x8 x9 x10 x11 x12)) i) ((k0_pay75 (k0_pay220 x0 x1 x2 x3 x4 x5 x6 x7 x8 x9 x10 x11 x12)) i) ((k0_pay76 (k0_pay220 x0 x1 x2 x3 x4 x5 x6 x7 x8 x9 x10 x11 x12)) i) ((k0_pay77 (k0_pay220 x0 x1 x2 x3 x4 x5 x6 x7 x8 x9 x10 x11 x12)) i) ((k0_pay77 (k0_pay220 x0 x1 x2 x3 x4 x5 x6 x7 x8 x9 x10 x11 x12)) i)) k = (d k : EReal)) :
    (k0_pay226 x0 x1 x2 x3 x4 x5 x6 x7 x8 x9 x10 x11 x12) i = (spl w h d x : EReal) := by
  rw [eq226, p88_apply, hx, cw1 hx hw, cv1 hx hw, ch1 hx hw hh, cg1 hx hw hh, sl1 hx hw hd, sr1 hx hw hd]
  exact kOut_coe w h d x

/-- The logarithm of the slope is the real one. -/
theorem log1_coe (hx : (k0_pay178 x0 x1 x2 x3 x4 x5 x6 x7 x8 x9 x10 x11 x12) i = (x : EReal))
    (hw : ∀ k < 8, (lg8 ((k0_pay180 x0 x1 x2 x3 x4 x5 x6 x7 x8 x9 x10 x11 x12) i) ((k0_pay181 x0 x1 x2 x3 x4 x5 x6 x7 x8 x9 x10 x11 x12) i) ((k0_pay182 x0 x1 x2 x3 x4 x5 x6 x7 x8 x9 x10 x11 x12) i) ((k0_pay183 x0 x1 x2 x3 x4 x5 x6 x7 x8 x9 x10 x11 x12) i) ((k0_pay184 x0 x1 x2 x3 x4 x5 x6 x7 x8 x9 x10 x11 x12) i) ((k0_pay185 x0 x1 x2 x3 x4 x5 x6 x7 x8 x9 x10 x11 x12) i) ((k0_pay186 x0 x1 x2 x3 x4 x5 x6 x7 x8 x9 x10 x11 x12) i) ((k0_pay187 x0 x1 x2 x3 x4 x5 x6 x7 x8 x9 x10 x11 x12) i)) k = (w k : EReal))
    (hh : ∀ k < 8, (lg8 ((k0_pay207 x0 x1 x2 x3 x4 x5 x6 x7 x8 x9 x10 x11 x12) i) ((k0_pay208 x0 x1 x2 x3 x4 x5 x6 x7 x8 x9 x10 x11 x12) i) ((k0_pay209 x0 x1 x2 x3 x4 x5 x6 x7 x8 x9 x10 x11 x12) i) ((k0_pay46 (k0_pay206 x0 x1 x2 x3 x4 x5 x6 x7 x8 x9 x10 x11 x12)) i) ((k0_pay47 (k0_pay206 x0 x1 x2 x3 x4 x5 x6 x7 x8 x9 x10 x11 x12)) i) ((k0_pay48 (k0_pay206 x0 x1 x2 x3 x4 x5 x6 x7 x8 x9 x10 x11 x12)) i) ((k0_pay49 (k0_pay206 x0 x1 x2 x3 x4 x5 x6 x7 x8 x9 x10 x11 x12)) i) ((k0_pay50 (k0_pay206 x0 x1 x2 x3 x4 x5 x6 x7 x8 x9 x10 x11 x12)) i)) k = (h k : EReal))
    (hd : ∀ k < 7, (lg8 ((k0_pay221 x0 x1 x2 x3 x4 x5 x6 x7 x8 x9 x10 x11 x12) i) ((k0_pay222 x0 x1 x2 x3 x4 x5 x6 x7 x8 x9 x10 x11 x12) i) ((k0_pay223 x0 x1 x2 x3 x4 x5 x6 x7 x8 x9 x10 x11 x12) i) ((k0_pay74 (k0_pay220 x0 x1 x2 x3 x4 x5 x6 x7 x8 x9 x10 x11 x12)) i) ((k0_pay75 (k0_pay220 x0 x1 x2 x3 x4 x5 x6 x7 x8 x9 x10 x11 x12)) i) ((k0_pay76 (k0_pay220 x0 x1 x2 x3 x4 x5 x6 x7 x8 x9 x10 x11 x12)) i) ((k0_pay77 (k0_pay220 x0 x1 x2 x3 x4 x5 x6 x7 x8 x9 x10 x11 x12)) i) ((k0_pay77 (k0_pay220 x0 x1 x2 x3 x4 x5 x6 x7 x8 x9 x10 x11 x12)) i)) k = (d k : EReal)) :
    (k0_pay89 (k0_pay178 x0 x1 x2 x3 x4 x5 x6 x7 x8 x9 x10 x11 x12) (k0_pay204 x0 x1 x2 x3 x4 x5 x6 x7 x8 x9 x10 x11 x12) (k0_pay205 x0 x1 x2 x3 x4 x5 x6 x7 x8 x9 x10 x11 x12) (k0_pay218 x0 x1 x2 x3 x4 x5 x6 x7 x8 x9 x10 x11 x12) (k0_pay219 x0 x1 x2 x3 x4 x5 x6 x7 x8 x9 x10 x11 x12) (k0_pay224 x0 x1 x2 x3 x4 x5 x6 x7 x8 x9 x10 x11 x12) (k0_pay225 x0 x1 x2 x3 x4 x5 x6 x7 x8 x9 x10 x11 x12)) i = (splLog w h d x : EReal) := by
  rw [p89_apply, hx, cw1 hx hw, cv1 hx hw, ch1 hx hw hh, cg1 hx hw hh, sl1 hx hw hd, sr1 hx hw hd]
  exact kLog_coe w h d x

end Cert.KernelIdeal.Gen

end
-- ==== Proof.Stage2.lean ====
/- Second spline of the kernel body at one index, when the input and the logits are real. -/
module

public import proofs.«01_k».proof.Proof.Eqs

@[expose] public section

set_option maxRecDepth 16384

noncomputable section

namespace Cert.KernelIdeal.Gen

open Idealize.ShloMosaic Cert.Spline

variable {x0 : Vec Ideal S2048x128 .f32} {x1 : Vec Ideal S256x64 .bf16} {x2 : Vec Ideal S256x1 .f32} {x3 : Vec Ideal S256x256 .bf16} {x4 : Vec Ideal S256x1 .f32} {x5 : Vec Ideal S1472x256 .bf16} {x6 : Vec Ideal S1472x1 .f32}
  {x7 : Vec Ideal S256x64 .bf16} {x8 : Vec Ideal S256x1 .f32} {x9 : Vec Ideal S256x256 .bf16} {x10 : Vec Ideal S256x1 .f32} {x11 : Vec Ideal S1472x256 .bf16} {x12 : Vec Ideal S1472x1 .f32}
  {i : S64x2048.Idx} {x : ℝ} {w h d : ℕ → ℝ}

/-- The seven inner width knots are the real ones. -/
theorem wk2 (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) :
    ∀ k < 7, (lg8 ((k0_pay239 x0 x1 x2 x3 x4 x5 x6 x7 x8 x9 x10 x11 x12) i) ((k0_pay240 x0 x1 x2 x3 x4 x5 x6 x7 x8 x9 x10 x11 x12) i) ((k0_pay241 x0 x1 x2 x3 x4 x5 x6 x7 x8 x9 x10 x11 x12) i) ((k0_pay242 x0 x1 x2 x3 x4 x5 x6 x7 x8 x9 x10 x11 x12) i) ((k0_pay243 x0 x1 x2 x3 x4 x5 x6 x7 x8 x9 x10 x11 x12) i) ((k0_pay115 (k0_pay244 x0 x1 x2 x3 x4 x5 x6 x7 x8 x9 x10 x11 x12)) i) ((k0_pay116 (k0_pay237 x0 x1 x2 x3 x4 x5 x6 x7 x8 x9 x10 x11 x12) (k0_pay238 x0 x1 x2 x3 x4 x5 x6 x7 x8 x9 x10 x11 x12)) i) ((k0_pay116 (k0_pay237 x0 x1 x2 x3 x4 x5 x6 x7 x8 x9 x10 x11 x12) (k0_pay238 x0 x1 x2 x3 x4 x5 x6 x7 x8 x9 x10 x11 x12)) i)) k = (knot w (k + 1) : EReal) := by
  intro k hk
  interval_cases k
  · show (k0_pay239 x0 x1 x2 x3 x4 x5 x6 x7 x8 x9 x10 x11 x12) i = _
    rw [eq239, exp236, max235]
    exact knot_w2_1 _ _ _ _ _ _ _ _ hw
  · show (k0_pay240 x0 x1 x2 x3 x4 x5 x6 x7 x8 x9 x10 x11 x12) i = _
    rw [eq240, exp236, max235]
    exact knot_w2_2 _ _ _ _ _ _ _ _ hw
  · show (k0_pay241 x0 x1 x2 x3 x4 x5 x6 x7 x8 x9 x10 x11 x12) i = _
    rw [eq241, exp236, max235]
    exact knot_w2_3 _ _ _ _ _ _ _ _ hw
  · show (k0_pay242 x0 x1 x2 x3 x4 x5 x6 x7 x8 x9 x10 x11 x12) i = _
    rw [eq242, exp236, max235]
    exact knot_w2_4 _ _ _ _ _ _ _ _ hw
  · show (k0_pay243 x0 x1 x2 x3 x4 x5 x6 x7 x8 x9 x10 x11 x12) i = _
    rw [eq243, exp236, max235]
    exact knot_w2_5 _ _ _ _ _ _ _ _ hw
  · show (k0_pay115 (k0_pay244 x0 x1 x2 x3 x4 x5 x6 x7 x8 x9 x10 x11 x12)) i = _
    rw [eq244, exp236, max235]
    exact knot_w2_6 _ _ _ _ _ _ _ _ hw
  · show (k0_pay116 (k0_pay237 x0 x1 x2 x3 x4 x5 x6 x7 x8 x9 x10 x11 x12) (k0_pay238 x0 x1 x2 x3 x4 x5 x6 x7 x8 x9 x10 x11 x12)) i = _
    rw [eq237, eq238, exp236, max235]
    exact knot_w2_7 _ _ _ _ _ _ _ _ hw

/-- The seven inner height knots are the real ones. -/
theorem hk2 (hh : ∀ k < 8, (lg8 ((k0_pay254 x0 x1 x2 x3 x4 x5 x6 x7 x8 x9 x10 x11 x12) i) ((k0_pay255 x0 x1 x2 x3 x4 x5 x6 x7 x8 x9 x10 x11 x12) i) ((k0_pay256 x0 x1 x2 x3 x4 x5 x6 x7 x8 x9 x10 x11 x12) i) ((k0_pay257 x0 x1 x2 x3 x4 x5 x6 x7 x8 x9 x10 x11 x12) i) ((k0_pay258 x0 x1 x2 x3 x4 x5 x6 x7 x8 x9 x10 x11 x12) i) ((k0_pay259 x0 x1 x2 x3 x4 x5 x6 x7 x8 x9 x10 x11 x12) i) ((k0_pay260 x0 x1 x2 x3 x4 x5 x6 x7 x8 x9 x10 x11 x12) i) ((k0_pay261 x0 x1 x2 x3 x4 x5 x6 x7 x8 x9 x10 x11 x12) i)) k = (h k : EReal)) :
    ∀ k < 7, (lg8 ((k0_pay266 x0 x1 x2 x3 x4 x5 x6 x7 x8 x9 x10 x11 x12) i) ((k0_pay267 x0 x1 x2 x3 x4 x5 x6 x7 x8 x9 x10 x11 x12) i) ((k0_pay268 x0 x1 x2 x3 x4 x5 x6 x7 x8 x9 x10 x11 x12) i) ((k0_pay269 x0 x1 x2 x3 x4 x5 x6 x7 x8 x9 x10 x11 x12) i) ((k0_pay150 (k0_pay270 x0 x1 x2 x3 x4 x5 x6 x7 x8 x9 x10 x11 x12)) i) ((k0_pay151 (k0_pay263 x0 x1 x2 x3 x4 x5 x6 x7 x8 x9 x10 x11 x12) (k0_pay265 x0 x1 x2 x3 x4 x5 x6 x7 x8 x9 x10 x11 x12)) i) ((k0_pay152 (k0_pay264 x0 x1 x2 x3 x4 x5 x6 x7 x8 x9 x10 x11 x12) (k0_pay265 x0 x1 x2 x3 x4 x5 x6 x7 x8 x9 x10 x11 x12)) i) ((k0_pay152 (k0_pay264 x0 x1 x2 x3 x4 x5 x6 x7 x8 x9 x10 x11 x12) (k0_pay265 x0 x1 x2 x3 x4 x5 x6 x7 x8 x9 x10 x11 x12)) i)) k = (knot h (k + 1) : EReal) := by
  intro k hk
  interval_cases k
  · show (k0_pay266 x0 x1 x2 x3 x4 x5 x6 x7 x8 x9 x10 x11 x12) i = _
    rw [eq266, max262]
    exact knot_h2_1 _ _ _ _ _ _ _ _ hh
  · show (k0_pay267 x0 x1 x2 x3 x4 x5 x6 x7 x8 x9 x10 x11 x12) i = _
    rw [eq267, max262]
    exact knot_h2_2 _ _ _ _ _ _ _ _ hh
  · show (k0_pay268 x0 x1 x2 x3 x4 x5 x6 x7 x8 x9 x10 x11 x12) i = _
    rw [eq268, max262]
    exact knot_h2_3 _ _ _ _ _ _ _ _ hh
  · show (k0_pay269 x0 x1 x2 x3 x4 x5 x6 x7 x8 x9 x10 x11 x12) i = _
    rw [eq269, max262]
    exact knot_h2_4 _ _ _ _ _ _ _ _ hh
  · show (k0_pay150 (k0_pay270 x0 x1 x2 x3 x4 x5 x6 x7 x8 x9 x10 x11 x12)) i = _
    rw [eq270, max262]
    exact knot_h2_5 _ _ _ _ _ _ _ _ hh
  · show (k0_pay151 (k0_pay263 x0 x1 x2 x3 x4 x5 x6 x7 x8 x9 x10 x11 x12) (k0_pay265 x0 x1 x2 x3 x4 x5 x6 x7 x8 x9 x10 x11 x12)) i = _
    rw [eq263, eq265, max262]
    exact knot_h2_6 _ _ _ _ _ _ _ _ hh
  · show (k0_pay152 (k0_pay264 x0 x1 x2 x3 x4 x5 x6 x7 x8 x9 x10 x11 x12) (k0_pay265 x0 x1 x2 x3 x4 x5 x6 x7 x8 x9 x10 x11 x12)) i = _
    rw [eq264, eq265, max262]
    exact knot_h2_7 _ _ _ _ _ _ _ _ hh

/-- The masks compare the input with the inner width knots. -/
theorem mk2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) :
    ∀ k < 7, (lg8 ((k0_pay245 x0 x1 x2 x3 x4 x5 x6 x7 x8 x9 x10 x11 x12) i) ((k0_pay246 x0 x1 x2 x3 x4 x5 x6 x7 x8 x9 x10 x11 x12) i) ((k0_pay247 x0 x1 x2 x3 x4 x5 x6 x7 x8 x9 x10 x11 x12) i) ((k0_pay248 x0 x1 x2 x3 x4 x5 x6 x7 x8 x9 x10 x11 x12) i) ((k0_pay249 x0 x1 x2 x3 x4 x5 x6 x7 x8 x9 x10 x11 x12) i) ((k0_pay250 x0 x1 x2 x3 x4 x5 x6 x7 x8 x9 x10 x11 x12) i) ((k0_pay251 x0 x1 x2 x3 x4 x5 x6 x7 x8 x9 x10 x11 x12) i) ((k0_pay251 x0 x1 x2 x3 x4 x5 x6 x7 x8 x9 x10 x11 x12) i)) k = Ideal.cmp .oge (x : EReal) (knot w (k + 1) : EReal) := by
  intro k hk
  have hk7 := wk2 hw k hk
  rw [← hk7, ← hx]
  clear hk7
  interval_cases k
  · show (k0_pay245 x0 x1 x2 x3 x4 x5 x6 x7 x8 x9 x10 x11 x12) i = Ideal.cmp .oge ((k0_pay177 x0 x1 x2 x3 x4 x5 x6 x7 x8 x9 x10 x11 x12) i) ((k0_pay239 x0 x1 x2 x3 x4 x5 x6 x7 x8 x9 x10 x11 x12) i)
    rw [eq245]
    exact mask117 _ _
  · show (k0_pay246 x0 x1 x2 x3 x4 x5 x6 x7 x8 x9 x10 x11 x12) i = Ideal.cmp .oge ((k0_pay177 x0 x1 x2 x3 x4 x5 x6 x7 x8 x9 x10 x11 x12) i) ((k0_pay240 x0 x1 x2 x3 x4 x5 x6 x7 x8 x9 x10 x11 x12) i)
    rw [eq246]
    exact mask118 _ _
  · show (k0_pay247 x0 x1 x2 x3 x4 x5 x6 x7 x8 x9 x10 x11 x12) i = Ideal.cmp .oge ((k0_pay177 x0 x1 x2 x3 x4 x5 x6 x7 x8 x9 x10 x11 x12) i) ((k0_pay241 x0 x1 x2 x3 x4 x5 x6 x7 x8 x9 x10 x11 x12) i)
    rw [eq247]
    exact mask119 _ _
  · show (k0_pay248 x0 x1 x2 x3 x4 x5 x6 x7 x8 x9 x10 x11 x12) i = Ideal.cmp .oge ((k0_pay177 x0 x1 x2 x3 x4 x5 x6 x7 x8 x9 x10 x11 x12) i) ((k0_pay242 x0 x1 x2 x3 x4 x5 x6 x7 x8 x9 x10 x11 x12) i)
    rw [eq248]
    exact mask120 _ _
  · show (k0_pay249 x0 x1 x2 x3 x4 x5 x6 x7 x8 x9 x10 x11 x12) i = Ideal.cmp .oge ((k0_pay177 x0 x1 x2 x3 x4 x5 x6 x7 x8 x9 x10 x11 x12) i) ((k0_pay243 x0 x1 x2 x3 x4 x5 x6 x7 x8 x9 x10 x11 x12) i)
    rw [eq249]
    exact mask121 _ _
  · show (k0_pay250 x0 x1 x2 x3 x4 x5 x6 x7 x8 x9 x10 x11 x12) i = Ideal.cmp .oge ((k0_pay177 x0 x1 x2 x3 x4 x5 x6 x7 x8 x9 x10 x11 x12) i) ((k0_pay115 (k0_pay244 x0 x1 x2 x3 x4 x5 x6 x7 x8 x9 x10 x11 x12)) i)
    rw [eq250]
    exact mask122 _ _
  · show (k0_pay251 x0 x1 x2 x3 x4 x5 x6 x7 x8 x9 x10 x11 x12) i = Ideal.cmp .oge ((k0_pay177 x0 x1 x2 x3 x4 x5 x6 x7 x8 x9 x10 x11 x12) i) ((k0_pay116 (k0_pay237 x0 x1 x2 x3 x4 x5 x6 x7 x8 x9 x10 x11 x12) (k0_pay238 x0 x1 x2 x3 x4 x5 x6 x7 x8 x9 x10 x11 x12)) i)
    rw [eq251]
    exact mask123 _ _ _

/-- An end of the bin. -/
theorem cw2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) :
    (k0_pay252 x0 x1 x2 x3 x4 x5 x6 x7 x8 x9 x10 x11 x12) i = (knot w (bin (knot w) x) : EReal) := by
  rw [eq252]
  refine chain124 _ _ _ _ _ _ _ _ _ (fun k hk => ?_) (wk2 hw)
  rw [← mk2 hx hw k hk]
  interval_cases k
  · show _ = (k0_pay245 x0 x1 x2 x3 x4 x5 x6 x7 x8 x9 x10 x11 x12) i
    rw [eq245]
    exact (mask117 _ _).symm
  · show _ = (k0_pay246 x0 x1 x2 x3 x4 x5 x6 x7 x8 x9 x10 x11 x12) i
    rw [eq246]
    exact (mask118 _ _).symm
  · show _ = (k0_pay247 x0 x1 x2 x3 x4 x5 x6 x7 x8 x9 x10 x11 x12) i
    rw [eq247]
    exact (mask119 _ _).symm
  · show _ = (k0_pay248 x0 x1 x2 x3 x4 x5 x6 x7 x8 x9 x10 x11 x12) i
    rw [eq248]
    exact (mask120 _ _).symm
  · show _ = (k0_pay249 x0 x1 x2 x3 x4 x5 x6 x7 x8 x9 x10 x11 x12) i
    rw [eq249]
    exact (mask121 _ _).symm
  · show _ = (k0_pay250 x0 x1 x2 x3 x4 x5 x6 x7 x8 x9 x10 x11 x12) i
    rw [eq250]
    exact (mask122 _ _).symm
  · show _ = (k0_pay251 x0 x1 x2 x3 x4 x5 x6 x7 x8 x9 x10 x11 x12) i
    rw [eq251]
    exact (mask123 _ _ _).symm

/-- An end of the bin. -/
theorem cv2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) :
    (k0_pay253 x0 x1 x2 x3 x4 x5 x6 x7 x8 x9 x10 x11 x12) i = (knot w (bin (knot w) x + 1) : EReal) := by
  rw [eq253]
  refine chain125 _ _ _ _ _ _ _ _ _ (fun k hk => ?_) (wk2 hw)
  rw [← mk2 hx hw k hk]
  interval_cases k
  · show _ = (k0_pay245 x0 x1 x2 x3 x4 x5 x6 x7 x8 x9 x10 x11 x12) i
    rw [eq245]
    exact (mask117 _ _).symm
  · show _ = (k0_pay246 x0 x1 x2 x3 x4 x5 x6 x7 x8 x9 x10 x11 x12) i
    rw [eq246]
    exact (mask118 _ _).symm
  · show _ = (k0_pay247 x0 x1 x2 x3 x4 x5 x6 x7 x8 x9 x10 x11 x12) i
    rw [eq247]
    exact (mask119 _ _).symm
  · show _ = (k0_pay248 x0 x1 x2 x3 x4 x5 x6 x7 x8 x9 x10 x11 x12) i
    rw [eq248]
    exact (mask120 _ _).symm
  · show _ = (k0_pay249 x0 x1 x2 x3 x4 x5 x6 x7 x8 x9 x10 x11 x12) i
    rw [eq249]
    exact (mask121 _ _).symm
  · show _ = (k0_pay250 x0 x1 x2 x3 x4 x5 x6 x7 x8 x9 x10 x11 x12) i
    rw [eq250]
    exact (mask122 _ _).symm
  · show _ = (k0_pay251 x0 x1 x2 x3 x4 x5 x6 x7 x8 x9 x10 x11 x12) i
    rw [eq251]
    exact (mask123 _ _ _).symm

/-- The height at an end of the bin. -/
theorem ch2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) (hh : ∀ k < 8, (lg8 ((k0_pay254 x0 x1 x2 x3 x4 x5 x6 x7 x8 x9 x10 x11 x12) i) ((k0_pay255 x0 x1 x2 x3 x4 x5 x6 x7 x8 x9 x10 x11 x12) i) ((k0_pay256 x0 x1 x2 x3 x4 x5 x6 x7 x8 x9 x10 x11 x12) i) ((k0_pay257 x0 x1 x2 x3 x4 x5 x6 x7 x8 x9 x10 x11 x12) i) ((k0_pay258 x0 x1 x2 x3 x4 x5 x6 x7 x8 x9 x10 x11 x12) i) ((k0_pay259 x0 x1 x2 x3 x4 x5 x6 x7 x8 x9 x10 x11 x12) i) ((k0_pay260 x0 x1 x2 x3 x4 x5 x6 x7 x8 x9 x10 x11 x12) i) ((k0_pay261 x0 x1 x2 x3 x4 x5 x6 x7 x8 x9 x10 x11 x12) i)) k = (h k : EReal)) :
    (k0_pay271 x0 x1 x2 x3 x4 x5 x6 x7 x8 x9 x10 x11 x12) i = (knot h (bin (knot w) x) : EReal) := by
  rw [eq271]
  exact chain153 _ _ _ _ _ _ _ _ _ _ _ _ _ _ _ (mk2 hx hw) (hk2 hh)

/-- The height at an end of the bin. -/
theorem cg2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) (hh : ∀ k < 8, (lg8 ((k0_pay254 x0 x1 x2 x3 x4 x5 x6 x7 x8 x9 x10 x11 x12) i) ((k0_pay255 x0 x1 x2 x3 x4 x5 x6 x7 x8 x9 x10 x11 x12) i) ((k0_pay256 x0 x1 x2 x3 x4 x5 x6 x7 x8 x9 x10 x11 x12) i) ((k0_pay257 x0 x1 x2 x3 x4 x5 x6 x7 x8 x9 x10 x11 x12) i) ((k0_pay258 x0 x1 x2 x3 x4 x5 x6 x7 x8 x9 x10 x11 x12) i) ((k0_pay259 x0 x1 x2 x3 x4 x5 x6 x7 x8 x9 x10 x11 x12) i) ((k0_pay260 x0 x1 x2 x3 x4 x5 x6 x7 x8 x9 x10 x11 x12) i) ((k0_pay261 x0 x1 x2 x3 x4 x5 x6 x7 x8 x9 x10 x11 x12) i)) k = (h k : EReal)) :
    (k0_pay272 x0 x1 x2 x3 x4 x5 x6 x7 x8 x9 x10 x11 x12) i = (knot h (bin (knot w) x + 1) : EReal) := by
  rw [eq272]
  exact chain154 _ _ _ _ _ _ _ _ _ _ _ _ _ _ _ (mk2 hx hw) (hk2 hh)

/-- The slope at an end of the bin. -/
theorem sl2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) (hd : ∀ k < 7, (lg8 ((k0_pay156 (k0_pay227 x0 x1 x2 x3 x4 x5 x6 x7 x8 x9 x10 x11 x12) (View.ld x11 r0_8) (View.ld x12 r0_9)) i) ((k0_pay273 x0 x1 x2 x3 x4 x5 x6 x7 x8 x9 x10 x11 x12) i) ((k0_pay274 x0 x1 x2 x3 x4 x5 x6 x7 x8 x9 x10 x11 x12) i) ((k0_pay275 x0 x1 x2 x3 x4 x5 x6 x7 x8 x9 x10 x11 x12) i) ((k0_pay276 x0 x1 x2 x3 x4 x5 x6 x7 x8 x9 x10 x11 x12) i) ((k0_pay277 x0 x1 x2 x3 x4 x5 x6 x7 x8 x9 x10 x11 x12) i) ((k0_pay278 x0 x1 x2 x3 x4 x5 x6 x7 x8 x9 x10 x11 x12) i) ((k0_pay278 x0 x1 x2 x3 x4 x5 x6 x7 x8 x9 x10 x11 x12) i)) k = (d k : EReal)) :
    (k0_pay279 x0 x1 x2 x3 x4 x5 x6 x7 x8 x9 x10 x11 x12) i = (slope d (bin (knot w) x) : EReal) := by
  rw [eq279]
  exact slope164 _ _ _ _ _ _ _ _ _ _ _ _ _ _ (mk2 hx hw) hd

/-- The slope at an end of the bin. -/
theorem sr2 (hx : (k0_pay177 x0 x1 x2 x3 x4 x5 x6 x7 x8 x9 x10 x11 x12) i = (x : EReal)) (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal)) (hd : ∀ k < 7, (lg8 ((k0_pay156 (k0_pay227 x0 x1 x2 x3 x4 x5 x6 x7 x8 x9 x10 x11 x12) (View.ld x11 r0_8) (View.ld x12 r0_9)) i) ((k0_pay273 x0 x1 x2 x3 x4 x5 x6 x7 x8 x9 x10 x11 x12) i) ((k0_pay274 x0 x1 x2 x3 x4 x5 x6 x7 x8 x9 x10 x11 x12) i) ((k0_pay275 x0 x1 x2 x3 x4 x5 x6 x7 x8 x9 x10 x11 x12) i) ((k0_pay276 x0 x1 x2 x3 x4 x5 x6 x7 x8 x9 x10 x11 x12) i) ((k0_pay277 x0 x1 x2 x3 x4 x5 x6 x7 x8 x9 x10 x11 x12) i) ((k0_pay278 x0 x1 x2 x3 x4 x5 x6 x7 x8 x9 x10 x11 x12) i) ((k0_pay278 x0 x1 x2 x3 x4 x5 x6 x7 x8 x9 x10 x11 x12) i)) k = (d k : EReal)) :
    (k0_pay280 x0 x1 x2 x3 x4 x5 x6 x7 x8 x9 x10 x11 x12) i = (slope d (bin (knot w) x + 1) : EReal) := by
  rw [eq280]
  exact slope165 _ _ _ _ _ _ _ _ _ _ _ _ _ _ (mk2 hx hw) hd

/-- The mapped input is the real spline. -/
theorem out2_coe (hx : (k0_pay177 x0 x1 x2 x3 x4 x5 x6 x7 x8 x9 x10 x11 x12) i = (x : EReal))
    (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal))
    (hh : ∀ k < 8, (lg8 ((k0_pay254 x0 x1 x2 x3 x4 x5 x6 x7 x8 x9 x10 x11 x12) i) ((k0_pay255 x0 x1 x2 x3 x4 x5 x6 x7 x8 x9 x10 x11 x12) i) ((k0_pay256 x0 x1 x2 x3 x4 x5 x6 x7 x8 x9 x10 x11 x12) i) ((k0_pay257 x0 x1 x2 x3 x4 x5 x6 x7 x8 x9 x10 x11 x12) i) ((k0_pay258 x0 x1 x2 x3 x4 x5 x6 x7 x8 x9 x10 x11 x12) i) ((k0_pay259 x0 x1 x2 x3 x4 x5 x6 x7 x8 x9 x10 x11 x12) i) ((k0_pay260 x0 x1 x2 x3 x4 x5 x6 x7 x8 x9 x10 x11 x12) i) ((k0_pay261 x0 x1 x2 x3 x4 x5 x6 x7 x8 x9 x10 x11 x12) i)) k = (h k : EReal))
    (hd : ∀ k < 7, (lg8 ((k0_pay156 (k0_pay227 x0 x1 x2 x3 x4 x5 x6 x7 x8 x9 x10 x11 x12) (View.ld x11 r0_8) (View.ld x12 r0_9)) i) ((k0_pay273 x0 x1 x2 x3 x4 x5 x6 x7 x8 x9 x10 x11 x12) i) ((k0_pay274 x0 x1 x2 x3 x4 x5 x6 x7 x8 x9 x10 x11 x12) i) ((k0_pay275 x0 x1 x2 x3 x4 x5 x6 x7 x8 x9 x10 x11 x12) i) ((k0_pay276 x0 x1 x2 x3 x4 x5 x6 x7 x8 x9 x10 x11 x12) i) ((k0_pay277 x0 x1 x2 x3 x4 x5 x6 x7 x8 x9 x10 x11 x12) i) ((k0_pay278 x0 x1 x2 x3 x4 x5 x6 x7 x8 x9 x10 x11 x12) i) ((k0_pay278 x0 x1 x2 x3 x4 x5 x6 x7 x8 x9 x10 x11 x12) i)) k = (d k : EReal)) :
    mapped2 (k0_pay177 x0 x1 x2 x3 x4 x5 x6 x7 x8 x9 x10 x11 x12) (k0_pay252 x0 x1 x2 x3 x4 x5 x6 x7 x8 x9 x10 x11 x12) (k0_pay253 x0 x1 x2 x3 x4 x5 x6 x7 x8 x9 x10 x11 x12) (k0_pay271 x0 x1 x2 x3 x4 x5 x6 x7 x8 x9 x10 x11 x12) (k0_pay272 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12) i = (spl w h d x : EReal) := by
  rw [mapped2_apply, hx, cw2 hx hw, cv2 hx hw, ch2 hx hw hh, cg2 hx hw hh, sl2 hx hw hd, sr2 hx hw hd]
  exact kOut_coe w h d x

/-- The logarithm of the slope is the real one. -/
theorem log2_coe (hx : (k0_pay177 x0 x1 x2 x3 x4 x5 x6 x7 x8 x9 x10 x11 x12) i = (x : EReal))
    (hw : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) i) ((k0_pay228 x0 x1 x2 x3 x4 x5 x6 x7 x8 x9 x10 x11 x12) i) ((k0_pay229 x0 x1 x2 x3 x4 x5 x6 x7 x8 x9 x10 x11 x12) i) ((k0_pay230 x0 x1 x2 x3 x4 x5 x6 x7 x8 x9 x10 x11 x12) i) ((k0_pay231 x0 x1 x2 x3 x4 x5 x6 x7 x8 x9 x10 x11 x12) i) ((k0_pay232 x0 x1 x2 x3 x4 x5 x6 x7 x8 x9 x10 x11 x12) i) ((k0_pay233 x0 x1 x2 x3 x4 x5 x6 x7 x8 x9 x10 x11 x12) i) ((k0_pay234 x0 x1 x2 x3 x4 x5 x6 x7 x8 x9 x10 x11 x12) i)) k = (w k : EReal))
    (hh : ∀ k < 8, (lg8 ((k0_pay254 x0 x1 x2 x3 x4 x5 x6 x7 x8 x9 x10 x11 x12) i) ((k0_pay255 x0 x1 x2 x3 x4 x5 x6 x7 x8 x9 x10 x11 x12) i) ((k0_pay256 x0 x1 x2 x3 x4 x5 x6 x7 x8 x9 x10 x11 x12) i) ((k0_pay257 x0 x1 x2 x3 x4 x5 x6 x7 x8 x9 x10 x11 x12) i) ((k0_pay258 x0 x1 x2 x3 x4 x5 x6 x7 x8 x9 x10 x11 x12) i) ((k0_pay259 x0 x1 x2 x3 x4 x5 x6 x7 x8 x9 x10 x11 x12) i) ((k0_pay260 x0 x1 x2 x3 x4 x5 x6 x7 x8 x9 x10 x11 x12) i) ((k0_pay261 x0 x1 x2 x3 x4 x5 x6 x7 x8 x9 x10 x11 x12) i)) k = (h k : EReal))
    (hd : ∀ k < 7, (lg8 ((k0_pay156 (k0_pay227 x0 x1 x2 x3 x4 x5 x6 x7 x8 x9 x10 x11 x12) (View.ld x11 r0_8) (View.ld x12 r0_9)) i) ((k0_pay273 x0 x1 x2 x3 x4 x5 x6 x7 x8 x9 x10 x11 x12) i) ((k0_pay274 x0 x1 x2 x3 x4 x5 x6 x7 x8 x9 x10 x11 x12) i) ((k0_pay275 x0 x1 x2 x3 x4 x5 x6 x7 x8 x9 x10 x11 x12) i) ((k0_pay276 x0 x1 x2 x3 x4 x5 x6 x7 x8 x9 x10 x11 x12) i) ((k0_pay277 x0 x1 x2 x3 x4 x5 x6 x7 x8 x9 x10 x11 x12) i) ((k0_pay278 x0 x1 x2 x3 x4 x5 x6 x7 x8 x9 x10 x11 x12) i) ((k0_pay278 x0 x1 x2 x3 x4 x5 x6 x7 x8 x9 x10 x11 x12) i)) k = (d k : EReal)) :
    (k0_pay175 (k0_pay177 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12)) i = (splLog w h d x : EReal) := by
  rw [eq281, eq282, eq283, p175_apply, hx, cw2 hx hw, cv2 hx hw, ch2 hx hw hh, cg2 hx hw hh, sl2 hx hw hd, sr2 hx hw hd]
  exact kLog_coe w h d x

end Cert.KernelIdeal.Gen

end
-- ==== Proof.Logits.lean ====
/- The networks inside the kernel body: the hidden layers and the logits at one index, when the input and the weights are
   real. -/
module

public import proofs.«01_k».proof.Proof.Stage1
public import proofs.«01_k».proof.Proof.Stage2
public import Idealize.ShloMosaic.Lib.MatmulPlain
public import Idealize.ShloMosaic.Lib.Pointwise

@[expose] public section

set_option maxRecDepth 16384

noncomputable section

namespace Cert.Spline

open Idealize.ShloMosaic

/-- A finite sum of reals is the same in the extended reals. -/
theorem sum_coe {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- A real number times its logistic value. -/
theorem silu_coe (z : ℝ) : (z : EReal) * Ideal.logistic (z : EReal) = (silu z : EReal) := by
  rw [Ideal.logistic_coe, ← EReal.coe_mul]; rfl

/-- A real row product with a bias, the factors in the kernel's order. -/
theorem lin_coe {K : ℕ} {a b : Fin K → EReal} {c : EReal} {a' b' : Fin K → ℝ} {c' : ℝ} (ha : ∀ k, a k = (a' k : EReal))
    (hb : ∀ k, b k = (b' k : EReal)) (hc : c = (c' : EReal)) :
    (∑ k, a k * b k) + c = ((∑ k, b' k * a' k + c' : ℝ) : EReal) := by
  rw [hc, EReal.coe_add, ← sum_coe]
  refine congrArg (· + (c' : EReal)) (Finset.sum_congr rfl fun k _ => ?_)
  rw [ha, hb, ← EReal.coe_mul, mul_comm]

end Cert.Spline

namespace Cert.KernelIdeal.Gen

open Idealize.ShloMosaic Cert.Spline

/-- The arrays a network's weights are kept in: weights transposed, the last layer's rows permuted so that output `k` of
    coordinate `j` is row `64 k + j`. -/
structure IsNet (f : Net) (w1 : Vec Ideal S256x64 .bf16) (b1 : Vec Ideal S256x1 .f32) (w2 : Vec Ideal S256x256 .bf16)
    (b2 : Vec Ideal S256x1 .f32) (w3 : Vec Ideal S1472x256 .bf16) (b3 : Vec Ideal S1472x1 .f32) : Prop where
  w1 : ∀ (q : Fin 256) (p : Fin 64), w1 (ix2 q p) = (f.w1 p q : EReal)
  b1 : ∀ q : Fin 256, b1 (ix2 q (0 : Fin 1)) = (f.b1 q : EReal)
  w2 : ∀ q p : Fin 256, w2 (ix2 q p) = (f.w2 p q : EReal)
  b2 : ∀ q : Fin 256, b2 (ix2 q (0 : Fin 1)) = (f.b2 q : EReal)
  w3 : ∀ (k : Fin 23) (j : Fin 64) (p : Fin 256) (r : Fin 1472) (q : Fin 1472), r.val = 64 * k.val + j.val →
    q.val = j.val * 23 + k.val → w3 (ix2 r p) = (f.w3 p q : EReal)
  b3 : ∀ (k : Fin 23) (j : Fin 64) (r : Fin 1472) (q : Fin 1472), r.val = 64 * k.val + j.val →
    q.val = j.val * 23 + k.val → b3 (ix2 r (0 : Fin 1)) = (f.b3 q : EReal)

/-- The hidden layers at one index. -/
theorem hid_apply {f : Net} {w1 : Vec Ideal S256x64 .bf16} {b1 : Vec Ideal S256x1 .f32} {w2 : Vec Ideal S256x256 .bf16}
    {b2 : Vec Ideal S256x1 .f32} {w3 : Vec Ideal S1472x256 .bf16} {b3 : Vec Ideal S1472x1 .f32} (hn : IsNet f w1 b1 w2 b2 w3 b3)
    {v : FVec Ideal S64x2048 .f32} {c : Fin 2048} {lo : Fin 64 → ℝ} (hv : ∀ p : Fin 64, v (ix2 p c) = (lo p : EReal)) (q : Fin 256) :
    k0_pay90 v (View.ld b1 r0_1) (View.ld b2 r0_1) (View.ld w1 r0_2) (View.ld w2 r0_3) (ix2 q c) = (f.hid2 lo q : EReal) := by
  unfold k0_pay90
  pointwise
  have h1 : ∀ y : Fin 256, (∑ p : Fin 64, w1 (ix2 y p) * v (ix2 p c)) + b1 (ix2 y (0 : Fin 1))
      = ((∑ p, lo p * f.w1 p y + f.b1 y : ℝ) : EReal) := fun y => lin_coe (hn.w1 y) hv (hn.b1 y)
  simp only [h1, silu_coe]
  have h2 : (∑ p : Fin 256, w2 (ix2 q p) * (silu (∑ p', lo p' * f.w1 p' p + f.b1 p) : EReal)) + b2 (ix2 q (0 : Fin 1))
      = ((∑ p, f.hid1 lo p * f.w2 p q + f.b2 q : ℝ) : EReal) := lin_coe (hn.w2 q) (fun _ => rfl) (hn.b2 q)
  rw [h2, silu_coe]
  rfl

/-- The first network's hidden layers are the second's, at the lower half of the block. -/
theorem pay5_eq (v0 v4 v6 v8 v16) : k0_pay5 (F := Ideal) v0 v4 v6 v8 v16 = k0_pay90 (k0_pay3 v0) v4 v6 v8 v16 := rfl

/-- A layer of 512 logits at one index. -/
theorem lay512 (v : FVec Ideal S256x2048 .bf16) (w : Vec Ideal S512x256 .bf16) (b : Vec Ideal S512x1 .f32) (q : Fin 512) (c : Fin 2048) :
    k0_pay42 v w b (ix2 q c) = (∑ p : Fin 256, w (ix2 q p) * v (ix2 p c)) + b (ix2 q (0 : Fin 1)) := by
  unfold k0_pay42
  pointwise

/-- A layer of 448 logits at one index. -/
theorem lay448 (v : FVec Ideal S256x2048 .bf16) (w : Vec Ideal S448x256 .bf16) (b : Vec Ideal S448x1 .f32) (q : Fin 448) (c : Fin 2048) :
    k0_pay70 v w b (ix2 q c) = (∑ p : Fin 256, w (ix2 q p) * v (ix2 p c)) + b (ix2 q (0 : Fin 1)) := by
  unfold k0_pay70
  pointwise

section Logits
variable {f : Net} {w1 : Vec Ideal S256x64 .bf16} {b1 : Vec Ideal S256x1 .f32} {w2 : Vec Ideal S256x256 .bf16}
  {b2 : Vec Ideal S256x1 .f32} {w3 : Vec Ideal S1472x256 .bf16} {b3 : Vec Ideal S1472x1 .f32} (hn : IsNet f w1 b1 w2 b2 w3 b3)
  {v : FVec Ideal S256x2048 .bf16} {c : Fin 2048} {lo : Fin 64 → ℝ} (hv : ∀ p : Fin 256, v (ix2 p c) = (f.hid2 lo p : EReal))
  (j : Fin 64)

include hn in
/-- One logit from its row of the last layer. -/
theorem logit_coe {w : Fin 256 → EReal} {h : Fin 256 → EReal} {b : EReal} (hh : ∀ p, h p = (f.hid2 lo p : EReal)) (k : ℕ) (hk : k < 23) (r : Fin 1472)
    (hr : r.val = 64 * k + j.val) (hw : ∀ p, w p = w3 (ix2 r p)) (hb : b = b3 (ix2 r (0 : Fin 1))) :
    (∑ p, w p * h p) + b = (f.logit lo j k : EReal) := by
  have hq : j.val * 23 + k < 1472 := by have := j.isLt; omega
  rw [lin_coe (a' := fun p => f.w3 p ⟨j.val * 23 + k, hq⟩) (b' := fun p => f.hid2 lo p) (c' := f.b3 ⟨j.val * 23 + k, hq⟩)
    (fun p => (hw p).trans (hn.w3 ⟨k, hk⟩ j p r ⟨j.val * 23 + k, hq⟩ hr rfl)) hh
    (hb.trans (hn.b3 ⟨k, hk⟩ j r ⟨j.val * 23 + k, hq⟩ hr rfl))]
  unfold Net.logit
  rw [dif_pos hk]
  rfl

include hn hv in
/-- The logits of rows 0 on. -/
theorem logit_w (k : ℕ) (hk : k < 8) (q : Fin 512) (hq : q.val = 64 * k + j.val) :
    k0_pay42 v (View.ld w3 r0_4) (View.ld b3 r0_5) (ix2 q c) = (f.logit lo j (k) : EReal) := by
  have hr : 0 + q.val < 1472 := by have := q.isLt; omega
  rw [lay512]
  refine logit_coe hn j hv (k) (by omega) ⟨0 + q.val, hr⟩ (by show 0 + q.val = _; omega) (fun p => ?_) ?_
  · pointwise
  · pointwise

include hn hv in
/-- The logits of rows 512 on. -/
theorem logit_h (k : ℕ) (hk : k < 8) (q : Fin 512) (hq : q.val = 64 * k + j.val) :
    k0_pay42 v (View.ld w3 r0_6) (View.ld b3 r0_7) (ix2 q c) = (f.logit lo j (8 + k) : EReal) := by
  have hr : 512 + q.val < 1472 := by have := q.isLt; omega
  rw [lay512]
  refine logit_coe hn j hv (8 + k) (by omega) ⟨512 + q.val, hr⟩ (by show 512 + q.val = _; omega) (fun p => ?_) ?_
  · pointwise
  · pointwise

include hn hv in
/-- The logits of rows 1024 on. -/
theorem logit_d (k : ℕ) (hk : k < 7) (q : Fin 448) (hq : q.val = 64 * k + j.val) :
    k0_pay70 v (View.ld w3 r0_8) (View.ld b3 r0_9) (ix2 q c) = (f.logit lo j (16 + k) : EReal) := by
  have hr : 1024 + q.val < 1472 := by have := q.isLt; omega
  rw [lay448]
  refine logit_coe hn j hv (16 + k) (by omega) ⟨1024 + q.val, hr⟩ (by show 1024 + q.val = _; omega) (fun p => ?_) ?_
  · pointwise
  · pointwise

end Logits

end Cert.KernelIdeal.Gen

end
-- ==== Proof.RefOps.lean ====
/- Host operations of the reference read at an index: the element a batched take picks, a running sum over eight
   entries, the largest of eight entries, and a count of nine bits. -/
module

public import proofs.«01_k».proof.Proof.Logits
public import Idealize.ShloMosaic.Lib.StableHlo.Predicate
public import Idealize.ShloMosaic.Lib.IdealHost
public import Idealize.ShloMosaic.Lib.Pointwise

@[expose] public section

set_option maxRecDepth 16384

noncomputable section

namespace Cert.Spline

open Idealize.ShloMosaic

/-- The dimension numbers of a take along the last axis of an array of rank three, one position per row. -/
abbrev pickDims (R C N : ℕ) (wf : GatherDims.WF ⟨3, ![R, C, N]⟩ ⟨4, ![R, C, 1, 1]⟩ ⟨3, ![R, C, 1]⟩ [] [2] [0, 1] [2] [0, 1] 3 ![1, 1, 1]) :
    GatherDims ⟨3, ![R, C, N]⟩ ⟨4, ![R, C, 1, 1]⟩ ⟨3, ![R, C, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The take reads, at row `(r, j)`, the entry its position word names. -/
theorem pick_apply {α : Type} {R C N w : ℕ} (hN : 0 < N)
    (wf : GatherDims.WF ⟨3, ![R, C, N]⟩ ⟨4, ![R, C, 1, 1]⟩ ⟨3, ![R, C, 1]⟩ [] [2] [0, 1] [2] [0, 1] 3 ![1, 1, 1])
    (x : (⟨3, ![R, C, N]⟩ : Shape).Idx → α) (idx : IVec ⟨4, ![R, C, 1, 1]⟩ w) (r : Fin R) (j : Fin C) (z : Fin 1) :
    Host.gather (pickDims R C N wf) x idx (ix3 r j z)
      = x (ix3 r j ⟨min (idx (ix4 r j 0 0)).toInt.toNat (N - 1), by omega⟩) := by
  unfold Host.gather
  congr 1
  have hz : z = 0 := Subsingleton.elim _ _
  subst hz
  have hsi : ∀ p, (pickDims R C N wf).siIdx (ix3 r j 0) p = ix4 r j 0 0 := by
    intro p
    funext b; refine Fin.ext ?_
    match b with
    | ⟨0, _⟩ => rfl
    | ⟨1, _⟩ => rfl
    | ⟨2, _⟩ => rfl
    | ⟨3, _⟩ => exact Nat.lt_one_iff.1 ((pickDims R C N wf).siIdx (ix3 r j 0) p 3).isLt
  funext a
  refine Fin.ext ?_
  show (pickDims R C N wf).start (ix3 r j 0) idx a + (pickDims R C N wf).batchCoord (ix3 r j 0) a
      + (pickDims R C N wf).offCoord (ix3 r j 0) a = _
  match a with
  | ⟨0, _⟩ =>
    rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  | ⟨1, _⟩ =>
    rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl
  | ⟨2, _⟩ =>
    rw [GatherDims.batchCoord_eq_zero _ _ _ (fun h => by simp at h),
      GatherDims.offCoord_eq_zero _ _ _ (fun h => ((GatherDims.mem_sKept _ _).mp h).1 (by simp))]
    simp only [Nat.add_zero]
    unfold GatherDims.start
    rw [dif_pos (by simp), hsi]
    rfl

/-- The positions of a window of eight along the last axis are its numbers in order. -/
theorem window_pos (n : Fin 8) : (((⟨3, ![1, 1, 8]⟩ : Shape).rowMajor.symm n 0).val = 0 ∧
    ((⟨3, ![1, 1, 8]⟩ : Shape).rowMajor.symm n 1).val = 0) ∧ ((⟨3, ![1, 1, 8]⟩ : Shape).rowMajor.symm n 2).val = n.val := by
  revert n
  decide +kernel

/-- A running sum along the last axis of eight, as a window of eight padded low by seven. -/
theorem cumsum_apply {R C : ℕ} (x : FVec Ideal ⟨3, ![R, C, 8]⟩ .f32) (init : FVec Ideal ⟨0, ![]⟩ .f32) (h0 : ∀ i, init i = 0)
    (h : (⟨3, ![R, C, 8]⟩ : Shape).ReduceWindows (![1, 1, 8] : Fin 3 → ℕ) ![1, 1, 1] ![0, 0, 7] ![0, 0, 0] ⟨3, ![R, C, 8]⟩)
    (hu : 0 < (⟨0, ![]⟩ : Shape).numel) (f : ℕ → EReal) (r : Fin R) (j : Fin C) (hf : ∀ q : Fin 8, x (ix3 r j q) = f q) (k : Fin 8) :
    Host.reduceWindowAdd ![1, 1, 8] ![1, 1, 1] ![0, 0, 7] ![0, 0, 0] x init h hu (ix3 r j k)
      = ∑ i ∈ Finset.range (k.val + 1), f i := by
  show Ideal.hostReduceWindowAdd ![1, 1, 8] ![1, 1, 1] ![0, 0, 7] ![0, 0, 0] h x (init (Shape.Idx.first hu)) (ix3 r j k) = _
  rw [h0 (Shape.Idx.first hu)]
  unfold Ideal.hostReduceWindowAdd Host.reduceWindow
  refine Eq.trans (congrArg (fun g => (List.finRange (⟨3, ![1, 1, 8]⟩ : Shape).numel).foldl g (0 : EReal))
    (funext fun s => funext fun n => congrArg (s + ·)
      (show _ = (if 7 ≤ k.val + n.val then f (k.val + n.val - 7) else (0 : EReal)) from by
        obtain ⟨⟨p0, p1⟩, p2⟩ := window_pos n
        have hnum : (⟨3, ![1, 1, 8]⟩ : Shape).numel = 8 := by decide
        have hr := r.isLt
        have hj := j.isLt
        have hk := k.isLt
        have hn := lt_of_lt_of_eq n.isLt hnum
        dsimp only
        split
        · next hin =>
          have h2 : 7 ≤ k.val * 1 + ((⟨3, ![1, 1, 8]⟩ : Shape).rowMajor.symm n 2).val := (hin 2).1
          rw [if_pos (by omega)]
          refine Eq.trans (congrArg x ?_) (hf ⟨k.val + n.val - 7, by omega⟩)
          funext a
          refine Fin.ext ?_
          match a with
          | ⟨0, _⟩ =>
            show r.val * 1 + ((⟨3, ![1, 1, 8]⟩ : Shape).rowMajor.symm n 0).val - 0 = r.val
            omega
          | ⟨1, _⟩ =>
            show j.val * 1 + ((⟨3, ![1, 1, 8]⟩ : Shape).rowMajor.symm n 1).val - 0 = j.val
            omega
          | ⟨2, _⟩ =>
            show k.val * 1 + ((⟨3, ![1, 1, 8]⟩ : Shape).rowMajor.symm n 2).val - 7 = k.val + n.val - 7
            omega
        · next hin =>
          rw [if_neg]
          intro hc
          apply hin
          intro a
          match a with
          | ⟨0, _⟩ =>
            show 0 ≤ r.val * 1 + ((⟨3, ![1, 1, 8]⟩ : Shape).rowMajor.symm n 0).val ∧ r.val * 1 + ((⟨3, ![1, 1, 8]⟩ : Shape).rowMajor.symm n 0).val - 0 < R
            omega
          | ⟨1, _⟩ =>
            show 0 ≤ j.val * 1 + ((⟨3, ![1, 1, 8]⟩ : Shape).rowMajor.symm n 1).val ∧ j.val * 1 + ((⟨3, ![1, 1, 8]⟩ : Shape).rowMajor.symm n 1).val - 0 < C
            omega
          | ⟨2, _⟩ =>
            show 7 ≤ k.val * 1 + ((⟨3, ![1, 1, 8]⟩ : Shape).rowMajor.symm n 2).val ∧ k.val * 1 + ((⟨3, ![1, 1, 8]⟩ : Shape).rowMajor.symm n 2).val - 7 < 8
            omega))) ?_
  have hl : ∀ N : ℕ, (List.finRange N).foldl (fun (s : EReal) n => s + if 7 ≤ k.val + n.val then f (k.val + n.val - 7) else 0) 0
      = (List.range N).foldl (fun s n => s + if 7 ≤ k.val + n then f (k.val + n - 7) else 0) 0 := by
    intro N
    rw [← List.map_coe_finRange_eq_range, List.foldl_map]
  refine (hl _).trans ?_
  rw [show (⟨3, ![1, 1, 8]⟩ : Shape).numel = 8 from by decide, show List.range 8 = [0, 1, 2, 3, 4, 5, 6, 7] from rfl]
  fin_cases k <;> simp [Finset.sum_range_succ]

/-- The largest of some real numbers, started at `-∞`, is real when there is one. -/
theorem fold_max_real {ι : Type} [DecidableEq ι] (s : Finset ι) (hs : s.Nonempty) (f : ι → EReal) (u : ι → ℝ)
    (hf : ∀ i, f i = (u i : EReal)) : ∃ m : ℝ, s.fold max (⊥ : EReal) f = (m : EReal) := by
  induction hs using Finset.Nonempty.cons_induction with
  | singleton a => exact ⟨u a, by rw [Finset.fold_singleton, hf, max_bot_right]⟩
  | cons a s ha hs ih =>
    obtain ⟨m, hm⟩ := ih
    refine ⟨max (u a) m, ?_⟩
    rw [Finset.fold_cons, hm, hf, EReal.coe_strictMono.monotone.map_max]

/-- The host's maximum along the last axis, of real entries and started at `-∞`, is real. -/
theorem hostMax_real {R C N : ℕ} (hN : 0 < N) (x : FVec Ideal ⟨3, ![R, C, N]⟩ .f32) (init : FVec Ideal ⟨0, ![]⟩ .f32) (h0 : ∀ i, init i = ⊥)
    (h : (⟨3, ![R, C, N]⟩ : Shape).ReducesTo [2] ⟨2, ![R, C]⟩) (hu : 0 < (⟨0, ![]⟩ : Shape).numel) (r : Fin R) (j : Fin C) (u : ℕ → ℝ)
    (hx : ∀ q : Fin N, x (ix3 r j q) = (u q : EReal)) :
    ∃ m : ℝ, Host.reduce (FloatOps.maximumf (F := Ideal) (φ := .f32)) x init h hu (ix2 r j) = (m : EReal) := by
  obtain ⟨m, hm⟩ := fold_max_real (Finset.univ : Finset (Fin N)) ⟨⟨0, hN⟩, Finset.mem_univ _⟩ (fun q => x (ix3 r j q)) (fun q => u q) hx
  refine ⟨m, ?_⟩
  rw [← hm]
  have e : Host.reduce (FloatOps.maximumf (F := Ideal) (φ := .f32)) x init h hu (ix2 r j)
      = (Finset.univ.filter fun i => h.drop i = ix2 r j).fold max (init (Shape.Idx.first hu)) x :=
    Host.reduce_eq_fold (max : EReal → EReal → EReal) x init h hu (ix2 r j)
  rw [e, h0, Shape.ReducesTo.fold_fiber_r3_a2]
  rfl

/-- The host's sum along the last axis, started at zero. -/
theorem hostSum_last {R C N : ℕ} (x : FVec Ideal ⟨3, ![R, C, N]⟩ .f32) (init : FVec Ideal ⟨0, ![]⟩ .f32) (h0 : ∀ i, init i = 0)
    (h : (⟨3, ![R, C, N]⟩ : Shape).ReducesTo [2] ⟨2, ![R, C]⟩) (hu : 0 < (⟨0, ![]⟩ : Shape).numel) (r : Fin R) (j : Fin C) :
    Host.reduceAdd x init h hu (ix2 r j) = ∑ q : Fin N, x (ix3 r j q) := by
  show init (Shape.Idx.first hu) + ∑ i ∈ Finset.univ.filter (fun i => h.drop i = ix2 r j), x i = _
  rw [h0, zero_add, Shape.ReducesTo.sum_fiber_r3_a2]
  rfl

/-- The host's sum along the second axis of a matrix, started at zero. -/
theorem hostSum_row {R C : ℕ} (x : FVec Ideal ⟨2, ![R, C]⟩ .f32) (init : FVec Ideal ⟨0, ![]⟩ .f32) (h0 : ∀ i, init i = 0)
    (h : (⟨2, ![R, C]⟩ : Shape).ReducesTo [1] ⟨1, ![R]⟩) (hu : 0 < (⟨0, ![]⟩ : Shape).numel) (r : Fin R) :
    Host.reduceAdd x init h hu (ix1 r) = ∑ q : Fin C, x (ix2 r q) := by
  show init (Shape.Idx.first hu) + ∑ i ∈ Finset.univ.filter (fun i => h.drop i = ix1 r), x i = _
  rw [h0, zero_add, Shape.ReducesTo.sum_fiber_r2_a1]
  rfl

/-- The host's count of the bits set along the last axis. -/
theorem hostCount {R C N : ℕ} (hN : N < 2 ^ 32) (x : IVec ⟨3, ![R, C, N]⟩ 1) (hw : 1 < 32) (init : IVec ⟨0, ![]⟩ 32) (h0 : ∀ i, init i = 0#32)
    (h : (⟨3, ![R, C, N]⟩ : Shape).ReducesTo [2] ⟨2, ![R, C]⟩) (hu : 0 < (⟨0, ![]⟩ : Shape).numel) (r : Fin R) (j : Fin C) :
    (Host.reduce IntOp.addi (extui 32 x hw) init h hu (ix2 r j)).toNat
      = (Finset.univ.filter fun q : Fin N => x (ix3 r j q) = 1#1).card := by
  classical
  have hs : ∑ q : Fin N, (extui 32 x hw (ix3 r j q)).toNat = (Finset.univ.filter fun q : Fin N => x (ix3 r j q) = 1#1).card := by
    rw [Finset.card_filter]
    exact Finset.sum_congr rfl fun q _ => StableHlo.Predicate.toNat_setWidth_bit (x (ix3 r j q))
  have hlt : (Finset.univ.filter fun q : Fin N => x (ix3 r j q) = 1#1).card < 2 ^ 32 :=
    lt_of_le_of_lt (Finset.card_le_univ _) (by simpa using hN)
  rw [Host.reduce_eq_fold, h0, Shape.ReducesTo.fold_fiber_r3_a2]
  refine (StableHlo.Predicate.toNat_fold_addi _ _ ?_).trans hs
  exact lt_of_le_of_lt (le_of_eq hs) hlt

end Cert.Spline

end
-- ==== Proof.RefRead.lean ====
/- The reference's operation groups read at one index: the layers, the logits, the slopes and the knots, when the tensors they read hold real numbers there. -/
module

public import proofs.«01_k».proof.Proof.RefDefs
public import proofs.«01_k».proof.Proof.RefOps
public import proofs.«01_k».proof.Proof.Scalar
public import Idealize.ShloMosaic.Lib.MatmulPlain
public import Idealize.ShloMosaic.Lib.Pointwise

@[expose] public section

set_option maxRecDepth 16384

noncomputable section

namespace Cert.Spline

open Cert.ReferenceIdeal Cert.ReferenceIdeal.Gen Idealize.ShloMosaic

/-- The word of `8.0` denotes the real `8`. -/
theorem word_8 : Ideal.ofBits .f32 0x41000000#32 = ((8 : ℝ) : EReal) := by
  simp [Ideal.ofBits, Ideal.ieee, -EReal.coe_mul]; norm_num

/-- The word of `1000.0` denotes the real `1000`. -/
theorem word_1000 : Ideal.ofBits .f32 0x447A0000#32 = ((1000 : ℝ) : EReal) := by
  simp [Ideal.ofBits, Ideal.ieee, -EReal.coe_mul]; norm_num

/-- One over the word of `1000.0` is a thousandth. -/
theorem thousandth : Ideal.div 1 (Ideal.ofBits .f32 0x447A0000#32) = ((1 / 1000 : ℝ) : EReal) := by
  rw [word_1000, ← EReal.coe_one, div_real (by norm_num)]

/-- A real row product with a bias, the factors in the reference's order. -/
theorem row_coe {K : ℕ} {a b : Fin K → EReal} {c : EReal} {a' b' : Fin K → ℝ} {c' : ℝ} (ha : ∀ k, a k = (a' k : EReal))
    (hb : ∀ k, b k = (b' k : EReal)) (hc : c = (c' : EReal)) :
    (∑ k, a k * b k) + c = ((∑ k, a' k * b' k + c' : ℝ) : EReal) := by
  rw [hc, EReal.coe_add, ← sum_coe]
  simp only [ha, hb, EReal.coe_mul]

/-- A real number times its logistic value, the quotient spelt out. -/
theorem silu_quot (z : ℝ) : (z : EReal) * Ideal.div 1 (1 + Ideal.exp (-(z : EReal))) = (silu z : EReal) := by
  have h : (1 + Real.exp (-z)) ≠ 0 := by have := Real.exp_pos (-z); linarith
  rw [← EReal.coe_neg, Ideal.exp_coe, ← EReal.coe_one, ← EReal.coe_add, div_real h, ← EReal.coe_mul, one_div]
  rfl

section Net
variable {f : Net} {r : Fin 16384} {v : Fin 64 → ℝ}

/-- The first hidden layer. -/
theorem rHid1_coe {x : FVec Ideal S16384x64 .f32} {w : FVec Ideal S64x256 .f32} {b : FVec Ideal S256 .f32}
    (hx : ∀ p : Fin 64, x (ix2 r p) = (v p : EReal)) (hw : ∀ p q, w (ix2 p q) = (f.w1 p q : EReal)) (hb : ∀ q, b (ix1 q) = (f.b1 q : EReal))
    (q : Fin 256) : rSilu (rLin1 x w b) (ix2 r q) = (f.hid1 v q : EReal) := by
  have h : rLin1 x w b (ix2 r q) = ((∑ p, v p * f.w1 p q + f.b1 q : ℝ) : EReal) := by
    unfold rLin1
    pointwise
    exact row_coe hx (fun p => hw p q) (hb q)
  unfold rSilu
  pointwise
  rw [h, silu_quot]
  rfl

/-- The second hidden layer. -/
theorem rHid2_coe {x : FVec Ideal S16384x256 .f32} {w : FVec Ideal S256x256 .f32} {b : FVec Ideal S256 .f32}
    (hx : ∀ p : Fin 256, x (ix2 r p) = (f.hid1 v p : EReal)) (hw : ∀ p q, w (ix2 p q) = (f.w2 p q : EReal)) (hb : ∀ q, b (ix1 q) = (f.b2 q : EReal))
    (q : Fin 256) : rSilu (rLin2 x w b) (ix2 r q) = (f.hid2 v q : EReal) := by
  have h : rLin2 x w b (ix2 r q) = ((∑ p, f.hid1 v p * f.w2 p q + f.b2 q : ℝ) : EReal) := by
    unfold rLin2
    pointwise
    exact row_coe hx (fun p => hw p q) (hb q)
  unfold rSilu
  pointwise
  rw [h, silu_quot]
  rfl

/-- The output layer. -/
theorem rLin3_coe {x : FVec Ideal S16384x256 .f32} {w : FVec Ideal S256x1472 .f32} {b : FVec Ideal S1472 .f32}
    (hx : ∀ p : Fin 256, x (ix2 r p) = (f.hid2 v p : EReal)) (hw : ∀ p q, w (ix2 p q) = (f.w3 p q : EReal)) (hb : ∀ q, b (ix1 q) = (f.b3 q : EReal))
    (q : Fin 1472) : rLin3 x w b (ix2 r q) = (f.out v q : EReal) := by
  unfold rLin3
  pointwise
  exact row_coe hx (fun p => hw p q) (hb q)

variable {o : FVec Ideal S16384x1472 .f32} (ho : ∀ q : Fin 1472, o (ix2 r q) = (f.out v q : EReal)) (j : Fin 64)

include ho in
/-- The width logits. -/
theorem rWid_coe (q : Fin 8) : rWid o (ix3 r j q) = (f.logit v j q : EReal) := by
  unfold rWid
  pointwise
  rw [ho]
  have hq : q.val < 23 := by omega
  unfold Net.logit
  rw [dif_pos hq]

include ho in
/-- The height logits. -/
theorem rHgt_coe (q : Fin 8) : rHgt o (ix3 r j q) = (f.logit v j (8 + q) : EReal) := by
  unfold rHgt
  pointwise
  rw [ho]
  have hq : 8 + q.val < 23 := by omega
  unfold Net.logit
  rw [dif_pos hq]

include ho in
/-- The inner slope logits. -/
theorem rSlp_coe (q : Fin 7) : rSlp o (ix3 r j q) = (f.logit v j (16 + q) : EReal) := by
  unfold rSlp
  pointwise
  rw [ho]
  have hq : 16 + q.val < 23 := by omega
  unfold Net.logit
  rw [dif_pos hq]

end Net

section Knots
variable {r : Fin 16384} {j : Fin 64}

/-- The slope logits with the two fixed ones. -/
theorem rExt_coe {d : FVec Ideal S16384x64x7 .f32} {u : ℕ → ℝ} (hd : ∀ q : Fin 7, d (ix3 r j q) = (u q : EReal)) (k : Fin 9) :
    rExt d (ix3 r j k) = (slopeLogit u k : EReal) := by
  unfold rExt
  pointwise
  unfold slopeLogit
  have hk := k.isLt
  split
  · next h => rw [if_pos (show k.val = 0 ∨ k.val = 8 by omega), word_end]
  · next h =>
    split
    · next h' => rw [if_neg (show ¬ (k.val = 0 ∨ k.val = 8) by omega)]; exact hd ⟨k.val - 1, h'⟩
    · next h' => rw [if_pos (show k.val = 0 ∨ k.val = 8 by omega), word_end]

/-- The slopes. -/
theorem rSlope_coe {d : FVec Ideal S16384x64x9 .f32} {u : ℕ → ℝ} (hd : ∀ k : Fin 9, d (ix3 r j k) = (slopeLogit u k : EReal)) (k : Fin 9) :
    rSlope d (ix3 r j k) = (slope u k : EReal) := by
  unfold rSlope
  pointwise
  rw [hd, thousandth, if_neg (by simp)]
  unfold slope softplus
  generalize slopeLogit u k = z
  rw [← EReal.coe_zero, coe_max', show FloatOps.absf (F := Ideal) (φ := .f32) (z : EReal) = ((|z| : ℝ) : EReal) from ?_, ← EReal.coe_neg, Ideal.exp_coe]
  · unfold Ideal.log1p
    have hp : ¬ (1 + Real.exp (-|z|) ≤ 0) := by have := Real.exp_pos (-|z|); linarith
    rw [← EReal.coe_one, ← EReal.coe_add, Ideal.log_coe, if_neg hp, ← EReal.coe_add, ← EReal.coe_add]
  · show max (z : EReal) (-(z : EReal)) = _
    rw [← EReal.coe_neg, coe_max']
    rfl

/-- The largest logit is real. -/
theorem rTop_real {u : FVec Ideal S16384x64x8 .f32} {a : ℕ → ℝ} (hu : ∀ q : Fin 8, u (ix3 r j q) = (a q : EReal)) :
    ∃ m : ℝ, rTop u (ix2 r j) = (m : EReal) := by
  obtain ⟨m, hm⟩ := hostMax_real (by omega) u (constant (F := Ideal) S_ .f32 0xFF800000#32) (fun _ => word_neginf)
    reducesTo_S16384x64x8_S16384x64_d2 h_S_ r j a hu
  refine ⟨m, ?_⟩
  unfold rTop
  rw [show ∀ A B : FVec Ideal S16384x64 .f32, maximumf A B (ix2 r j) = max (A (ix2 r j)) (B (ix2 r j)) from fun _ _ => rfl, hm]
  exact max_eq_right ((le_of_eq word_neginf).trans bot_le)

/-- The exponentials. -/
theorem rExp_coe {u : FVec Ideal S16384x64x8 .f32} {m : FVec Ideal S16384x64 .f32} {a : ℕ → ℝ} {m' : ℝ}
    (hu : ∀ q : Fin 8, u (ix3 r j q) = (a q : EReal)) (hm : m (ix2 r j) = (m' : EReal)) (q : Fin 8) :
    rExp u m (ix3 r j q) = (Real.exp (a q - m') : EReal) := by
  unfold rExp
  pointwise
  rw [hu, hm, ← EReal.coe_sub, Ideal.exp_coe]

/-- The sizes of the bins. -/
theorem rSize_coe {e : FVec Ideal S16384x64x8 .f32} {a : ℕ → ℝ} {m : ℝ} (he : ∀ q : Fin 8, e (ix3 r j q) = (Real.exp (a q - m) : EReal))
    (q : Fin 8) : rSize e (ix3 r j q)
      = ((1 / 1000 + 124 / 125 * (Real.exp (a q - m) * (1 / ∑ i ∈ Finset.range 8, Real.exp (a i - m))) : ℝ) : EReal) := by
  unfold rSize
  pointwise
  simp only [he]
  have hs : (∑ i ∈ Finset.range 8, Real.exp (a i - m)) ≠ 0 :=
    (Finset.sum_pos (fun i _ => Real.exp_pos _) ⟨0, by simp⟩).ne'
  rw [sum_coe, Fin.sum_univ_eq_sum_range (fun i => Real.exp (a i - m)) 8, thousandth, word_8, div_real hs, ← EReal.coe_one,
    ← EReal.coe_mul, ← EReal.coe_sub, ← EReal.coe_mul, ← EReal.coe_add]
  congr 1
  ring

/-- The knots from real sizes: the ends, and the scaled running sums between. -/
theorem rKnot_coe {s : FVec Ideal S16384x64x8 .f32} {z : ℕ → ℝ} (hs : ∀ q : Fin 8, s (ix3 r j q) = (z q : EReal)) (k : Fin 9) :
    rKnot s (ix3 r j k) = ((if k.val = 0 then -3 else if k.val = 8 then 3 else 6 * (∑ i ∈ Finset.range k.val, z i) + -3 : ℝ) : EReal) := by
  unfold rKnot
  pointwise
  have hk := k.isLt
  split
  · next h => rw [if_pos (show k.val = 0 by omega), word_neg3]
  · next h =>
    rw [if_neg (show ¬ k.val = 0 by omega)]
    split
    · next h' =>
      rw [if_neg (show ¬ k.val = 8 by omega), cumsum_apply s _ (fun _ => ?_) _ _ (fun i => (z i : EReal)) r j hs, word_6, word_neg3]
      · show ((6 : ℝ) : EReal) * (∑ i ∈ Finset.range (k.val - 1 + 1), (z i : EReal)) + ((-3 : ℝ) : EReal) = _
        rw [show k.val - 1 + 1 = k.val by omega, EReal.coe_add, EReal.coe_mul]
        congr 2
        rw [← Fin.sum_univ_eq_sum_range (fun i => (z i : EReal)), sum_coe, Fin.sum_univ_eq_sum_range z]
      · exact Ideal.ofBits_zero_f32
    · next h' => rw [if_pos (show k.val = 8 by omega), word_3]

/-- The knots from the logits. -/
theorem rKnots_coe {u : FVec Ideal S16384x64x8 .f32} {a : ℕ → ℝ} (hu : ∀ q : Fin 8, u (ix3 r j q) = (a q : EReal)) (k : Fin 9) :
    rKnot (rSize (rExp u (rTop u))) (ix3 r j k) = (knot a k : EReal) := by
  obtain ⟨m, hm⟩ := rTop_real hu
  rw [rKnot_coe (z := fun q => 1 / 1000 + 124 / 125 * (Real.exp (a q - m) * (1 / ∑ i ∈ Finset.range 8, Real.exp (a i - m))))
    (rSize_coe (rExp_coe hu hm)) k]
  refine congrArg (fun t : ℝ => (t : EReal)) ?_
  split
  · next h => rw [h, knot_zero]
  · split
    · next h => rw [h, knot_eight]
    · exact knot_of_softmax a m k

/-- The widths of the bins. -/
theorem rDiff_coe {k : FVec Ideal S16384x64x9 .f32} {t : ℕ → ℝ} (hk : ∀ q : Fin 9, k (ix3 r j q) = (t q : EReal)) (q : Fin 8) :
    rDiff k (ix3 r j q) = ((t (q + 1) - t q : ℝ) : EReal) := by
  unfold rDiff
  pointwise
  rw [hk, hk, ← EReal.coe_sub]
  show ((t (1 + q.val) - t q.val : ℝ) : EReal) = _
  rw [Nat.add_comm]

/-- The slopes but the first. -/
theorem rNext_coe {k : FVec Ideal S16384x64x9 .f32} {t : ℕ → ℝ} (hk : ∀ q : Fin 9, k (ix3 r j q) = (t q : EReal)) (q : Fin 8) :
    rNext k (ix3 r j q) = ((t (q + 1) : ℝ) : EReal) := by
  unfold rNext
  pointwise
  rw [hk]
  show ((t (1 + q.val) : ℝ) : EReal) = _
  rw [Nat.add_comm]

end Knots

end Cert.Spline

end
-- ==== Proof.Pre.lean ====
/- The precondition: its side conditions, and what it says of the arguments. -/
module

public import proofs.«01_k».proof.Pre_finite
public import proofs.«01_k».proof.Proof.RefRead

@[expose] public section

set_option maxRecDepth 16384

noncomputable section

namespace Cert.Pre_finite

open Idealize.ShloMosaic

/-- The side conditions the precondition's operations take. -/
theorem stated : Facts where
  bcast_S_S16384x128 := by decide
  bcast_S_S64x256 := by decide
  bcast_S_S256 := by decide
  bcast_S_S256x256 := by decide
  bcast_S_S256x1472 := by decide
  bcast_S_S1472 := by decide

end Cert.Pre_finite

namespace Cert.Spline

open Idealize.ShloMosaic

/-- A number whose absolute value is below the word of infinity is real. -/
theorem real_of_bit {a : EReal} (h : Ideal.cmp .olt (max a (-a)) (Ideal.ofBits .f32 0x7F800000#32) = 1#1) : a = ((a.toReal : ℝ) : EReal) := by
  have h1 : max a (-a) < Ideal.ofBits .f32 0x7F800000#32 := (Ideal.cmp_olt_eq_one _ _).1 h
  rw [word_inf] at h1
  refine (EReal.coe_toReal ?_ ?_).symm
  · rintro rfl; simp at h1
  · rintro rfl; simp at h1

/-- An array every element of which passes the test holds real numbers. -/
theorem real_of_pre {s : Shape} {a : FVec Ideal s .f32} {z : FVec Ideal s .f32} (hz : ∀ i, z i = Ideal.ofBits .f32 0x7F800000#32)
    (h : cmpf .olt (Host.absf a) z = fun _ => 1#1) (i : s.Idx) : a i = (((a i : EReal).toReal : ℝ) : EReal) := by
  refine real_of_bit ?_
  rw [← hz i]
  exact congrFun h i

end Cert.Spline

end
-- ==== Proof.Block.lean ====
/- One block of the kernel: its two results at an index, when the blocks it reads are real. -/
module

public import proofs.«01_k».proof.Proof.Logits

@[expose] public section

set_option maxRecDepth 16384

noncomputable section

namespace Cert.KernelIdeal.Gen

open Idealize.ShloMosaic Cert.Spline

/-- The first network's width and slope layers use the hidden layers' value. -/
theorem pay6_eq (v0 v4 v6 v8 v16 v25 v28) : k0_pay6 (F := Ideal) v0 v4 v6 v8 v16 v25 v28 = k0_pay42 (k0_pay90 (k0_pay3 v0) v4 v6 v8 v16) v25 v28 := rfl

/-- The second network's width layer is the same layer. -/
theorem pay91_eq (v0 v4 v6 v8 v16 v25 v28) : k0_pay91 (F := Ideal) v0 v4 v6 v8 v16 v25 v28 = k0_pay42 (k0_pay90 v0 v4 v6 v8 v16) v25 v28 := rfl

/-- The second network's height layer is the same layer. -/
theorem pay126_eq : k0_pay126 (F := Ideal) = k0_pay42 := rfl

/-- The second network's slope layer is the same layer. -/
theorem pay155_eq : k0_pay155 (F := Ideal) = k0_pay70 := rfl

/-- The lower half of a block, one column per row. -/
theorem lo_apply (x0 : Vec Ideal S2048x128 .f32) (p : Fin 64) (c : Fin 2048) :
    k0_pay3 (View.ld x0 r0_0) (ix2 p c) = x0 (ix2 c (⟨p.val, by have := p.isLt; omega⟩ : Fin 128)) := by
  unfold k0_pay3
  pointwise
  unfold k0_pay2
  pointwise

/-- The upper half of a block, one column per row. -/
theorem up_apply (x0 : Vec Ideal S2048x128 .f32) (p : Fin 64) (c : Fin 2048) :
    k0_pay4 (View.ld x0 r0_0) (ix2 p c) = x0 (ix2 c (⟨64 + p.val, by have := p.isLt; omega⟩ : Fin 128)) := by
  unfold k0_pay4
  pointwise
  unfold k0_pay2
  pointwise

/-- Column `c` of a block holds a real row: `lo` then `up`. -/
structure IsRow (lo up : Fin 64 → ℝ) (c : Fin 2048) (x0 : Vec Ideal S2048x128 .f32) : Prop where
  lo : ∀ (p : Fin 64) (q : Fin 128), q.val = p.val → x0 (ix2 c q) = (lo p : EReal)
  up : ∀ (p : Fin 64) (q : Fin 128), q.val = 64 + p.val → x0 (ix2 c q) = (up p : EReal)

variable {x0 : Vec Ideal S2048x128 .f32} {x1 : Vec Ideal S256x64 .bf16} {x2 : Vec Ideal S256x1 .f32} {x3 : Vec Ideal S256x256 .bf16} {x4 : Vec Ideal S256x1 .f32} {x5 : Vec Ideal S1472x256 .bf16} {x6 : Vec Ideal S1472x1 .f32}
  {x7 : Vec Ideal S256x64 .bf16} {x8 : Vec Ideal S256x1 .f32} {x9 : Vec Ideal S256x256 .bf16} {x10 : Vec Ideal S256x1 .f32} {x11 : Vec Ideal S1472x256 .bf16} {x12 : Vec Ideal S1472x1 .f32}
  {f g : Net} {lo up : Fin 64 → ℝ} {c : Fin 2048} {j : Fin 64}

/-- The lower half's shared value. -/
theorem p177_coe (hx : IsRow lo up c x0) (j : Fin 64) : (k0_pay177 x0 x1 x2 x3 x4 x5 x6 x7 x8 x9 x10 x11 x12) (ix2 j c) = (lo j : EReal) := by
  rw [eq177, lo_apply]
  exact hx.lo j _ rfl

/-- The upper half's shared value. -/
theorem p178_coe (hx : IsRow lo up c x0) (j : Fin 64) : (k0_pay178 x0 x1 x2 x3 x4 x5 x6 x7 x8 x9 x10 x11 x12) (ix2 j c) = (up j : EReal) := by
  rw [eq178, up_apply]
  exact hx.up j _ rfl

/-- The first network's hidden layers. -/
theorem hid1_coe (hf : IsNet f x1 x2 x3 x4 x5 x6) (hx : IsRow lo up c x0) (q : Fin 256) : k0_pay90 (k0_pay3 (View.ld x0 r0_0)) (View.ld x2 r0_1) (View.ld x4 r0_1) (View.ld x1 r0_2) (View.ld x3 r0_3) (ix2 q c) = (f.hid2 lo q : EReal) := by
  refine hid_apply hf (fun p => ?_) q
  rw [lo_apply]
  exact hx.lo p _ rfl

/-- The same, as the shared value. -/
theorem p179_coe (hf : IsNet f x1 x2 x3 x4 x5 x6) (hx : IsRow lo up c x0) (q : Fin 256) : (k0_pay179 x0 x1 x2 x3 x4 x5 x6 x7 x8 x9 x10 x11 x12) (ix2 q c) = (f.hid2 lo q : EReal) := by
  rw [eq179, pay5_eq]
  exact hid1_coe hf hx q

/-- The first network's width logits. -/
theorem wl1 (hf : IsNet f x1 x2 x3 x4 x5 x6) (hx : IsRow lo up c x0) : ∀ k < 8, (lg8 ((k0_pay180 x0 x1 x2 x3 x4 x5 x6 x7 x8 x9 x10 x11 x12) (ix2 j c)) ((k0_pay181 x0 x1 x2 x3 x4 x5 x6 x7 x8 x9 x10 x11 x12) (ix2 j c)) ((k0_pay182 x0 x1 x2 x3 x4 x5 x6 x7 x8 x9 x10 x11 x12) (ix2 j c)) ((k0_pay183 x0 x1 x2 x3 x4 x5 x6 x7 x8 x9 x10 x11 x12) (ix2 j c)) ((k0_pay184 x0 x1 x2 x3 x4 x5 x6 x7 x8 x9 x10 x11 x12) (ix2 j c)) ((k0_pay185 x0 x1 x2 x3 x4 x5 x6 x7 x8 x9 x10 x11 x12) (ix2 j c)) ((k0_pay186 x0 x1 x2 x3 x4 x5 x6 x7 x8 x9 x10 x11 x12) (ix2 j c)) ((k0_pay187 x0 x1 x2 x3 x4 x5 x6 x7 x8 x9 x10 x11 x12) (ix2 j c))) k = (f.logit lo j k : EReal) := by
  intro k hk
  interval_cases k
  · show (k0_pay180 x0 x1 x2 x3 x4 x5 x6 x7 x8 x9 x10 x11 x12) (ix2 j c) = _
    rw [eq180]; unfold k0_pay7; pointwise; rw [pay6_eq]
    exact logit_w hf (hid1_coe hf hx) j 0 (by omega) _ (by simp)
  · show (k0_pay181 x0 x1 x2 x3 x4 x5 x6 x7 x8 x9 x10 x11 x12) (ix2 j c) = _
    rw [eq181]; unfold k0_pay8; pointwise; rw [pay6_eq]
    exact logit_w hf (hid1_coe hf hx) j 1 (by omega) _ (by simp)
  · show (k0_pay182 x0 x1 x2 x3 x4 x5 x6 x7 x8 x9 x10 x11 x12) (ix2 j c) = _
    rw [eq182]; unfold k0_pay9; pointwise; rw [pay6_eq]
    exact logit_w hf (hid1_coe hf hx) j 2 (by omega) _ (by simp)
  · show (k0_pay183 x0 x1 x2 x3 x4 x5 x6 x7 x8 x9 x10 x11 x12) (ix2 j c) = _
    rw [eq183]; unfold k0_pay10; pointwise; rw [pay6_eq]
    exact logit_w hf (hid1_coe hf hx) j 3 (by omega) _ (by simp)
  · show (k0_pay184 x0 x1 x2 x3 x4 x5 x6 x7 x8 x9 x10 x11 x12) (ix2 j c) = _
    rw [eq184]; unfold k0_pay11; pointwise; rw [pay6_eq]
    exact logit_w hf (hid1_coe hf hx) j 4 (by omega) _ (by simp)
  · show (k0_pay185 x0 x1 x2 x3 x4 x5 x6 x7 x8 x9 x10 x11 x12) (ix2 j c) = _
    rw [eq185]; unfold k0_pay12; pointwise; rw [pay6_eq]
    exact logit_w hf (hid1_coe hf hx) j 5 (by omega) _ (by simp)
  · show (k0_pay186 x0 x1 x2 x3 x4 x5 x6 x7 x8 x9 x10 x11 x12) (ix2 j c) = _
    rw [eq186]; unfold k0_pay13; pointwise; rw [pay6_eq]
    exact logit_w hf (hid1_coe hf hx) j 6 (by omega) _ (by simp)
  · show (k0_pay187 x0 x1 x2 x3 x4 x5 x6 x7 x8 x9 x10 x11 x12) (ix2 j c) = _
    rw [eq187]; unfold k0_pay14; pointwise; rw [pay6_eq]
    exact logit_w hf (hid1_coe hf hx) j 7 (by omega) _ (by simp)

/-- The first network's height logits. -/
theorem hl1 (hf : IsNet f x1 x2 x3 x4 x5 x6) (hx : IsRow lo up c x0) : ∀ k < 8, (lg8 ((k0_pay207 x0 x1 x2 x3 x4 x5 x6 x7 x8 x9 x10 x11 x12) (ix2 j c)) ((k0_pay208 x0 x1 x2 x3 x4 x5 x6 x7 x8 x9 x10 x11 x12) (ix2 j c)) ((k0_pay209 x0 x1 x2 x3 x4 x5 x6 x7 x8 x9 x10 x11 x12) (ix2 j c)) ((k0_pay46 (k0_pay206 x0 x1 x2 x3 x4 x5 x6 x7 x8 x9 x10 x11 x12)) (ix2 j c)) ((k0_pay47 (k0_pay206 x0 x1 x2 x3 x4 x5 x6 x7 x8 x9 x10 x11 x12)) (ix2 j c)) ((k0_pay48 (k0_pay206 x0 x1 x2 x3 x4 x5 x6 x7 x8 x9 x10 x11 x12)) (ix2 j c)) ((k0_pay49 (k0_pay206 x0 x1 x2 x3 x4 x5 x6 x7 x8 x9 x10 x11 x12)) (ix2 j c)) ((k0_pay50 (k0_pay206 x0 x1 x2 x3 x4 x5 x6 x7 x8 x9 x10 x11 x12)) (ix2 j c))) k = (f.logit lo j (8 + k) : EReal) := by
  intro k hk
  interval_cases k
  · show (k0_pay207 x0 x1 x2 x3 x4 x5 x6 x7 x8 x9 x10 x11 x12) (ix2 j c) = _
    rw [eq207]; unfold k0_pay43; pointwise
    exact logit_h hf (p179_coe hf hx) j 0 (by omega) _ (by simp)
  · show (k0_pay208 x0 x1 x2 x3 x4 x5 x6 x7 x8 x9 x10 x11 x12) (ix2 j c) = _
    rw [eq208]; unfold k0_pay44; pointwise
    exact logit_h hf (p179_coe hf hx) j 1 (by omega) _ (by simp)
  · show (k0_pay209 x0 x1 x2 x3 x4 x5 x6 x7 x8 x9 x10 x11 x12) (ix2 j c) = _
    rw [eq209]; unfold k0_pay45; pointwise
    exact logit_h hf (p179_coe hf hx) j 2 (by omega) _ (by simp)
  · show (k0_pay46 (k0_pay206 x0 x1 x2 x3 x4 x5 x6 x7 x8 x9 x10 x11 x12)) (ix2 j c) = _
    unfold k0_pay46; pointwise; rw [eq206]
    exact logit_h hf (p179_coe hf hx) j 3 (by omega) _ (by simp)
  · show (k0_pay47 (k0_pay206 x0 x1 x2 x3 x4 x5 x6 x7 x8 x9 x10 x11 x12)) (ix2 j c) = _
    unfold k0_pay47; pointwise; rw [eq206]
    exact logit_h hf (p179_coe hf hx) j 4 (by omega) _ (by simp)
  · show (k0_pay48 (k0_pay206 x0 x1 x2 x3 x4 x5 x6 x7 x8 x9 x10 x11 x12)) (ix2 j c) = _
    unfold k0_pay48; pointwise; rw [eq206]
    exact logit_h hf (p179_coe hf hx) j 5 (by omega) _ (by simp)
  · show (k0_pay49 (k0_pay206 x0 x1 x2 x3 x4 x5 x6 x7 x8 x9 x10 x11 x12)) (ix2 j c) = _
    unfold k0_pay49; pointwise; rw [eq206]
    exact logit_h hf (p179_coe hf hx) j 6 (by omega) _ (by simp)
  · show (k0_pay50 (k0_pay206 x0 x1 x2 x3 x4 x5 x6 x7 x8 x9 x10 x11 x12)) (ix2 j c) = _
    unfold k0_pay50; pointwise; rw [eq206]
    exact logit_h hf (p179_coe hf hx) j 7 (by omega) _ (by simp)

/-- The first network's slope logits. -/
theorem dl1 (hf : IsNet f x1 x2 x3 x4 x5 x6) (hx : IsRow lo up c x0) : ∀ k < 7, (lg8 ((k0_pay221 x0 x1 x2 x3 x4 x5 x6 x7 x8 x9 x10 x11 x12) (ix2 j c)) ((k0_pay222 x0 x1 x2 x3 x4 x5 x6 x7 x8 x9 x10 x11 x12) (ix2 j c)) ((k0_pay223 x0 x1 x2 x3 x4 x5 x6 x7 x8 x9 x10 x11 x12) (ix2 j c)) ((k0_pay74 (k0_pay220 x0 x1 x2 x3 x4 x5 x6 x7 x8 x9 x10 x11 x12)) (ix2 j c)) ((k0_pay75 (k0_pay220 x0 x1 x2 x3 x4 x5 x6 x7 x8 x9 x10 x11 x12)) (ix2 j c)) ((k0_pay76 (k0_pay220 x0 x1 x2 x3 x4 x5 x6 x7 x8 x9 x10 x11 x12)) (ix2 j c)) ((k0_pay77 (k0_pay220 x0 x1 x2 x3 x4 x5 x6 x7 x8 x9 x10 x11 x12)) (ix2 j c)) ((k0_pay77 (k0_pay220 x0 x1 x2 x3 x4 x5 x6 x7 x8 x9 x10 x11 x12)) (ix2 j c))) k = (f.logit lo j (16 + k) : EReal) := by
  intro k hk
  interval_cases k
  · show (k0_pay221 x0 x1 x2 x3 x4 x5 x6 x7 x8 x9 x10 x11 x12) (ix2 j c) = _
    rw [eq221]; unfold k0_pay71; pointwise
    exact logit_d hf (p179_coe hf hx) j 0 (by omega) _ (by simp)
  · show (k0_pay222 x0 x1 x2 x3 x4 x5 x6 x7 x8 x9 x10 x11 x12) (ix2 j c) = _
    rw [eq222]; unfold k0_pay72; pointwise
    exact logit_d hf (p179_coe hf hx) j 1 (by omega) _ (by simp)
  · show (k0_pay223 x0 x1 x2 x3 x4 x5 x6 x7 x8 x9 x10 x11 x12) (ix2 j c) = _
    rw [eq223]; unfold k0_pay73; pointwise
    exact logit_d hf (p179_coe hf hx) j 2 (by omega) _ (by simp)
  · show (k0_pay74 (k0_pay220 x0 x1 x2 x3 x4 x5 x6 x7 x8 x9 x10 x11 x12)) (ix2 j c) = _
    unfold k0_pay74; pointwise; rw [eq220]
    exact logit_d hf (p179_coe hf hx) j 3 (by omega) _ (by simp)
  · show (k0_pay75 (k0_pay220 x0 x1 x2 x3 x4 x5 x6 x7 x8 x9 x10 x11 x12)) (ix2 j c) = _
    unfold k0_pay75; pointwise; rw [eq220]
    exact logit_d hf (p179_coe hf hx) j 4 (by omega) _ (by simp)
  · show (k0_pay76 (k0_pay220 x0 x1 x2 x3 x4 x5 x6 x7 x8 x9 x10 x11 x12)) (ix2 j c) = _
    unfold k0_pay76; pointwise; rw [eq220]
    exact logit_d hf (p179_coe hf hx) j 5 (by omega) _ (by simp)
  · show (k0_pay77 (k0_pay220 x0 x1 x2 x3 x4 x5 x6 x7 x8 x9 x10 x11 x12)) (ix2 j c) = _
    unfold k0_pay77; pointwise; rw [eq220]
    exact logit_d hf (p179_coe hf hx) j 6 (by omega) _ (by simp)

/-- The mapped upper half. -/
theorem p226_coe (hf : IsNet f x1 x2 x3 x4 x5 x6) (hx : IsRow lo up c x0) (j : Fin 64) : (k0_pay226 x0 x1 x2 x3 x4 x5 x6 x7 x8 x9 x10 x11 x12) (ix2 j c) = (upper f lo up j : EReal) :=
  out1_coe (p178_coe hx j) (wl1 hf hx) (hl1 hf hx) (dl1 hf hx)

/-- The logarithms of the upper half's slopes. -/
theorem l1_coe (hf : IsNet f x1 x2 x3 x4 x5 x6) (hx : IsRow lo up c x0) (j : Fin 64) : k0_pay89 (k0_pay178 x0 x1 x2 x3 x4 x5 x6 x7 x8 x9 x10 x11 x12) (k0_pay204 x0 x1 x2 x3 x4 x5 x6 x7 x8 x9 x10 x11 x12) (k0_pay205 x0 x1 x2 x3 x4 x5 x6 x7 x8 x9 x10 x11 x12) (k0_pay218 x0 x1 x2 x3 x4 x5 x6 x7 x8 x9 x10 x11 x12) (k0_pay219 x0 x1 x2 x3 x4 x5 x6 x7 x8 x9 x10 x11 x12) (k0_pay224 x0 x1 x2 x3 x4 x5 x6 x7 x8 x9 x10 x11 x12) (k0_pay225 x0 x1 x2 x3 x4 x5 x6 x7 x8 x9 x10 x11 x12) (ix2 j c) = (f.mapLog lo j (up j) : EReal) :=
  log1_coe (p178_coe hx j) (wl1 hf hx) (hl1 hf hx) (dl1 hf hx)

/-- The second network's hidden layers, as the shared value. -/
theorem p227_coe (hf : IsNet f x1 x2 x3 x4 x5 x6) (hx : IsRow lo up c x0) (hg : IsNet g x7 x8 x9 x10 x11 x12) (q : Fin 256) : (k0_pay227 x0 x1 x2 x3 x4 x5 x6 x7 x8 x9 x10 x11 x12) (ix2 q c) = (g.hid2 (upper f lo up) q : EReal) := by
  rw [eq227]
  exact hid_apply hg (p226_coe hf hx) q

/-- The second network's width logits. -/
theorem wl2 (hf : IsNet f x1 x2 x3 x4 x5 x6) (hx : IsRow lo up c x0) (hg : IsNet g x7 x8 x9 x10 x11 x12) : ∀ k < 8, (lg8 ((k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) (ix2 j c)) ((k0_pay228 x0 x1 x2 x3 x4 x5 x6 x7 x8 x9 x10 x11 x12) (ix2 j c)) ((k0_pay229 x0 x1 x2 x3 x4 x5 x6 x7 x8 x9 x10 x11 x12) (ix2 j c)) ((k0_pay230 x0 x1 x2 x3 x4 x5 x6 x7 x8 x9 x10 x11 x12) (ix2 j c)) ((k0_pay231 x0 x1 x2 x3 x4 x5 x6 x7 x8 x9 x10 x11 x12) (ix2 j c)) ((k0_pay232 x0 x1 x2 x3 x4 x5 x6 x7 x8 x9 x10 x11 x12) (ix2 j c)) ((k0_pay233 x0 x1 x2 x3 x4 x5 x6 x7 x8 x9 x10 x11 x12) (ix2 j c)) ((k0_pay234 x0 x1 x2 x3 x4 x5 x6 x7 x8 x9 x10 x11 x12) (ix2 j c))) k = (g.logit (upper f lo up) j k : EReal) := by
  intro k hk
  interval_cases k
  · show (k0_pay92 (k0_pay226 x0 x1 x2 x3 x4 x5 x6 x7 x8 x9 x10 x11 x12) (View.ld x8 r0_1) (View.ld x10 r0_1) (View.ld x7 r0_2) (View.ld x9 r0_3) (View.ld x11 r0_4) (View.ld x12 r0_5)) (ix2 j c) = _
    unfold k0_pay92; pointwise; rw [pay91_eq]
    exact logit_w hg (fun p => hid_apply hg (p226_coe hf hx) p) j 0 (by omega) _ (by simp)
  · show (k0_pay228 x0 x1 x2 x3 x4 x5 x6 x7 x8 x9 x10 x11 x12) (ix2 j c) = _
    rw [eq228]; unfold k0_pay93; pointwise; rw [pay91_eq]
    exact logit_w hg (fun p => hid_apply hg (p226_coe hf hx) p) j 1 (by omega) _ (by simp)
  · show (k0_pay229 x0 x1 x2 x3 x4 x5 x6 x7 x8 x9 x10 x11 x12) (ix2 j c) = _
    rw [eq229]; unfold k0_pay94; pointwise; rw [pay91_eq]
    exact logit_w hg (fun p => hid_apply hg (p226_coe hf hx) p) j 2 (by omega) _ (by simp)
  · show (k0_pay230 x0 x1 x2 x3 x4 x5 x6 x7 x8 x9 x10 x11 x12) (ix2 j c) = _
    rw [eq230]; unfold k0_pay95; pointwise; rw [pay91_eq]
    exact logit_w hg (fun p => hid_apply hg (p226_coe hf hx) p) j 3 (by omega) _ (by simp)
  · show (k0_pay231 x0 x1 x2 x3 x4 x5 x6 x7 x8 x9 x10 x11 x12) (ix2 j c) = _
    rw [eq231]; unfold k0_pay96; pointwise; rw [pay91_eq]
    exact logit_w hg (fun p => hid_apply hg (p226_coe hf hx) p) j 4 (by omega) _ (by simp)
  · show (k0_pay232 x0 x1 x2 x3 x4 x5 x6 x7 x8 x9 x10 x11 x12) (ix2 j c) = _
    rw [eq232]; unfold k0_pay97; pointwise; rw [pay91_eq]
    exact logit_w hg (fun p => hid_apply hg (p226_coe hf hx) p) j 5 (by omega) _ (by simp)
  · show (k0_pay233 x0 x1 x2 x3 x4 x5 x6 x7 x8 x9 x10 x11 x12) (ix2 j c) = _
    rw [eq233]; unfold k0_pay98; pointwise; rw [pay91_eq]
    exact logit_w hg (fun p => hid_apply hg (p226_coe hf hx) p) j 6 (by omega) _ (by simp)
  · show (k0_pay234 x0 x1 x2 x3 x4 x5 x6 x7 x8 x9 x10 x11 x12) (ix2 j c) = _
    rw [eq234]; unfold k0_pay99; pointwise; rw [pay91_eq]
    exact logit_w hg (fun p => hid_apply hg (p226_coe hf hx) p) j 7 (by omega) _ (by simp)

/-- The second network's height logits. -/
theorem hl2 (hf : IsNet f x1 x2 x3 x4 x5 x6) (hx : IsRow lo up c x0) (hg : IsNet g x7 x8 x9 x10 x11 x12) : ∀ k < 8, (lg8 ((k0_pay254 x0 x1 x2 x3 x4 x5 x6 x7 x8 x9 x10 x11 x12) (ix2 j c)) ((k0_pay255 x0 x1 x2 x3 x4 x5 x6 x7 x8 x9 x10 x11 x12) (ix2 j c)) ((k0_pay256 x0 x1 x2 x3 x4 x5 x6 x7 x8 x9 x10 x11 x12) (ix2 j c)) ((k0_pay257 x0 x1 x2 x3 x4 x5 x6 x7 x8 x9 x10 x11 x12) (ix2 j c)) ((k0_pay258 x0 x1 x2 x3 x4 x5 x6 x7 x8 x9 x10 x11 x12) (ix2 j c)) ((k0_pay259 x0 x1 x2 x3 x4 x5 x6 x7 x8 x9 x10 x11 x12) (ix2 j c)) ((k0_pay260 x0 x1 x2 x3 x4 x5 x6 x7 x8 x9 x10 x11 x12) (ix2 j c)) ((k0_pay261 x0 x1 x2 x3 x4 x5 x6 x7 x8 x9 x10 x11 x12) (ix2 j c))) k = (g.logit (upper f lo up) j (8 + k) : EReal) := by
  intro k hk
  interval_cases k
  · show (k0_pay254 x0 x1 x2 x3 x4 x5 x6 x7 x8 x9 x10 x11 x12) (ix2 j c) = _
    rw [eq254]; unfold k0_pay127; pointwise; rw [pay126_eq]
    exact logit_h hg (p227_coe hf hx hg) j 0 (by omega) _ (by simp)
  · show (k0_pay255 x0 x1 x2 x3 x4 x5 x6 x7 x8 x9 x10 x11 x12) (ix2 j c) = _
    rw [eq255]; unfold k0_pay128; pointwise; rw [pay126_eq]
    exact logit_h hg (p227_coe hf hx hg) j 1 (by omega) _ (by simp)
  · show (k0_pay256 x0 x1 x2 x3 x4 x5 x6 x7 x8 x9 x10 x11 x12) (ix2 j c) = _
    rw [eq256]; unfold k0_pay129; pointwise; rw [pay126_eq]
    exact logit_h hg (p227_coe hf hx hg) j 2 (by omega) _ (by simp)
  · show (k0_pay257 x0 x1 x2 x3 x4 x5 x6 x7 x8 x9 x10 x11 x12) (ix2 j c) = _
    rw [eq257]; unfold k0_pay130; pointwise; rw [pay126_eq]
    exact logit_h hg (p227_coe hf hx hg) j 3 (by omega) _ (by simp)
  · show (k0_pay258 x0 x1 x2 x3 x4 x5 x6 x7 x8 x9 x10 x11 x12) (ix2 j c) = _
    rw [eq258]; unfold k0_pay131; pointwise; rw [pay126_eq]
    exact logit_h hg (p227_coe hf hx hg) j 4 (by omega) _ (by simp)
  · show (k0_pay259 x0 x1 x2 x3 x4 x5 x6 x7 x8 x9 x10 x11 x12) (ix2 j c) = _
    rw [eq259]; unfold k0_pay132; pointwise; rw [pay126_eq]
    exact logit_h hg (p227_coe hf hx hg) j 5 (by omega) _ (by simp)
  · show (k0_pay260 x0 x1 x2 x3 x4 x5 x6 x7 x8 x9 x10 x11 x12) (ix2 j c) = _
    rw [eq260]; unfold k0_pay133; pointwise; rw [pay126_eq]
    exact logit_h hg (p227_coe hf hx hg) j 6 (by omega) _ (by simp)
  · show (k0_pay261 x0 x1 x2 x3 x4 x5 x6 x7 x8 x9 x10 x11 x12) (ix2 j c) = _
    rw [eq261]; unfold k0_pay134; pointwise; rw [pay126_eq]
    exact logit_h hg (p227_coe hf hx hg) j 7 (by omega) _ (by simp)

/-- The second network's slope logits. -/
theorem dl2 (hf : IsNet f x1 x2 x3 x4 x5 x6) (hx : IsRow lo up c x0) (hg : IsNet g x7 x8 x9 x10 x11 x12) : ∀ k < 7, (lg8 ((k0_pay156 (k0_pay227 x0 x1 x2 x3 x4 x5 x6 x7 x8 x9 x10 x11 x12) (View.ld x11 r0_8) (View.ld x12 r0_9)) (ix2 j c)) ((k0_pay273 x0 x1 x2 x3 x4 x5 x6 x7 x8 x9 x10 x11 x12) (ix2 j c)) ((k0_pay274 x0 x1 x2 x3 x4 x5 x6 x7 x8 x9 x10 x11 x12) (ix2 j c)) ((k0_pay275 x0 x1 x2 x3 x4 x5 x6 x7 x8 x9 x10 x11 x12) (ix2 j c)) ((k0_pay276 x0 x1 x2 x3 x4 x5 x6 x7 x8 x9 x10 x11 x12) (ix2 j c)) ((k0_pay277 x0 x1 x2 x3 x4 x5 x6 x7 x8 x9 x10 x11 x12) (ix2 j c)) ((k0_pay278 x0 x1 x2 x3 x4 x5 x6 x7 x8 x9 x10 x11 x12) (ix2 j c)) ((k0_pay278 x0 x1 x2 x3 x4 x5 x6 x7 x8 x9 x10 x11 x12) (ix2 j c))) k = (g.logit (upper f lo up) j (16 + k) : EReal) := by
  intro k hk
  interval_cases k
  · show (k0_pay156 (k0_pay227 x0 x1 x2 x3 x4 x5 x6 x7 x8 x9 x10 x11 x12) (View.ld x11 r0_8) (View.ld x12 r0_9)) (ix2 j c) = _
    unfold k0_pay156; pointwise; rw [pay155_eq]
    exact logit_d hg (p227_coe hf hx hg) j 0 (by omega) _ (by simp)
  · show (k0_pay273 x0 x1 x2 x3 x4 x5 x6 x7 x8 x9 x10 x11 x12) (ix2 j c) = _
    rw [eq273]; unfold k0_pay157; pointwise; rw [pay155_eq]
    exact logit_d hg (p227_coe hf hx hg) j 1 (by omega) _ (by simp)
  · show (k0_pay274 x0 x1 x2 x3 x4 x5 x6 x7 x8 x9 x10 x11 x12) (ix2 j c) = _
    rw [eq274]; unfold k0_pay158; pointwise; rw [pay155_eq]
    exact logit_d hg (p227_coe hf hx hg) j 2 (by omega) _ (by simp)
  · show (k0_pay275 x0 x1 x2 x3 x4 x5 x6 x7 x8 x9 x10 x11 x12) (ix2 j c) = _
    rw [eq275]; unfold k0_pay159; pointwise; rw [pay155_eq]
    exact logit_d hg (p227_coe hf hx hg) j 3 (by omega) _ (by simp)
  · show (k0_pay276 x0 x1 x2 x3 x4 x5 x6 x7 x8 x9 x10 x11 x12) (ix2 j c) = _
    rw [eq276]; unfold k0_pay160; pointwise; rw [pay155_eq]
    exact logit_d hg (p227_coe hf hx hg) j 4 (by omega) _ (by simp)
  · show (k0_pay277 x0 x1 x2 x3 x4 x5 x6 x7 x8 x9 x10 x11 x12) (ix2 j c) = _
    rw [eq277]; unfold k0_pay161; pointwise; rw [pay155_eq]
    exact logit_d hg (p227_coe hf hx hg) j 5 (by omega) _ (by simp)
  · show (k0_pay278 x0 x1 x2 x3 x4 x5 x6 x7 x8 x9 x10 x11 x12) (ix2 j c) = _
    rw [eq278]; unfold k0_pay162; pointwise; rw [pay155_eq]
    exact logit_d hg (p227_coe hf hx hg) j 6 (by omega) _ (by simp)

/-- The mapped lower half. -/
theorem m2_coe (hf : IsNet f x1 x2 x3 x4 x5 x6) (hx : IsRow lo up c x0) (hg : IsNet g x7 x8 x9 x10 x11 x12) (j : Fin 64) : mapped2 (k0_pay177 x0 x1 x2 x3 x4 x5 x6 x7 x8 x9 x10 x11 x12) (k0_pay252 x0 x1 x2 x3 x4 x5 x6 x7 x8 x9 x10 x11 x12) (k0_pay253 x0 x1 x2 x3 x4 x5 x6 x7 x8 x9 x10 x11 x12) (k0_pay271 x0 x1 x2 x3 x4 x5 x6 x7 x8 x9 x10 x11 x12) (k0_pay272 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12) (ix2 j c) = (lower f g lo up j : EReal) :=
  out2_coe (p177_coe hx j) (wl2 hf hx hg) (hl2 hf hx hg) (dl2 hf hx hg)

/-- The logarithms of the lower half's slopes. -/
theorem l2_coe (hf : IsNet f x1 x2 x3 x4 x5 x6) (hx : IsRow lo up c x0) (hg : IsNet g x7 x8 x9 x10 x11 x12) (j : Fin 64) : k0_pay175 (k0_pay177 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12) (k0_pay281 x0 x1 x2 x3 x4 x5 x6 x7 x8 x9 x10 x11 x12) (k0_pay282 x0 x1 x2 x3 x4 x5 x6 x7 x8 x9 x10 x11 x12) (k0_pay283 x0 x1 x2 x3 x4 x5 x6 x7 x8 x9 x10 x11 x12) (ix2 j c) = (g.mapLog (upper f lo up) j (lo j) : EReal) :=
  log2_coe (p177_coe hx j) (wl2 hf hx hg) (hl2 hf hx hg) (dl2 hf hx hg)

/-- The origin. -/
theorem hz : (![0, 0] : Fin 2 → Nat) = fun _ => 0 := funext fun a => by fin_cases a <;> rfl

/-- The first result's block: the mapped lower half, then the mapped upper half. -/
theorem out13_coe (hf : IsNet f x1 x2 x3 x4 x5 x6) (hx : IsRow lo up c x0) (hg : IsNet g x7 x8 x9 x10 x11 x12) (j : Fin 64) (q : Fin 128) :
    (q.val = j.val → out0_13 x0 x1 x2 x3 x4 x5 x6 x7 x8 x9 x10 x11 x12 (ix2 c q) = (lower f g lo up j : EReal)) ∧
      (q.val = 64 + j.val → out0_13 x0 x1 x2 x3 x4 x5 x6 x7 x8 x9 x10 x11 x12 (ix2 c q) = (upper f lo up j : EReal)) := by
  have e : out0_13 x0 x1 x2 x3 x4 x5 x6 x7 x8 x9 x10 x11 x12 (ix2 c q) = if h : q.val < 64 then mapped2 (k0_pay177 x0 x1 x2 x3 x4 x5 x6 x7 x8 x9 x10 x11 x12) (k0_pay252 x0 x1 x2 x3 x4 x5 x6 x7 x8 x9 x10 x11 x12) (k0_pay253 x0 x1 x2 x3 x4 x5 x6 x7 x8 x9 x10 x11 x12) (k0_pay271 x0 x1 x2 x3 x4 x5 x6 x7 x8 x9 x10 x11 x12) (k0_pay272 x0 x1 x2 x3 x4 x5 x6 x7 x8 x9 x10 x11 x12) (k0_pay279 x0 x1 x2 x3 x4 x5 x6 x7 x8 x9 x10 x11 x12) (k0_pay280 x0 x1 x2 x3 x4 x5 x6 x7 x8 x9 x10 x11 x12) (ix2 (⟨q.val, h⟩ : Fin 64) c)
      else (k0_pay226 x0 x1 x2 x3 x4 x5 x6 x7 x8 x9 x10 x11 x12) (ix2 (⟨q.val - 64, by have := q.isLt; omega⟩ : Fin 64) c) := by
    unfold out0_13
    rw [View.canon_unit_zero hz, eq281, eq282, eq283, p176_eq]
    pointwise
    try rfl
  rw [e]
  have hj := j.isLt
  refine ⟨fun h => ?_, fun h => ?_⟩
  · rw [dif_pos (by omega)]
    have : (⟨q.val, by omega⟩ : Fin 64) = j := Fin.ext h
    rw [this]
    exact m2_coe hf hx hg j
  · rw [dif_neg (by omega)]
    have : (⟨q.val - 64, by omega⟩ : Fin 64) = j := Fin.ext (by simp; omega)
    rw [this]
    exact p226_coe hf hx j

/-- The second result's block: the row's logarithm of the determinant. -/
theorem out14_coe (hf : IsNet f x1 x2 x3 x4 x5 x6) (hx : IsRow lo up c x0) (hg : IsNet g x7 x8 x9 x10 x11 x12) : out0_14 x0 x1 x2 x3 x4 x5 x6 x7 x8 x9 x10 x11 x12 (ix2 (0 : Fin 1) c) = (logDet f g lo up : EReal) := by
  unfold out0_14
  rw [View.canon_unit_zero hz]
  unfold k0_pay1
  pointwise
  rw [Finset.sum_congr rfl fun j _ => l1_coe hf hx j, Finset.sum_congr rfl fun j _ => l2_coe hf hx hg j, sum_coe, sum_coe, ← EReal.coe_add]
  rfl

end Cert.KernelIdeal.Gen

end
-- ==== Proof.KVal.lean ====
/- The kernel's two results as whole arrays, when the arguments are real. -/
module

public import proofs.«01_k».proof.Proof.Block
public import Idealize.ShloMosaic.Lib.Pipeline.Value
public import Idealize.ShloMosaic.Lib.StableHlo.RunRead

@[expose] public section

set_option maxRecDepth 16384

noncomputable section

namespace Cert.Spline

open Idealize.ShloMosaic

/-- The lower half of a row. -/
def loOf (x : Fin 16384 → Fin 128 → ℝ) (r : Fin 16384) (j : Fin 64) : ℝ := x r ⟨j.val, by have := j.isLt; omega⟩

/-- The upper half of a row. -/
def upOf (x : Fin 16384 → Fin 128 → ℝ) (r : Fin 16384) (j : Fin 64) : ℝ := x r ⟨64 + j.val, by have := j.isLt; omega⟩

/-- The first result at an index: the mapped lower half of the row, then its mapped upper half. -/
def yOf (f g : Net) (x : Fin 16384 → Fin 128 → ℝ) (r : Fin 16384) (q : Fin 128) : ℝ :=
  if h : q.val < 64 then lower f g (loOf x r) (upOf x r) ⟨q.val, h⟩
  else upper f (loOf x r) (upOf x r) ⟨q.val - 64, by have := q.isLt; omega⟩

/-- The second result at a row. -/
def ldOf (f g : Net) (x : Fin 16384 → Fin 128 → ℝ) (r : Fin 16384) : ℝ := logDet f g (loOf x r) (upOf x r)

/-- A network's six argument arrays are real. -/
structure ArgNet (f : Net) (a1 : FVec Ideal Cert.KernelIdeal.S64x256 .f32) (a2 : FVec Ideal Cert.KernelIdeal.S256 .f32)
    (a3 : FVec Ideal Cert.KernelIdeal.S256x256 .f32) (a4 : FVec Ideal Cert.KernelIdeal.S256 .f32)
    (a5 : FVec Ideal Cert.KernelIdeal.S256x1472 .f32) (a6 : FVec Ideal Cert.KernelIdeal.S1472 .f32) : Prop where
  w1 : ∀ (p : Fin 64) (q : Fin 256), a1 (ix2 p q) = (f.w1 p q : EReal)
  b1 : ∀ q : Fin 256, a2 (ix1 q) = (f.b1 q : EReal)
  w2 : ∀ p q : Fin 256, a3 (ix2 p q) = (f.w2 p q : EReal)
  b2 : ∀ q : Fin 256, a4 (ix1 q) = (f.b2 q : EReal)
  w3 : ∀ (p : Fin 256) (q : Fin 1472), a5 (ix2 p q) = (f.w3 p q : EReal)
  b3 : ∀ q : Fin 1472, a6 (ix1 q) = (f.b3 q : EReal)

end Cert.Spline

namespace Cert.KernelIdeal.Gen

open Idealize.ShloMosaic Idealize.ShloMosaic.TcCoe Idealize.SL.Sem Cert.Spline
open Idealize.ShloMosaic.Pipeline (Dat)

/-- A weight array as the kernel takes it: transposed. -/
theorem prep_w1 (w : FVec Ideal S64x256 .f32) (q : Fin 256) (p : Fin 64) :
    truncf (F := Ideal) .bf16 (transpose S256x64 [1, 0] w transposes_S64x256_S256x64_1_0) bitsLt_bf16_f32 (ix2 q p) = w (ix2 p q) := by
  pointwise

/-- The second layer's weights, transposed. -/
theorem prep_w2 (w : FVec Ideal S256x256 .f32) (q p : Fin 256) :
    truncf (F := Ideal) .bf16 (transpose S256x256 [1, 0] w transposes_S256x256_S256x256_1_0) bitsLt_bf16_f32 (ix2 q p) = w (ix2 p q) := by
  pointwise

/-- A bias as a column. -/
theorem prep_b (w : FVec Ideal S256 .f32) (q : Fin 256) : shapeCast S256x1 w shapeCasts_S256_S256x1 (ix2 q (0 : Fin 1)) = w (ix1 q) := by
  pointwise

/-- The last layer's weights: row `64 k + j` holds output `k` of coordinate `j`. -/
theorem prep_w3 (w : FVec Ideal S256x1472 .f32) (p : Fin 256) (r q : Fin 1472) (hq : q.val = r.val % 64 * 23 + r.val / 64) :
    truncf (F := Ideal) .bf16 (shapeCast S1472x256 (transpose S23x64x256 [2, 1, 0] (shapeCast S256x64x23 w shapeCasts_S256x1472_S256x64x23) transposes_S256x64x23_S23x64x256_2_1_0) shapeCasts_S23x64x256_S1472x256) bitsLt_bf16_f32 (ix2 r p)
      = w (ix2 p q) := by
  pointwise
  exact congrArg (fun q => w (ix2 p q)) (Fin.ext hq.symm)

/-- The last layer's bias, permuted the same way. -/
theorem prep_b3 (w : FVec Ideal S1472 .f32) (r q : Fin 1472) (hq : q.val = r.val % 64 * 23 + r.val / 64) :
    shapeCast S1472x1 (transpose S23x64 [1, 0] (shapeCast S64x23 w shapeCasts_S1472_S64x23) transposes_S64x23_S23x64_1_0) shapeCasts_S23x64_S1472x1 (ix2 r (0 : Fin 1))
      = w (ix1 q) := by
  pointwise
  exact congrArg (fun q => w (ix1 q)) (Fin.ext hq.symm)

variable (m : (ℓ : Loc nD τ sig) → Buf (Elt Ideal) ℓ) (ρ : Dev nD → PrngReg) (c : Dev nD)

/-- Operand 1 when the kernel is entered. -/
theorem V_op1 : (V m c main_call0_v1 : FVec Ideal S256x64 .bf16) = truncf (F := Ideal) .bf16 (transpose S256x64 [1, 0] (m ((c : Thread nD τ).loc main_arg1) : FVec Ideal S64x256 .f32) transposes_S64x256_S256x64_1_0) bitsLt_bf16_f32 := by
  show StableHlo.after hostOps0 _ (Proc.devRef .tc main_call0_v1) = _
  after_results
  rfl

/-- Operand 1's block is the whole operand. -/
theorem blk_op1 (t : Fin cfg0.N) : iblk m c 1 t = V m c main_call0_v1 := by
  obtain ⟨e0, e1⟩ := (by decide +kernel : ∀ t : Fin grid0.N, win0_1.index t (0 : Fin 2) = 0 ∧ win0_1.index t (1 : Fin 2) = 0) t
  funext j
  show V m c main_call0_v1 (((cfg0.win 1).blk t).view.emb j) = V m c main_call0_v1 j
  refine congrArg (V m c main_call0_v1) (funext fun a => Fin.ext ?_)
  match a with
  | ⟨0, _⟩ => show win0_1.index t (0 : Fin 2) * 256 + 1 * (j 0).val = (j 0).val; omega
  | ⟨1, _⟩ => show win0_1.index t (1 : Fin 2) * 64 + 1 * (j 1).val = (j 1).val; omega

/-- Operand 2 when the kernel is entered. -/
theorem V_op2 : (V m c main_call0_v2 : FVec Ideal S256x1 .f32) = shapeCast S256x1 (m ((c : Thread nD τ).loc main_arg2) : FVec Ideal S256 .f32) shapeCasts_S256_S256x1 := by
  show StableHlo.after hostOps0 _ (Proc.devRef .tc main_call0_v2) = _
  after_results
  rfl

/-- Operand 2's block is the whole operand. -/
theorem blk_op2 (t : Fin cfg0.N) : iblk m c 2 t = V m c main_call0_v2 := by
  obtain ⟨e0, e1⟩ := (by decide +kernel : ∀ t : Fin grid0.N, win0_2.index t (0 : Fin 2) = 0 ∧ win0_2.index t (1 : Fin 2) = 0) t
  funext j
  show V m c main_call0_v2 (((cfg0.win 2).blk t).view.emb j) = V m c main_call0_v2 j
  refine congrArg (V m c main_call0_v2) (funext fun a => Fin.ext ?_)
  match a with
  | ⟨0, _⟩ => show win0_2.index t (0 : Fin 2) * 256 + 1 * (j 0).val = (j 0).val; omega
  | ⟨1, _⟩ => show win0_2.index t (1 : Fin 2) * 1 + 1 * (j 1).val = (j 1).val; omega

/-- Operand 3 when the kernel is entered. -/
theorem V_op3 : (V m c main_call0_v4 : FVec Ideal S256x256 .bf16) = truncf (F := Ideal) .bf16 (transpose S256x256 [1, 0] (m ((c : Thread nD τ).loc main_arg3) : FVec Ideal S256x256 .f32) transposes_S256x256_S256x256_1_0) bitsLt_bf16_f32 := by
  show StableHlo.after hostOps0 _ (Proc.devRef .tc main_call0_v4) = _
  after_results
  rfl

/-- Operand 3's block is the whole operand. -/
theorem blk_op3 (t : Fin cfg0.N) : iblk m c 3 t = V m c main_call0_v4 := by
  obtain ⟨e0, e1⟩ := (by decide +kernel : ∀ t : Fin grid0.N, win0_3.index t (0 : Fin 2) = 0 ∧ win0_3.index t (1 : Fin 2) = 0) t
  funext j
  show V m c main_call0_v4 (((cfg0.win 3).blk t).view.emb j) = V m c main_call0_v4 j
  refine congrArg (V m c main_call0_v4) (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- Operand 4 when the kernel is entered. -/
theorem V_op4 : (V m c main_call0_v5 : FVec Ideal S256x1 .f32) = shapeCast S256x1 (m ((c : Thread nD τ).loc main_arg4) : FVec Ideal S256 .f32) shapeCasts_S256_S256x1 := by
  show StableHlo.after hostOps0 _ (Proc.devRef .tc main_call0_v5) = _
  after_results
  rfl

/-- Operand 4's block is the whole operand. -/
theorem blk_op4 (t : Fin cfg0.N) : iblk m c 4 t = V m c main_call0_v5 := by
  obtain ⟨e0, e1⟩ := (by decide +kernel : ∀ t : Fin grid0.N, win0_4.index t (0 : Fin 2) = 0 ∧ win0_4.index t (1 : Fin 2) = 0) t
  funext j
  show V m c main_call0_v5 (((cfg0.win 4).blk t).view.emb j) = V m c main_call0_v5 j
  refine congrArg (V m c main_call0_v5) (funext fun a => Fin.ext ?_)
  match a with
  | ⟨0, _⟩ => show win0_4.index t (0 : Fin 2) * 256 + 1 * (j 0).val = (j 0).val; omega
  | ⟨1, _⟩ => show win0_4.index t (1 : Fin 2) * 1 + 1 * (j 1).val = (j 1).val; omega

/-- Operand 5 when the kernel is entered. -/
theorem V_op5 : (V m c main_call0_v12 : FVec Ideal S1472x256 .bf16) = truncf (F := Ideal) .bf16 (shapeCast S1472x256 (transpose S23x64x256 [2, 1, 0] (shapeCast S256x64x23 (m ((c : Thread nD τ).loc main_arg5) : FVec Ideal S256x1472 .f32) shapeCasts_S256x1472_S256x64x23) transposes_S256x64x23_S23x64x256_2_1_0) shapeCasts_S23x64x256_S1472x256) bitsLt_bf16_f32 := by
  show StableHlo.after hostOps0 _ (Proc.devRef .tc main_call0_v12) = _
  after_results
  rfl

/-- Operand 5's block is the whole operand. -/
theorem blk_op5 (t : Fin cfg0.N) : iblk m c 5 t = V m c main_call0_v12 := by
  obtain ⟨e0, e1⟩ := (by decide +kernel : ∀ t : Fin grid0.N, win0_5.index t (0 : Fin 2) = 0 ∧ win0_5.index t (1 : Fin 2) = 0) t
  funext j
  show V m c main_call0_v12 (((cfg0.win 5).blk t).view.emb j) = V m c main_call0_v12 j
  refine congrArg (V m c main_call0_v12) (funext fun a => Fin.ext ?_)
  match a with
  | ⟨0, _⟩ => show win0_5.index t (0 : Fin 2) * 1472 + 1 * (j 0).val = (j 0).val; omega
  | ⟨1, _⟩ => show win0_5.index t (1 : Fin 2) * 256 + 1 * (j 1).val = (j 1).val; omega

/-- Operand 6 when the kernel is entered. -/
theorem V_op6 : (V m c main_call0_v11 : FVec Ideal S1472x1 .f32) = shapeCast S1472x1 (transpose S23x64 [1, 0] (shapeCast S64x23 (m ((c : Thread nD τ).loc main_arg6) : FVec Ideal S1472 .f32) shapeCasts_S1472_S64x23) transposes_S64x23_S23x64_1_0) shapeCasts_S23x64_S1472x1 := by
  show StableHlo.after hostOps0 _ (Proc.devRef .tc main_call0_v11) = _
  after_results
  rfl

/-- Operand 6's block is the whole operand. -/
theorem blk_op6 (t : Fin cfg0.N) : iblk m c 6 t = V m c main_call0_v11 := by
  obtain ⟨e0, e1⟩ := (by decide +kernel : ∀ t : Fin grid0.N, win0_6.index t (0 : Fin 2) = 0 ∧ win0_6.index t (1 : Fin 2) = 0) t
  funext j
  show V m c main_call0_v11 (((cfg0.win 6).blk t).view.emb j) = V m c main_call0_v11 j
  refine congrArg (V m c main_call0_v11) (funext fun a => Fin.ext ?_)
  match a with
  | ⟨0, _⟩ => show win0_6.index t (0 : Fin 2) * 1472 + 1 * (j 0).val = (j 0).val; omega
  | ⟨1, _⟩ => show win0_6.index t (1 : Fin 2) * 1 + 1 * (j 1).val = (j 1).val; omega

/-- Operand 7 when the kernel is entered. -/
theorem V_op7 : (V m c main_call0_v14 : FVec Ideal S256x64 .bf16) = truncf (F := Ideal) .bf16 (transpose S256x64 [1, 0] (m ((c : Thread nD τ).loc main_arg7) : FVec Ideal S64x256 .f32) transposes_S64x256_S256x64_1_0) bitsLt_bf16_f32 := by
  show StableHlo.after hostOps0 _ (Proc.devRef .tc main_call0_v14) = _
  after_results
  rfl

/-- Operand 7's block is the whole operand. -/
theorem blk_op7 (t : Fin cfg0.N) : iblk m c 7 t = V m c main_call0_v14 := by
  obtain ⟨e0, e1⟩ := (by decide +kernel : ∀ t : Fin grid0.N, win0_7.index t (0 : Fin 2) = 0 ∧ win0_7.index t (1 : Fin 2) = 0) t
  funext j
  show V m c main_call0_v14 (((cfg0.win 7).blk t).view.emb j) = V m c main_call0_v14 j
  refine congrArg (V m c main_call0_v14) (funext fun a => Fin.ext ?_)
  match a with
  | ⟨0, _⟩ => show win0_7.index t (0 : Fin 2) * 256 + 1 * (j 0).val = (j 0).val; omega
  | ⟨1, _⟩ => show win0_7.index t (1 : Fin 2) * 64 + 1 * (j 1).val = (j 1).val; omega

/-- Operand 8 when the kernel is entered. -/
theorem V_op8 : (V m c main_call0_v15 : FVec Ideal S256x1 .f32) = shapeCast S256x1 (m ((c : Thread nD τ).loc main_arg8) : FVec Ideal S256 .f32) shapeCasts_S256_S256x1 := by
  show StableHlo.after hostOps0 _ (Proc.devRef .tc main_call0_v15) = _
  after_results
  rfl

/-- Operand 8's block is the whole operand. -/
theorem blk_op8 (t : Fin cfg0.N) : iblk m c 8 t = V m c main_call0_v15 := by
  obtain ⟨e0, e1⟩ := (by decide +kernel : ∀ t : Fin grid0.N, win0_8.index t (0 : Fin 2) = 0 ∧ win0_8.index t (1 : Fin 2) = 0) t
  funext j
  show V m c main_call0_v15 (((cfg0.win 8).blk t).view.emb j) = V m c main_call0_v15 j
  refine congrArg (V m c main_call0_v15) (funext fun a => Fin.ext ?_)
  match a with
  | ⟨0, _⟩ => show win0_8.index t (0 : Fin 2) * 256 + 1 * (j 0).val = (j 0).val; omega
  | ⟨1, _⟩ => show win0_8.index t (1 : Fin 2) * 1 + 1 * (j 1).val = (j 1).val; omega

/-- Operand 9 when the kernel is entered. -/
theorem V_op9 : (V m c main_call0_v17 : FVec Ideal S256x256 .bf16) = truncf (F := Ideal) .bf16 (transpose S256x256 [1, 0] (m ((c : Thread nD τ).loc main_arg9) : FVec Ideal S256x256 .f32) transposes_S256x256_S256x256_1_0) bitsLt_bf16_f32 := by
  show StableHlo.after hostOps0 _ (Proc.devRef .tc main_call0_v17) = _
  after_results
  rfl

/-- Operand 9's block is the whole operand. -/
theorem blk_op9 (t : Fin cfg0.N) : iblk m c 9 t = V m c main_call0_v17 := by
  obtain ⟨e0, e1⟩ := (by decide +kernel : ∀ t : Fin grid0.N, win0_9.index t (0 : Fin 2) = 0 ∧ win0_9.index t (1 : Fin 2) = 0) t
  funext j
  show V m c main_call0_v17 (((cfg0.win 9).blk t).view.emb j) = V m c main_call0_v17 j
  refine congrArg (V m c main_call0_v17) (funext fun a => Fin.ext ?_)
  match a with
  | ⟨0, _⟩ => show win0_9.index t (0 : Fin 2) * 256 + 1 * (j 0).val = (j 0).val; omega
  | ⟨1, _⟩ => show win0_9.index t (1 : Fin 2) * 256 + 1 * (j 1).val = (j 1).val; omega

/-- Operand 10 when the kernel is entered. -/
theorem V_op10 : (V m c main_call0_v18 : FVec Ideal S256x1 .f32) = shapeCast S256x1 (m ((c : Thread nD τ).loc main_arg10) : FVec Ideal S256 .f32) shapeCasts_S256_S256x1 := by
  show StableHlo.after hostOps0 _ (Proc.devRef .tc main_call0_v18) = _
  after_results
  rfl

/-- Operand 10's block is the whole operand. -/
theorem blk_op10 (t : Fin cfg0.N) : iblk m c 10 t = V m c main_call0_v18 := by
  obtain ⟨e0, e1⟩ := (by decide +kernel : ∀ t : Fin grid0.N, win0_10.index t (0 : Fin 2) = 0 ∧ win0_10.index t (1 : Fin 2) = 0) t
  funext j
  show V m c main_call0_v18 (((cfg0.win 10).blk t).view.emb j) = V m c main_call0_v18 j
  refine congrArg (V m c main_call0_v18) (funext fun a => Fin.ext ?_)
  match a with
  | ⟨0, _⟩ => show win0_10.index t (0 : Fin 2) * 256 + 1 * (j 0).val = (j 0).val; omega
  | ⟨1, _⟩ => show win0_10.index t (1 : Fin 2) * 1 + 1 * (j 1).val = (j 1).val; omega

/-- Operand 11 when the kernel is entered. -/
theorem V_op11 : (V m c main_call0_v25 : FVec Ideal S1472x256 .bf16) = truncf (F := Ideal) .bf16 (shapeCast S1472x256 (transpose S23x64x256 [2, 1, 0] (shapeCast S256x64x23 (m ((c : Thread nD τ).loc main_arg11) : FVec Ideal S256x1472 .f32) shapeCasts_S256x1472_S256x64x23) transposes_S256x64x23_S23x64x256_2_1_0) shapeCasts_S23x64x256_S1472x256) bitsLt_bf16_f32 := by
  show StableHlo.after hostOps0 _ (Proc.devRef .tc main_call0_v25) = _
  after_results
  rfl

/-- Operand 11's block is the whole operand. -/
theorem blk_op11 (t : Fin cfg0.N) : iblk m c 11 t = V m c main_call0_v25 := by
  obtain ⟨e0, e1⟩ := (by decide +kernel : ∀ t : Fin grid0.N, win0_11.index t (0 : Fin 2) = 0 ∧ win0_11.index t (1 : Fin 2) = 0) t
  funext j
  show V m c main_call0_v25 (((cfg0.win 11).blk t).view.emb j) = V m c main_call0_v25 j
  refine congrArg (V m c main_call0_v25) (funext fun a => Fin.ext ?_)
  match a with
  | ⟨0, _⟩ => show win0_11.index t (0 : Fin 2) * 1472 + 1 * (j 0).val = (j 0).val; omega
  | ⟨1, _⟩ => show win0_11.index t (1 : Fin 2) * 256 + 1 * (j 1).val = (j 1).val; omega

/-- Operand 12 when the kernel is entered. -/
theorem V_op12 : (V m c main_call0_v24 : FVec Ideal S1472x1 .f32) = shapeCast S1472x1 (transpose S23x64 [1, 0] (shapeCast S64x23 (m ((c : Thread nD τ).loc main_arg12) : FVec Ideal S1472 .f32) shapeCasts_S1472_S64x23) transposes_S64x23_S23x64_1_0) shapeCasts_S23x64_S1472x1 := by
  show StableHlo.after hostOps0 _ (Proc.devRef .tc main_call0_v24) = _
  after_results
  rfl

/-- Operand 12's block is the whole operand. -/
theorem blk_op12 (t : Fin cfg0.N) : iblk m c 12 t = V m c main_call0_v24 := by
  obtain ⟨e0, e1⟩ := (by decide +kernel : ∀ t : Fin grid0.N, win0_12.index t (0 : Fin 2) = 0 ∧ win0_12.index t (1 : Fin 2) = 0) t
  funext j
  show V m c main_call0_v24 (((cfg0.win 12).blk t).view.emb j) = V m c main_call0_v24 j
  refine congrArg (V m c main_call0_v24) (funext fun a => Fin.ext ?_)
  match a with
  | ⟨0, _⟩ => show win0_12.index t (0 : Fin 2) * 1472 + 1 * (j 0).val = (j 0).val; omega
  | ⟨1, _⟩ => show win0_12.index t (1 : Fin 2) * 1 + 1 * (j 1).val = (j 1).val; omega

/-- Network 1's blocks are its arguments'. -/
theorem isNet1 {f : Net} (h : ArgNet f (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (t : Fin cfg0.N) :
    IsNet f (iblk m c 1 t) (iblk m c 2 t) (iblk m c 3 t) (iblk m c 4 t) (iblk m c 5 t) (iblk m c 6 t) where
  w1 q p := by rw [blk_op1]; exact (congrFun (V_op1 m c) _).trans ((prep_w1 _ q p).trans (h.w1 p q))
  b1 q := by rw [blk_op2]; exact (congrFun (V_op2 m c) _).trans ((prep_b _ q).trans (h.b1 q))
  w2 q p := by rw [blk_op3]; exact (congrFun (V_op3 m c) _).trans ((prep_w2 _ q p).trans (h.w2 p q))
  b2 q := by rw [blk_op4]; exact (congrFun (V_op4 m c) _).trans ((prep_b _ q).trans (h.b2 q))
  w3 k j p r q hr hq := by
    have := j.isLt
    rw [blk_op5]; exact (congrFun (V_op5 m c) _).trans ((prep_w3 _ p r q (by omega)).trans (h.w3 p q))
  b3 k j r q hr hq := by
    have := j.isLt
    rw [blk_op6]; exact (congrFun (V_op6 m c) _).trans ((prep_b3 _ r q (by omega)).trans (h.b3 q))

/-- Network 2's blocks are its arguments'. -/
theorem isNet2 {f : Net} (h : ArgNet f (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (t : Fin cfg0.N) :
    IsNet f (iblk m c 7 t) (iblk m c 8 t) (iblk m c 9 t) (iblk m c 10 t) (iblk m c 11 t) (iblk m c 12 t) where
  w1 q p := by rw [blk_op7]; exact (congrFun (V_op7 m c) _).trans ((prep_w1 _ q p).trans (h.w1 p q))
  b1 q := by rw [blk_op8]; exact (congrFun (V_op8 m c) _).trans ((prep_b _ q).trans (h.b1 q))
  w2 q p := by rw [blk_op9]; exact (congrFun (V_op9 m c) _).trans ((prep_w2 _ q p).trans (h.w2 p q))
  b2 q := by rw [blk_op10]; exact (congrFun (V_op10 m c) _).trans ((prep_b _ q).trans (h.b2 q))
  w3 k j p r q hr hq := by
    have := j.isLt
    rw [blk_op11]; exact (congrFun (V_op11 m c) _).trans ((prep_w3 _ p r q (by omega)).trans (h.w3 p q))
  b3 k j r q hr hq := by
    have := j.isLt
    rw [blk_op12]; exact (congrFun (V_op12 m c) _).trans ((prep_b3 _ r q (by omega)).trans (h.b3 q))

/-- The rows of the input block of a grid point. -/
theorem blk_op0 (t : Fin cfg0.N) (r : Fin 2048) (q : Fin 128) (r' : Fin 16384) (hr : r'.val = t.val * 2048 + r.val) :
    iblk m c 0 t (ix2 r q) = m ((c : Thread nD τ).loc main_arg0) (ix2 r' q) := by
  obtain ⟨e0, e1⟩ := (by decide +kernel : ∀ t : Fin grid0.N, win0_0.index t (0 : Fin 2) = t.val ∧ win0_0.index t (1 : Fin 2) = 0) t
  show V m c main_arg0 (((cfg0.win 0).blk t).view.emb (ix2 r q)) = _
  rw [V_main_arg0]
  refine congrArg (m ((c : Thread nD τ).loc main_arg0)) (funext fun a => Fin.ext ?_)
  match a with
  | ⟨0, _⟩ => show win0_0.index t (0 : Fin 2) * 2048 + 1 * r.val = r'.val; omega
  | ⟨1, _⟩ => show win0_0.index t (1 : Fin 2) * 128 + 1 * q.val = q.val; omega

/-- A row of a block is a row of the argument. -/
theorem isRow {x : Fin 16384 → Fin 128 → ℝ} (h : ∀ r q, m ((c : Thread nD τ).loc main_arg0) (ix2 r q) = (x r q : EReal)) (t : Fin cfg0.N)
    (r : Fin 2048) (r' : Fin 16384) (hr : r'.val = t.val * 2048 + r.val) : IsRow (loOf x r') (upOf x r') r (iblk m c 0 t) where
  lo p q hq := by
    rw [blk_op0 m c t r q r' hr, h]
    have : q = ⟨p.val, by have := p.isLt; omega⟩ := Fin.ext hq
    rw [this]; rfl
  up p q hq := by
    rw [blk_op0 m c t r q r' hr, h]
    have : q = ⟨64 + p.val, by have := p.isLt; omega⟩ := Fin.ext hq
    rw [this]; rfl

/-- The first result as a whole array. -/
def G0 (f g : Net) (x : Fin 16384 → Fin 128 → ℝ) : FVec Ideal S16384x128 .f32 := fun i => ((yOf f g x (i 0) (i 1) : ℝ) : EReal)

/-- The second result as a whole array. -/
def G1 (f g : Net) (x : Fin 16384 → Fin 128 → ℝ) : FVec Ideal S1x16384 .f32 := fun i => ((ldOf f g x (i 1) : ℝ) : EReal)

section Real
variable {m c} {f g : Net} {x : Fin 16384 → Fin 128 → ℝ}
  (hf : ArgNet f (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (hg : ArgNet g (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
  (hx : ∀ r q, m ((c : Thread nD τ).loc main_arg0) (ix2 r q) = (x r q : EReal))

include hf hg hx in
/-- What a grid point writes back of the first result. -/
theorem flushed13 (t : Fin cfg0.N) : (dats m 0 c).flushed 13 t = ((cfg0.win 13).blk t).view.read (Elt Ideal) (G0 f g x) := by
  have hN : t.val < 8 := by have := t.isLt; have h8 : cfg0.N = 8 := N_0; omega
  obtain ⟨e0, e1⟩ := (by decide +kernel : ∀ t : Fin grid0.N, win0_13.index t (0 : Fin 2) = t.val ∧ win0_13.index t (1 : Fin 2) = 0) t
  show (cfg0.win 13).cut (grid0.coords t) ((dats m 0 c).after 13 t) = _
  rw [after0_13]
  funext i
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i = G0 f g x (((cfg0.win 13).blk t).view.emb i)
  have hi0 : (i 0).val < 2048 := (i 0).isLt
  have hi1 : (i 1).val < 128 := (i 1).isLt
  have hi : i = ix2 (⟨(i 0).val, hi0⟩ : Fin 2048) (⟨(i 1).val, hi1⟩ : Fin 128) := by
    funext a
    match a with
    | ⟨0, _⟩ => rfl
    | ⟨1, _⟩ => rfl
  have he : ((cfg0.win 13).blk t).view.emb i = ix2 (⟨t.val * 2048 + (i 0).val, by omega⟩ : Fin 16384) (⟨(i 1).val, hi1⟩ : Fin 128) := by
    funext a; apply Fin.ext
    match a with
    | ⟨0, _⟩ => show win0_13.index t (0 : Fin 2) * 2048 + 1 * (i 0).val = t.val * 2048 + (i 0).val; omega
    | ⟨1, _⟩ => show win0_13.index t (1 : Fin 2) * 128 + 1 * (i 1).val = (i 1).val; omega
  rw [he]
  show _ = ((yOf f g x (⟨t.val * 2048 + (i 0).val, by omega⟩ : Fin 16384) (⟨(i 1).val, hi1⟩ : Fin 128) : ℝ) : EReal)
  have hR := isRow m c hx t (⟨(i 0).val, hi0⟩ : Fin 2048) ⟨t.val * 2048 + (i 0).val, by omega⟩ rfl
  have hb := fun j => out13_coe (isNet1 m c hf t) hR (isNet2 m c hg t) j (⟨(i 1).val, hi1⟩ : Fin 128)
  unfold yOf
  by_cases h : (i 1).val < 64
  · rw [dif_pos h]
    exact (congrArg _ hi).trans ((hb ⟨(i 1).val, h⟩).1 rfl)
  · rw [dif_neg h]
    exact (congrArg _ hi).trans ((hb ⟨(i 1).val - 64, by omega⟩).2 (by show (i 1).val = 64 + ((i 1).val - 64); omega))

include hf hg hx in
/-- What a grid point writes back of the second result. -/
theorem flushed14 (t : Fin cfg0.N) : (dats m 0 c).flushed 14 t = ((cfg0.win 14).blk t).view.read (Elt Ideal) (G1 f g x) := by
  have hN : t.val < 8 := by have := t.isLt; have h8 : cfg0.N = 8 := N_0; omega
  obtain ⟨e0, e1⟩ := (by decide +kernel : ∀ t : Fin grid0.N, win0_14.index t (0 : Fin 2) = 0 ∧ win0_14.index t (1 : Fin 2) = t.val) t
  show (cfg0.win 14).cut (grid0.coords t) ((dats m 0 c).after 14 t) = _
  rw [after0_14]
  funext i
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i = G1 f g x (((cfg0.win 14).blk t).view.emb i)
  have hi0 : (i 0).val < 1 := (i 0).isLt
  have hi1 : (i 1).val < 2048 := (i 1).isLt
  have hi : i = ix2 (0 : Fin 1) (⟨(i 1).val, hi1⟩ : Fin 2048) := by
    funext a; apply Fin.ext
    match a with
    | ⟨0, _⟩ => show (i 0).val = 0; omega
    | ⟨1, _⟩ => rfl
  have he : ((cfg0.win 14).blk t).view.emb i = ix2 (0 : Fin 1) (⟨t.val * 2048 + (i 1).val, by omega⟩ : Fin 16384) := by
    funext a; apply Fin.ext
    match a with
    | ⟨0, _⟩ => show win0_14.index t (0 : Fin 2) * 1 + 1 * (i 0).val = 0; omega
    | ⟨1, _⟩ => show win0_14.index t (1 : Fin 2) * 2048 + 1 * (i 1).val = t.val * 2048 + (i 1).val; omega
  rw [he]
  have hR := isRow m c hx t (⟨(i 1).val, hi1⟩ : Fin 2048) ⟨t.val * 2048 + (i 1).val, by omega⟩ rfl
  exact (congrArg _ hi).trans (out14_coe (isNet1 m c hf t) hR (isNet2 m c hg t))

end Real

/-- The points whose block of the first result holds an index. -/
theorem mem13 (t : Fin cfg0.N) (i : S16384x128.Idx) :
    i ∈ ((cfg0.win 13).blk t).view.set ↔ t.val * 2048 ≤ (i 0 : Nat) ∧ (i 0 : Nat) < t.val * 2048 + 2048 := by
  show i ∈ ((View.whole main_v0_0).slice (win0_13.rect t)).set ↔ _
  rw [View.set_slice_whole, Rect.mem_set_unit]
  have h1 : (i 1 : Nat) < 128 := (i 1).isLt
  have e := (by decide +kernel : ∀ t : Fin grid0.N, win0_13.index t 0 * win0_13.size 0 = t.val * 2048 ∧ win0_13.xsize (grid0.coords t) 0 = 2048
      ∧ win0_13.index t 1 * win0_13.size 1 = 0 ∧ win0_13.xsize (grid0.coords t) 1 = 128) t
  refine ⟨fun h => ?_, fun h a => ?_⟩
  · have : win0_13.index t 0 * win0_13.size 0 ≤ (i 0 : Nat) ∧ (i 0 : Nat) < win0_13.index t 0 * win0_13.size 0 + win0_13.xsize (grid0.coords t) 0 := h 0
    rw [e.1, e.2.1] at this; exact this
  · match a with
    | ⟨0, _⟩ => show win0_13.index t 0 * win0_13.size 0 ≤ (i 0 : Nat) ∧ (i 0 : Nat) < win0_13.index t 0 * win0_13.size 0 + win0_13.xsize (grid0.coords t) 0
                rw [e.1, e.2.1]; exact h
    | ⟨1, _⟩ => show win0_13.index t 1 * win0_13.size 1 ≤ (i 1 : Nat) ∧ (i 1 : Nat) < win0_13.index t 1 * win0_13.size 1 + win0_13.xsize (grid0.coords t) 1
                rw [e.2.2.1, e.2.2.2]; omega

/-- The points whose block of the second result holds an index. -/
theorem mem14 (t : Fin cfg0.N) (i : S1x16384.Idx) :
    i ∈ ((cfg0.win 14).blk t).view.set ↔ t.val * 2048 ≤ (i 1 : Nat) ∧ (i 1 : Nat) < t.val * 2048 + 2048 := by
  show i ∈ ((View.whole main_v0_1).slice (win0_14.rect t)).set ↔ _
  rw [View.set_slice_whole, Rect.mem_set_unit]
  have h0 : (i 0 : Nat) < 1 := (i 0).isLt
  have e := (by decide +kernel : ∀ t : Fin grid0.N, win0_14.index t 1 * win0_14.size 1 = t.val * 2048 ∧ win0_14.xsize (grid0.coords t) 1 = 2048
      ∧ win0_14.index t 0 * win0_14.size 0 = 0 ∧ win0_14.xsize (grid0.coords t) 0 = 1) t
  refine ⟨fun h => ?_, fun h a => ?_⟩
  · have : win0_14.index t 1 * win0_14.size 1 ≤ (i 1 : Nat) ∧ (i 1 : Nat) < win0_14.index t 1 * win0_14.size 1 + win0_14.xsize (grid0.coords t) 1 := h 1
    rw [e.1, e.2.1] at this; exact this
  · match a with
    | ⟨1, _⟩ => show win0_14.index t 1 * win0_14.size 1 ≤ (i 1 : Nat) ∧ (i 1 : Nat) < win0_14.index t 1 * win0_14.size 1 + win0_14.xsize (grid0.coords t) 1
                rw [e.1, e.2.1]; exact h
    | ⟨0, _⟩ => show win0_14.index t 0 * win0_14.size 0 ≤ (i 0 : Nat) ∧ (i 0 : Nat) < win0_14.index t 0 * win0_14.size 0 + win0_14.xsize (grid0.coords t) 0
                rw [e.2.2.1, e.2.2.2]; omega

/-- The blocks of the first result fill it. -/
theorem cover13 (i : S16384x128.Idx) : ∃ t : Fin cfg0.N, (cfg0.win 13).flush t = true ∧ i ∈ ((cfg0.win 13).blk t).view.set := by
  have h0 : (i 0 : Nat) < 16384 := (i 0).isLt
  have hN : cfg0.N = 8 := N_0
  refine ⟨⟨(i 0 : Nat) / 2048, by omega⟩, flush0_13 _, ?_⟩
  rw [mem13]
  dsimp only
  omega

/-- The blocks of the second result fill it. -/
theorem cover14 (i : S1x16384.Idx) : ∃ t : Fin cfg0.N, (cfg0.win 14).flush t = true ∧ i ∈ ((cfg0.win 14).blk t).view.set := by
  have h0 : (i 1 : Nat) < 16384 := (i 1).isLt
  have hN : cfg0.N = 8 := N_0
  refine ⟨⟨(i 1 : Nat) / 2048, by omega⟩, flush0_14 _, ?_⟩
  rw [mem14]
  dsimp only
  omega

/-- The run, read: both results are the real layer's values. -/
theorem run_real {f g : Dev nD → Net} {x : Dev nD → Fin 16384 → Fin 128 → ℝ}
    (hf : ∀ c : Dev nD, ArgNet (f c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hg : ∀ c : Dev nD, ArgNet (g c) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
    (hx : ∀ (c : Dev nD) r q, m ((c : Thread nD τ).loc main_arg0) (ix2 r q) = (x c r q : EReal)) :
    θ_run defs (onTc (τ := τ) (main (F := Ideal))) ⟨m, fun _ => 0, ρ⟩ fun r => ∀ c : Dev nD,
      r.2.mem ((c : Thread nD τ).loc main_v0_0) = G0 (f c) (g c) (x c)
      ∧ r.2.mem ((c : Thread nD τ).loc main_v0_1) = G1 (f c) (g c) (x c) :=
  (θ_run defs _ _).mono (fun _ h c =>
    ⟨((h c).1 13).trans ((dats m 0 c).arrAt_eq_of_cover 13 (G0 (f c) (g c) (x c)) (fun t _ => flushed13 (hf c) (hg c) (hx c) t) cover13),
      ((h c).1 14).trans ((dats m 0 c).arrAt_eq_of_cover 14 (G1 (f c) (g c) (x c)) (fun t _ => flushed14 (hf c) (hg c) (hx c) t) cover14)⟩)
    (run_main m ρ)

end Cert.KernelIdeal.Gen

end
-- ==== Proof.NetOf.lean ====
/- A network read from six arrays. -/
module

public import proofs.«01_k».proof.Proof.KVal

@[expose] public section

noncomputable section

namespace Cert.Spline

open Idealize.ShloMosaic

variable (a1 : FVec Ideal Cert.KernelIdeal.S64x256 .f32) (a2 : FVec Ideal Cert.KernelIdeal.S256 .f32)
    (a3 : FVec Ideal Cert.KernelIdeal.S256x256 .f32) (a4 : FVec Ideal Cert.KernelIdeal.S256 .f32)
    (a5 : FVec Ideal Cert.KernelIdeal.S256x1472 .f32) (a6 : FVec Ideal Cert.KernelIdeal.S1472 .f32)

/-- The network whose weights are the real parts of six arrays. -/
def netOf : Net where
  w1 p q := (a1 (ix2 p q) : EReal).toReal
  b1 q := (a2 (ix1 q) : EReal).toReal
  w2 p q := (a3 (ix2 p q) : EReal).toReal
  b2 q := (a4 (ix1 q) : EReal).toReal
  w3 p q := (a5 (ix2 p q) : EReal).toReal
  b3 q := (a6 (ix1 q) : EReal).toReal

/-- Six real arrays are that network's. -/
theorem argNet_of (h1 : ∀ i, a1 i = (((a1 i : EReal).toReal : ℝ) : EReal)) (h2 : ∀ i, a2 i = (((a2 i : EReal).toReal : ℝ) : EReal))
    (h3 : ∀ i, a3 i = (((a3 i : EReal).toReal : ℝ) : EReal)) (h4 : ∀ i, a4 i = (((a4 i : EReal).toReal : ℝ) : EReal))
    (h5 : ∀ i, a5 i = (((a5 i : EReal).toReal : ℝ) : EReal)) (h6 : ∀ i, a6 i = (((a6 i : EReal).toReal : ℝ) : EReal)) :
    ArgNet (netOf a1 a2 a3 a4 a5 a6) a1 a2 a3 a4 a5 a6 where
  w1 p q := h1 (ix2 p q)
  b1 q := h2 (ix1 q)
  w2 p q := h3 (ix2 p q)
  b2 q := h4 (ix1 q)
  w3 p q := h5 (ix2 p q)
  b3 q := h6 (ix1 q)

end Cert.Spline

end
-- ==== Proof.RefBin.lean ====
/- The reference's operation groups read at one index: the bin, the reads at the bin and the rational-quadratic piece, when the tensors they read hold real numbers there. -/
module

public import proofs.«01_k».proof.Proof.RefRead
public import Idealize.ShloMosaic.Lib.MatmulPlain
public import Idealize.ShloMosaic.Lib.Pointwise

@[expose] public section

set_option maxRecDepth 16384

noncomputable section

namespace Cert.Spline

open Cert.ReferenceIdeal Cert.ReferenceIdeal.Gen Idealize.ShloMosaic

section Bin
variable {r : Fin 16384} {j : Fin 64}

/-- The knots the input is compared with. -/
theorem rEdge_coe {k : FVec Ideal S16384x64x9 .f32} {t : ℕ → ℝ} (hk : ∀ q : Fin 9, k (ix3 r j q) = (t q : EReal)) :
    ∃ e : ℝ, 0 < e ∧ ∀ q : Fin 9, rEdge k (ix3 r j q) = ((if q.val < 8 then t q else t 8 + e : ℝ) : EReal) := by
  obtain ⟨e, he, hw⟩ := word_eps
  refine ⟨e, he, fun q => ?_⟩
  unfold rEdge
  pointwise
  have hq := q.isLt
  split
  · next h => exact hk q
  · next h =>
    have h' : 8 ≤ q.val := by have := (show ¬ q.val < 8 from h); omega
    rw [hw, EReal.coe_add]
    refine congrArg (· + (e : EReal)) ?_
    refine (hk _).trans ?_
    show ((t (8 + (q.val - 8)) : ℝ) : EReal) = _
    rw [show 8 + (q.val - 8) = 8 by omega]

/-- The count of the knots at most an input inside the interval is one more than its bin. -/
theorem rCount_coe {k : FVec Ideal S16384x64x9 .f32} {x : FVec Ideal S16384x64 .f32} {u : ℕ → ℝ} {x' : ℝ}
    (hk : ∀ q : Fin 9, k (ix3 r j q) = (knot u q : EReal)) (hx : x (ix2 r j) = (x' : EReal)) (h0 : -3 ≤ x') (h1 : x' ≤ 3) :
    (rCount (rEdge k) x (ix2 r j)).toNat = bin (knot u) x' + 1 := by
  obtain ⟨e, he, hE⟩ := rEdge_coe hk
  unfold rCount
  refine (hostCount (by norm_num) _ _ _ (fun _ => rfl) _ _ r j).trans ?_
  have hb : ∀ q : Fin 9, (cmpf .oge (broadcastInDim S16384x64x9 ![0, 1, 2] bcast_S16384x64x1_S16384x64x9_0_1_2
      (broadcastInDim S16384x64x1 ![0, 1] bcast_S16384x64_S16384x64x1_0_1 x)) (rEdge k)) (ix3 r j q) = 1#1
      ↔ (if q.val < 8 then knot u q else knot u 8 + e) ≤ x' := by
    intro q
    have e1 : cmpf .oge (broadcastInDim S16384x64x9 ![0, 1, 2] bcast_S16384x64x1_S16384x64x9_0_1_2
      (broadcastInDim S16384x64x1 ![0, 1] bcast_S16384x64_S16384x64x1_0_1 x)) (rEdge k) (ix3 r j q)
        = Ideal.cmp .oge (x (ix2 r j)) (rEdge k (ix3 r j q)) := by
      pointwise
    rw [e1, hx, hE q]
    refine Iff.trans ?_ EReal.coe_le_coe_iff
    exact Ideal.cmp_oge_eq_one _ _
  simp only [hb]
  rw [Finset.card_filter, Fin.sum_univ_eq_sum_range (fun q => if (if q < 8 then knot u q else knot u 8 + e) ≤ x' then 1 else 0) 9,
    Finset.sum_range_succ, Finset.sum_range_succ']
  unfold bin
  rw [Finset.card_filter]
  have h8 : ¬ (if 8 < 8 then knot u 8 else knot u 8 + e) ≤ x' := by
    rw [if_neg (by omega), knot_eight]; linarith
  have hz : (if 0 < 8 then knot u 0 else knot u 8 + e) ≤ x' := by
    rw [if_pos (by omega), knot_zero]; exact h0
  rw [if_neg h8, if_pos hz, add_zero]
  refine congrArg (· + 1) (Finset.sum_congr rfl fun q hq => ?_)
  have hq' : q + 1 < 8 := by have := Finset.mem_range.1 hq; omega
  rw [if_pos hq']

/-- One less than a count from one to eight, kept between 0 and 7, is itself. -/
theorem clip_word : ∀ b : Fin 8, IntOp.minsi 7#32 (IntOp.maxsi 0#32 (IntOp.subi (BitVec.ofNat 32 (b.val + 1)) 1#32)) = BitVec.ofNat 32 b.val := by
  decide

/-- The bin's word from the count's. -/
theorem rBin_coe {c : IVec S16384x64 32} {b : ℕ} (hb : b ≤ 7) (hc : (c (ix2 r j)).toNat = b + 1) :
    rBin c (ix3 r j 0) = BitVec.ofNat 32 b := by
  have e : c (ix2 r j) = BitVec.ofNat 32 (b + 1) := BitVec.eq_of_toNat_eq (by rw [hc, BitVec.toNat_ofNat, Nat.mod_eq_of_lt (by omega)])
  unfold rBin
  pointwise
  rw [e]
  exact clip_word ⟨b, by omega⟩

/-- A bin's word is not negative, and names its own position. -/
theorem word_pos9 : ∀ b : Fin 8, (Scalar.select (IntOp.cmpi .slt (BitVec.ofNat 32 b.val) 0#32) (IntOp.addi (BitVec.ofNat 32 b.val) 9#32)
    (BitVec.ofNat 32 b.val)).toInt.toNat = b.val := by
  decide

/-- The same with the wrap of eight. -/
theorem word_pos8 : ∀ b : Fin 8, (Scalar.select (IntOp.cmpi .slt (BitVec.ofNat 32 b.val) 0#32) (IntOp.addi (BitVec.ofNat 32 b.val) 8#32)
    (BitVec.ofNat 32 b.val)).toInt.toNat = b.val := by
  decide

/-- The entry of nine at the bin. -/
theorem rTake9_coe {k : FVec Ideal S16384x64x9 .f32} {i : IVec S16384x64x1 32} {t : ℕ → ℝ} {b : ℕ} (hb : b ≤ 7)
    (hk : ∀ q : Fin 9, k (ix3 r j q) = (t q : EReal)) (hi : i (ix3 r j 0) = BitVec.ofNat 32 b) : rTake9 k i (ix2 r j) = (t b : EReal) := by
  unfold rTake9
  pointwise
  refine (pick_apply (by omega) gather_S16384x64x9_S16384x64x1x1_S16384x64x1_n_2_01_01_2_3_111_wf k _ r j 0).trans ((hk _).trans ?_)
  refine congrArg (fun n => ((t n : ℝ) : EReal)) ?_
  show min (BitVec.toInt _).toNat (9 - 1) = b
  have e : ∀ w : IVec S16384x64x1 32, shapeCast S16384x64x1x1 w shapeCasts_S16384x64x1_S16384x64x1x1 (ix4 r j 0 0) = w (ix3 r j 0) := by
    intro w; pointwise
  rw [e]
  have e2 : select (cmpi .slt i (broadcastInDim S16384x64x1 ![] bcast_S_S16384x64x1 (constantI S_ 32 0#32)))
      (addi i (broadcastInDim S16384x64x1 ![] bcast_S_S16384x64x1 (constantI S_ 32 9#32))) i (ix3 r j 0)
      = Scalar.select (IntOp.cmpi .slt (i (ix3 r j 0)) 0#32) (IntOp.addi (i (ix3 r j 0)) 9#32) (i (ix3 r j 0)) := rfl
  rw [e2, hi, word_pos9 ⟨b, by omega⟩]
  show min b 8 = b
  omega

/-- The entry of eight at the bin. -/
theorem rTake8_coe {k : FVec Ideal S16384x64x8 .f32} {i : IVec S16384x64x1 32} {t : ℕ → ℝ} {b : ℕ} (hb : b ≤ 7)
    (hk : ∀ q : Fin 8, k (ix3 r j q) = (t q : EReal)) (hi : i (ix3 r j 0) = BitVec.ofNat 32 b) : rTake8 k i (ix2 r j) = (t b : EReal) := by
  unfold rTake8
  pointwise
  refine (pick_apply (by omega) gather_S16384x64x8_S16384x64x1x1_S16384x64x1_n_2_01_01_2_3_111_wf k _ r j 0).trans ((hk _).trans ?_)
  refine congrArg (fun n => ((t n : ℝ) : EReal)) ?_
  show min (BitVec.toInt _).toNat (8 - 1) = b
  have e : ∀ w : IVec S16384x64x1 32, shapeCast S16384x64x1x1 w shapeCasts_S16384x64x1_S16384x64x1x1 (ix4 r j 0 0) = w (ix3 r j 0) := by
    intro w; pointwise
  rw [e]
  have e2 : select (cmpi .slt i (broadcastInDim S16384x64x1 ![] bcast_S_S16384x64x1 (constantI S_ 32 0#32)))
      (addi i (broadcastInDim S16384x64x1 ![] bcast_S_S16384x64x1 (constantI S_ 32 8#32))) i (ix3 r j 0)
      = Scalar.select (IntOp.cmpi .slt (i (ix3 r j 0)) 0#32) (IntOp.addi (i (ix3 r j 0)) 8#32) (i (ix3 r j 0)) := rfl
  rw [e2, hi, word_pos8 ⟨b, by omega⟩]
  show min b 7 = b
  omega

/-- The test for the interval. -/
theorem rIn_coe {x : FVec Ideal S16384x64 .f32} {x' : ℝ} (hx : x (ix2 r j) = (x' : EReal)) : rIn x (ix2 r j) = 1 ↔ -3 ≤ x' ∧ x' ≤ 3 := by
  unfold rIn
  pointwise
  have e0 : Ideal.ofBits .f32 0xC0400000#32 ≤ x (ix2 r j) ↔ -3 ≤ x' := by rw [hx, word_neg3, EReal.coe_le_coe_iff]
  have e1 : x (ix2 r j) ≤ Ideal.ofBits .f32 0x40400000#32 ↔ x' ≤ 3 := by rw [hx, word_3, EReal.coe_le_coe_iff]
  by_cases h0 : -3 ≤ x' <;> by_cases h1 : x' ≤ 3 <;> simp [e0, e1, h0, h1, IntOp.andi]

end Bin

section Piece
variable {r : Fin 16384} {j : Fin 64}

/-- The relative position. -/
theorem rTheta_coe {x a w : FVec Ideal S16384x64 .f32} {x' a' w' : ℝ} (hx : x (ix2 r j) = (x' : EReal)) (ha : a (ix2 r j) = (a' : EReal))
    (hw : w (ix2 r j) = (w' : EReal)) (h : w' ≠ 0) : rTheta x a w (ix2 r j) = (((x' - a') / w' : ℝ) : EReal) := by
  unfold rTheta
  pointwise
  rw [hx, ha, hw, ← EReal.coe_sub, div_real h]

/-- `θ (1 - θ)`. -/
theorem rTT_coe {t : FVec Ideal S16384x64 .f32} {t' : ℝ} (ht : t (ix2 r j) = (t' : EReal)) :
    rTT t (ix2 r j) = ((t' * (1 - t') : ℝ) : EReal) := by
  unfold rTT
  pointwise
  rw [ht, ← EReal.coe_one, ← EReal.coe_sub, ← EReal.coe_mul]

/-- The denominator. -/
theorem rDen_coe {δ s z p : FVec Ideal S16384x64 .f32} {δ' s' z' t' : ℝ} (hδ : δ (ix2 r j) = (δ' : EReal)) (hs : s (ix2 r j) = (s' : EReal))
    (hz : z (ix2 r j) = (z' : EReal)) (hp : p (ix2 r j) = ((t' * (1 - t') : ℝ) : EReal)) :
    rDen δ s z p (ix2 r j) = (den δ' s' z' t' : EReal) := by
  unfold rDen
  pointwise
  rw [hδ, hs, hz, hp, word_2]
  simp only [← EReal.coe_add, ← EReal.coe_mul, ← EReal.coe_sub]
  rfl

/-- The piece. -/
theorem rOut_coe {b g δ t s p n : FVec Ideal S16384x64 .f32} {b' g' δ' t' s' n' : ℝ} (hb : b (ix2 r j) = (b' : EReal))
    (hg : g (ix2 r j) = (g' : EReal)) (hδ : δ (ix2 r j) = (δ' : EReal)) (ht : t (ix2 r j) = (t' : EReal)) (hs : s (ix2 r j) = (s' : EReal))
    (hp : p (ix2 r j) = ((t' * (1 - t') : ℝ) : EReal)) (hn : n (ix2 r j) = (n' : EReal)) (h : n' ≠ 0) :
    rOut b g δ t s p n (ix2 r j) = ((b' + g' * (δ' * t' ^ 2 + s' * (t' * (1 - t'))) / n' : ℝ) : EReal) := by
  unfold rOut
  pointwise
  rw [hb, hg, hδ, ht, hs, hp, hn]
  simp only [← EReal.coe_add, ← EReal.coe_mul, ← EReal.coe_sub]
  rw [div_real h, ← EReal.coe_add, pow_two]

/-- The logarithm of the slope. -/
theorem rLogd_coe {δ z t p s n : FVec Ideal S16384x64 .f32} {δ' z' t' s' n' : ℝ}
    (hδ : δ (ix2 r j) = (δ' : EReal)) (hz : z (ix2 r j) = (z' : EReal)) (ht : t (ix2 r j) = (t' : EReal)) (hs : s (ix2 r j) = (s' : EReal))
    (hp : p (ix2 r j) = ((t' * (1 - t') : ℝ) : EReal)) (hn : n (ix2 r j) = (n' : EReal)) (h : 0 < n') (hd : 0 < dnum δ' s' z' t') :
    rLogd δ z t p s n (ix2 r j) = ((Real.log (dnum δ' s' z' t') - 2 * Real.log n' : ℝ) : EReal) := by
  have e : δ' * δ' * (z' * (t' * t') + 2 * δ' * (t' * (1 - t')) + s' * ((1 - t') * (1 - t'))) = dnum δ' s' z' t' := by
    unfold dnum; ring
  unfold rLogd
  pointwise
  rw [hδ, hz, ht, hs, hp, hn, word_2, ← EReal.coe_one]
  simp only [← EReal.coe_add, ← EReal.coe_mul, ← EReal.coe_sub]
  rw [e, Ideal.log_coe, Ideal.log_coe, if_neg (not_le.2 hd), if_neg (not_le.2 h)]
  simp only [← EReal.coe_mul, ← EReal.coe_sub]

/-- The choice inside or outside. -/
theorem rSel_coe {c : IVec S16384x64 1} {y x : FVec Ideal S16384x64 .f32} {P : Prop} [Decidable P] {y' x' : ℝ} (hc : c (ix2 r j) = 1 ↔ P)
    (hy : P → y (ix2 r j) = (y' : EReal)) (hx : x (ix2 r j) = (x' : EReal)) : rSel c y x (ix2 r j) = ((if P then y' else x' : ℝ) : EReal) := by
  show (if c (ix2 r j) = 1 then y (ix2 r j) else x (ix2 r j)) = _
  by_cases h : P
  · rw [if_pos h, if_pos (hc.2 h), hy h]
  · rw [if_neg h, if_neg (fun h' => h (hc.1 h')), hx]

/-- The choice inside, zero outside. -/
theorem rSelLog_coe {c : IVec S16384x64 1} {y : FVec Ideal S16384x64 .f32} {P : Prop} [Decidable P] {y' : ℝ} (hc : c (ix2 r j) = 1 ↔ P)
    (hy : P → y (ix2 r j) = (y' : EReal)) : rSelLog c y (ix2 r j) = ((if P then y' else 0 : ℝ) : EReal) := by
  show (if c (ix2 r j) = 1 then y (ix2 r j) else Ideal.ofBits .f32 0x00000000#32) = _
  by_cases h : P
  · rw [if_pos h, if_pos (hc.2 h), hy h]
  · rw [if_neg h, if_neg (fun h' => h (hc.1 h')), word_0]

end Piece

/-- The sum over a row. -/
theorem rSum_coe {y : FVec Ideal S16384x64 .f32} {r : Fin 16384} {y' : Fin 64 → ℝ} (hy : ∀ j : Fin 64, y (ix2 r j) = (y' j : EReal)) :
    rSum y (ix1 r) = ((∑ j, y' j : ℝ) : EReal) := by
  unfold rSum
  refine (hostSum_row y _ (fun _ => word_0) _ _ r).trans ?_
  rw [← sum_coe]
  exact Finset.sum_congr rfl fun j _ => hy j

end Cert.Spline

end
-- ==== Proof.RefMap.lean ====
/- The reference's operation groups read at one index, when the tensors they read hold real numbers there. -/
module

public import proofs.«01_k».proof.Proof.RefBin
public import Idealize.ShloMosaic.Lib.MatmulPlain
public import Idealize.ShloMosaic.Lib.Pointwise

@[expose] public section

set_option maxRecDepth 16384

noncomputable section

namespace Cert.Spline

open Cert.ReferenceIdeal Cert.ReferenceIdeal.Gen Idealize.ShloMosaic

/-- The whole of a coordinate's spline: the tensors the formulas pass through, from the output layer's outputs and the spline's
    input, end in the net's spline and its logarithm. -/
theorem stage_coe {f : Net} {r : Fin 16384} {v : Fin 64 → ℝ} {j : Fin 64} {x' : ℝ}
    {o : FVec Ideal S16384x1472 .f32} {x : FVec Ideal S16384x64 .f32}
    {v17 v18 : FVec Ideal S16384x64x8 .f32} {v19 : FVec Ideal S16384x64x7 .f32} {v24 : IVec S16384x64 1} {v26 : FVec Ideal S16384x64x9 .f32}
    {v30 v67 : FVec Ideal S16384x64 .f32} {v34 v44 v71 v81 v59 v96 v117 v122 : FVec Ideal S16384x64x8 .f32}
    {v56 v93 v63 v101 : FVec Ideal S16384x64x9 .f32} {v106 : IVec S16384x64 32} {v110 : IVec S16384x64x1 32}
    {v112 v114 v116 v119 v121 v124 v126 v128 v131 v142 v144 v162 v163 v164 : FVec Ideal S16384x64 .f32}
    (e17 : v17 = rWid o) (e18 : v18 = rHgt o) (e19 : v19 = rSlp o) (e24 : v24 = rIn x) (e26 : v26 = rExt v19) (e30 : v30 = rTop v17)
    (e34 : v34 = rExp v17 v30) (e44 : v44 = rSize v34) (e56 : v56 = rKnot v44) (e59 : v59 = rDiff v56) (e63 : v63 = rSlope v26)
    (e67 : v67 = rTop v18) (e71 : v71 = rExp v18 v67) (e81 : v81 = rSize v71) (e93 : v93 = rKnot v81) (e96 : v96 = rDiff v93)
    (e101 : v101 = rEdge v56) (e106 : v106 = rCount v101 x) (e110 : v110 = rBin v106) (e112 : v112 = rTake9 v56 v110)
    (e114 : v114 = rTake8 v59 v110) (e116 : v116 = rTake9 v93 v110) (e117 : v117 = rQuot v96 v59) (e119 : v119 = rTake8 v117 v110)
    (e121 : v121 = rTake9 v63 v110) (e122 : v122 = rNext v63) (e124 : v124 = rTake8 v122 v110) (e126 : v126 = rTake8 v96 v110)
    (e128 : v128 = rTheta x v112 v114) (e131 : v131 = rTT v128) (e142 : v142 = rDen v119 v121 v124 v131)
    (e144 : v144 = rOut v116 v126 v119 v128 v121 v131 v142) (e162 : v162 = rLogd v119 v124 v128 v131 v121 v142)
    (e163 : v163 = rSel v24 v144 x) (e164 : v164 = rSelLog v24 v162)
    (ho : ∀ q : Fin 1472, o (ix2 r q) = (f.out v q : EReal)) (hx : x (ix2 r j) = (x' : EReal)) :
    v163 (ix2 r j) = (f.map v j x' : EReal) ∧ v164 (ix2 r j) = (f.mapLog v j x' : EReal) := by
  have h17 : ∀ q : Fin 8, v17 (ix3 r j q) = (f.logit v j q : EReal) := by rw [e17]; exact rWid_coe ho j
  have h18 : ∀ q : Fin 8, v18 (ix3 r j q) = ((fun k => f.logit v j (8 + k)) q.val : EReal) := by rw [e18]; exact rHgt_coe ho j
  have h19 : ∀ q : Fin 7, v19 (ix3 r j q) = ((fun k => f.logit v j (16 + k)) q.val : EReal) := by rw [e19]; exact rSlp_coe ho j
  generalize hW : f.logit v j = W at h17
  generalize hH : (fun k => f.logit v j (8 + k)) = U at h18
  generalize hD : (fun k => f.logit v j (16 + k)) = D at h19
  have h56 : ∀ q : Fin 9, v56 (ix3 r j q) = (knot W q : EReal) := by rw [e56, e44, e34, e30]; exact rKnots_coe h17
  have h93 : ∀ q : Fin 9, v93 (ix3 r j q) = (knot U q : EReal) := by rw [e93, e81, e71, e67]; exact rKnots_coe h18
  have h63 : ∀ q : Fin 9, v63 (ix3 r j q) = (slope D q : EReal) := by rw [e63, e26]; exact rSlope_coe (rExt_coe h19)
  have h59 : ∀ q : Fin 8, v59 (ix3 r j q) = ((fun k => knot W (k + 1) - knot W k) q.val : EReal) := by rw [e59]; exact rDiff_coe h56
  have h96 : ∀ q : Fin 8, v96 (ix3 r j q) = ((fun k => knot U (k + 1) - knot U k) q.val : EReal) := by rw [e96]; exact rDiff_coe h93
  have h122 : ∀ q : Fin 8, v122 (ix3 r j q) = ((fun k => slope D (k + 1)) q.val : EReal) := by rw [e122]; exact rNext_coe h63
  have hpos : ∀ (u : ℕ → ℝ) k, 0 < knot u (k + 1) - knot u k := fun u k => sub_pos.2 (knot_mono u (Nat.lt_succ_self k))
  have h117 : ∀ q : Fin 8, v117 (ix3 r j q) = ((fun k => (knot U (k + 1) - knot U k) / (knot W (k + 1) - knot W k)) q.val : EReal) := by
    intro q
    rw [e117]
    show Ideal.div (v96 (ix3 r j q)) (v59 (ix3 r j q)) = _
    rw [h96, h59, div_real (hpos W q.val).ne']
  have h24 : v24 (ix2 r j) = 1 ↔ -3 ≤ x' ∧ x' ≤ 3 := by rw [e24]; exact rIn_coe hx
  have key : -3 ≤ x' ∧ x' ≤ 3 → v144 (ix2 r j) = (rq x' (knot W (bin (knot W) x')) (knot W (bin (knot W) x' + 1))
      (knot U (bin (knot W) x')) (knot U (bin (knot W) x' + 1)) (slope D (bin (knot W) x')) (slope D (bin (knot W) x' + 1)) : EReal)
      ∧ v162 (ix2 r j) = (rqLog x' (knot W (bin (knot W) x')) (knot W (bin (knot W) x' + 1))
      (knot U (bin (knot W) x')) (knot U (bin (knot W) x' + 1)) (slope D (bin (knot W) x')) (slope D (bin (knot W) x' + 1)) : EReal) := by
    rintro ⟨h0, h1⟩
    have hb := bin_le (knot W) x'
    have hi : v110 (ix3 r j 0) = BitVec.ofNat 32 (bin (knot W) x') := by
      rw [e110]
      refine rBin_coe hb ?_
      rw [e106, e101]
      exact rCount_coe h56 hx h0 h1
    obtain ⟨p0, p1⟩ := bin_bounds W h0 h1
    generalize bin (knot W) x' = b at hb hi p0 p1 ⊢
    have t112 := rTake9_coe hb h56 hi
    have t114 := rTake8_coe (t := fun k => knot W (k + 1) - knot W k) hb h59 hi
    have t116 := rTake9_coe hb h93 hi
    have t119 := rTake8_coe (t := fun k => (knot U (k + 1) - knot U k) / (knot W (k + 1) - knot W k)) hb h117 hi
    have t121 := rTake9_coe hb h63 hi
    have t124 := rTake8_coe (t := fun k => slope D (k + 1)) hb h122 hi
    have t126 := rTake8_coe (t := fun k => knot U (k + 1) - knot U k) hb h96 hi
    rw [← e112] at t112
    rw [← e114] at t114
    rw [← e116] at t116
    rw [← e119] at t119
    rw [← e121] at t121
    rw [← e124] at t124
    rw [← e126] at t126
    have hlt := knot_mono W (Nat.lt_succ_self b)
    obtain ⟨q0, q1⟩ := pos_bounds hlt p0 p1
    have t128 := rTheta_coe hx t112 t114 (hpos W b).ne'
    rw [← e128] at t128
    have t131 := rTT_coe t128
    rw [← e131] at t131
    have t142 := rDen_coe t119 t121 t124 t131
    rw [← e142] at t142
    have hδ : 0 < (knot U (b + 1) - knot U b) / (knot W (b + 1) - knot W b) := div_pos (hpos U b) (hpos W b)
    have hn := den_pos hδ (slope_pos D b) (slope_pos D (b + 1)) q0 q1
    have hd := dnum_pos hδ (slope_pos D b) (slope_pos D (b + 1)) q0 q1
    have t144 := rOut_coe t116 t126 t119 t128 t121 t131 t142 hn.ne'
    have t162 := rLogd_coe t119 t124 t128 t121 t131 t142 hn hd
    rw [← e144] at t144
    rw [← e162] at t162
    exact ⟨t144, t162⟩
  have h163 := rSel_coe h24 (fun h => (key h).1) hx
  have h164 := rSelLog_coe h24 (fun h => (key h).2)
  rw [← e163] at h163
  rw [← e164] at h164
  unfold Net.map Net.mapLog
  rw [hH, hD, hW]
  exact ⟨h163, h164⟩

end Cert.Spline

end
-- ==== Proof.RefEq1.lean ====
/- The stages of the reference's first half are the operation groups of the stages they read. -/
module

public import proofs.«01_k».proof.Proof.RefDefs
public import proofs.«01_k».proof.Proof.Gen.ReferenceIdeal.Read

@[expose] public section

set_option maxRecDepth 16384

noncomputable section

namespace Cert.Spline

open Cert.ReferenceIdeal Cert.ReferenceIdeal.Gen Cert.ReferenceIdeal.Read Idealize.ShloMosaic

/-- Stage `v5` is `rLin1` of the stages it reads. -/
theorem e_v5 (x0 : FVec Ideal S16384x128 .f32) (x1 : FVec Ideal S64x256 .f32) (x2 : FVec Ideal S256 .f32) :
    val_main_v5 (F := Ideal) x0 x1 x2
      = rLin1 (val_main_v0 (F := Ideal) x0) x1 x2 := by
  delta rLin1 val_main_v5 val_main_v2 val_main_v4 val_main_v3
  rfl

/-- Stage `v6` is `rSilu` of the stages it reads. -/
theorem e_v6 (x0 : FVec Ideal S16384x128 .f32) (x1 : FVec Ideal S64x256 .f32) (x2 : FVec Ideal S256 .f32) :
    val_main_v6 (F := Ideal) x0 x1 x2
      = rSilu (val_main_v5 (F := Ideal) x0 x1 x2) := by
  delta rSilu val_main_v6 val_main_call0_v5 val_main_call0_v4 val_main_call0_cst_0 val_main_call0_v3 val_main_call0_v2 val_main_call0_cst val_main_call0_v1 val_main_call0_v0
  rfl

/-- Stage `v10` is `rLin2` of the stages it reads. -/
theorem e_v10 (x0 : FVec Ideal S16384x128 .f32) (x1 : FVec Ideal S64x256 .f32) (x2 : FVec Ideal S256 .f32) (x3 : FVec Ideal S256x256 .f32) (x4 : FVec Ideal S256 .f32) :
    val_main_v10 (F := Ideal) x0 x1 x2 x3 x4
      = rLin2 (val_main_v6 (F := Ideal) x0 x1 x2) x3 x4 := by
  delta rLin2 val_main_v10 val_main_v7 val_main_v9 val_main_v8
  rfl

/-- Stage `v11` is `rSilu` of the stages it reads. -/
theorem e_v11 (x0 : FVec Ideal S16384x128 .f32) (x1 : FVec Ideal S64x256 .f32) (x2 : FVec Ideal S256 .f32) (x3 : FVec Ideal S256x256 .f32) (x4 : FVec Ideal S256 .f32) :
    val_main_v11 (F := Ideal) x0 x1 x2 x3 x4
      = rSilu (val_main_v10 (F := Ideal) x0 x1 x2 x3 x4) := by
  delta rSilu val_main_v11 val_main_call1_v5 val_main_call1_v4 val_main_call1_cst_0 val_main_call1_v3 val_main_call1_v2 val_main_call1_cst val_main_call1_v1 val_main_call1_v0
  rfl

/-- Stage `v15` is `rLin3` of the stages it reads. -/
theorem e_v15 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v15 (F := Ideal) x0 x1 x2 x3 x4 x5 x6
      = rLin3 (val_main_v11 (F := Ideal) x0 x1 x2 x3 x4) x5 x6 := by
  delta rLin3 val_main_v15 val_main_v12 val_main_v14 val_main_v13
  rfl

/-- Stage `v17` is `rWid` of the stages it reads. -/
theorem e_v17 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v17 (F := Ideal) x0 x1 x2 x3 x4 x5 x6
      = rWid (val_main_v15 (F := Ideal) x0 x1 x2 x3 x4 x5 x6) := by
  delta rWid val_main_v17 val_main_v16
  rfl

/-- Stage `v18` is `rHgt` of the stages it reads. -/
theorem e_v18 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v18 (F := Ideal) x0 x1 x2 x3 x4 x5 x6
      = rHgt (val_main_v15 (F := Ideal) x0 x1 x2 x3 x4 x5 x6) := by
  delta rHgt val_main_v18 val_main_v16
  rfl

/-- Stage `v19` is `rSlp` of the stages it reads. -/
theorem e_v19 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v19 (F := Ideal) x0 x1 x2 x3 x4 x5 x6
      = rSlp (val_main_v15 (F := Ideal) x0 x1 x2 x3 x4 x5 x6) := by
  delta rSlp val_main_v19 val_main_v16
  rfl

/-- Stage `v24` is `rIn` of the stages it reads. -/
theorem e_v24 (x0 : FVec Ideal S16384x128 .f32) :
    val_main_v24 (F := Ideal) x0
      = rIn (val_main_v1 (F := Ideal) x0) := by
  delta rIn val_main_v24 val_main_v21 val_main_v20 val_main_cst val_main_v23 val_main_v22 val_main_cst_0
  rfl

/-- Stage `v26` is `rExt` of the stages it reads. -/
theorem e_v26 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v26 (F := Ideal) x0 x1 x2 x3 x4 x5 x6
      = rExt (val_main_v19 (F := Ideal) x0 x1 x2 x3 x4 x5 x6) := by
  delta rExt val_main_v26 val_main_v25 val_main_cst_1
  rfl

/-- Stage `v30` is `rTop` of the stages it reads. -/
theorem e_v30 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v30 (F := Ideal) x0 x1 x2 x3 x4 x5 x6
      = rTop (val_main_v17 (F := Ideal) x0 x1 x2 x3 x4 x5 x6) := by
  delta rTop val_main_v30 val_main_v29 val_main_cst_5 val_main_v28 val_main_cst_4
  rfl

/-- Stage `v34` is `rExp` of the stages it reads. -/
theorem e_v34 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v34 (F := Ideal) x0 x1 x2 x3 x4 x5 x6
      = rExp (val_main_v17 (F := Ideal) x0 x1 x2 x3 x4 x5 x6) (val_main_v30 (F := Ideal) x0 x1 x2 x3 x4 x5 x6) := by
  delta rExp val_main_v34 val_main_v33 val_main_v32 val_main_v31
  rfl

/-- Stage `v44` is `rSize` of the stages it reads. -/
theorem e_v44 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v44 (F := Ideal) x0 x1 x2 x3 x4 x5 x6
      = rSize (val_main_v34 (F := Ideal) x0 x1 x2 x3 x4 x5 x6) := by
  delta rSize val_main_v44 val_main_v43 val_main_v27 val_main_cst_2 val_main_cst_3 val_main_v42 val_main_v41 val_main_v40 val_main_cst_8 val_main_v39 val_main_cst_7 val_main_v38 val_main_v37 val_main_v36 val_main_v35 val_main_cst_6
  rfl

/-- Stage `v56` is `rKnot` of the stages it reads. -/
theorem e_v56 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v56 (F := Ideal) x0 x1 x2 x3 x4 x5 x6
      = rKnot (val_main_v44 (F := Ideal) x0 x1 x2 x3 x4 x5 x6) := by
  delta rKnot val_main_v56 val_main_v52 val_main_v51 val_main_cst_12 val_main_v50 val_main_cst_11 val_main_v53 val_main_v49 val_main_v47 val_main_v46 val_main_cst_9 val_main_v45 val_main_call2_call0_v0 val_main_call2_call0_cst val_main_v48 val_main_cst_10 val_main_v55 val_main_v54 val_main_cst_13
  rfl

/-- Stage `v59` is `rDiff` of the stages it reads. -/
theorem e_v59 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v59 (F := Ideal) x0 x1 x2 x3 x4 x5 x6
      = rDiff (val_main_v56 (F := Ideal) x0 x1 x2 x3 x4 x5 x6) := by
  delta rDiff val_main_v59 val_main_v57 val_main_v58
  rfl

/-- Stage `v63` is `rSlope` of the stages it reads. -/
theorem e_v63 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v63 (F := Ideal) x0 x1 x2 x3 x4 x5 x6
      = rSlope (val_main_v26 (F := Ideal) x0 x1 x2 x3 x4 x5 x6) := by
  delta rSlope val_main_v63 val_main_v62 val_main_v60 val_main_cst_14 val_main_cst_15 val_main_v61 val_main_call3_v4 val_main_call3_v3 val_main_call3_v2 val_main_call3_cst val_main_call3_v6 val_main_call3_v5 val_main_call3_v11 val_main_call3_v1 val_main_call3_v0 val_main_call3_v10 val_main_call3_v9 val_main_call3_v8 val_main_call3_v7
  rfl

/-- Stage `v67` is `rTop` of the stages it reads. -/
theorem e_v67 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v67 (F := Ideal) x0 x1 x2 x3 x4 x5 x6
      = rTop (val_main_v18 (F := Ideal) x0 x1 x2 x3 x4 x5 x6) := by
  delta rTop val_main_v67 val_main_v66 val_main_cst_19 val_main_v65 val_main_cst_18
  rfl

/-- Stage `v71` is `rExp` of the stages it reads. -/
theorem e_v71 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v71 (F := Ideal) x0 x1 x2 x3 x4 x5 x6
      = rExp (val_main_v18 (F := Ideal) x0 x1 x2 x3 x4 x5 x6) (val_main_v67 (F := Ideal) x0 x1 x2 x3 x4 x5 x6) := by
  delta rExp val_main_v71 val_main_v70 val_main_v69 val_main_v68
  rfl

/-- Stage `v81` is `rSize` of the stages it reads. -/
theorem e_v81 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v81 (F := Ideal) x0 x1 x2 x3 x4 x5 x6
      = rSize (val_main_v71 (F := Ideal) x0 x1 x2 x3 x4 x5 x6) := by
  delta rSize val_main_v81 val_main_v80 val_main_v64 val_main_cst_16 val_main_cst_17 val_main_v79 val_main_v78 val_main_v77 val_main_cst_22 val_main_v76 val_main_cst_21 val_main_v75 val_main_v74 val_main_v73 val_main_v72 val_main_cst_20
  rfl

/-- Stage `v93` is `rKnot` of the stages it reads. -/
theorem e_v93 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v93 (F := Ideal) x0 x1 x2 x3 x4 x5 x6
      = rKnot (val_main_v81 (F := Ideal) x0 x1 x2 x3 x4 x5 x6) := by
  delta rKnot val_main_v93 val_main_v89 val_main_v88 val_main_cst_26 val_main_v87 val_main_cst_25 val_main_v90 val_main_v86 val_main_v84 val_main_v83 val_main_cst_23 val_main_v82 val_main_call4_call0_v0 val_main_call4_call0_cst val_main_v85 val_main_cst_24 val_main_v92 val_main_v91 val_main_cst_27
  rfl

/-- Stage `v96` is `rDiff` of the stages it reads. -/
theorem e_v96 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v96 (F := Ideal) x0 x1 x2 x3 x4 x5 x6
      = rDiff (val_main_v93 (F := Ideal) x0 x1 x2 x3 x4 x5 x6) := by
  delta rDiff val_main_v96 val_main_v94 val_main_v95
  rfl

/-- Stage `v101` is `rEdge` of the stages it reads. -/
theorem e_v101 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v101 (F := Ideal) x0 x1 x2 x3 x4 x5 x6
      = rEdge (val_main_v56 (F := Ideal) x0 x1 x2 x3 x4 x5 x6) := by
  delta rEdge val_main_v101 val_main_v97 val_main_v100 val_main_v98 val_main_v99 val_main_cst_28
  rfl

/-- Stage `v106` is `rCount` of the stages it reads. -/
theorem e_v106 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v106 (F := Ideal) x0 x1 x2 x3 x4 x5 x6
      = rCount (val_main_v101 (F := Ideal) x0 x1 x2 x3 x4 x5 x6) (val_main_v1 (F := Ideal) x0) := by
  delta rCount val_main_v106 val_main_v105 val_main_v104 val_main_v103 val_main_v102 val_main_c
  rfl

/-- Stage `v110` is `rBin` of the stages it reads. -/
theorem e_v110 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v110 (F := Ideal) x0 x1 x2 x3 x4 x5 x6
      = rBin (val_main_v106 (F := Ideal) x0 x1 x2 x3 x4 x5 x6) := by
  delta rBin val_main_v110 val_main_call5_v4 val_main_call5_v3 val_main_c_31 val_main_call5_v2 val_main_call5_v1 val_main_call5_v0 val_main_c_30 val_main_v109 val_main_v108 val_main_v107 val_main_c_29
  rfl

/-- Stage `v112` is `rTake9` of the stages it reads. -/
theorem e_v112 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v112 (F := Ideal) x0 x1 x2 x3 x4 x5 x6
      = rTake9 (val_main_v56 (F := Ideal) x0 x1 x2 x3 x4 x5 x6) (val_main_v110 (F := Ideal) x0 x1 x2 x3 x4 x5 x6) := by
  delta rTake9 val_main_v112 val_main_v111 val_main_call6_v5 val_main_call6_v4 val_main_call6_v1 val_main_call6_v0 val_main_call6_c val_main_call6_v3 val_main_call6_v2 val_main_call6_c_0
  rfl

/-- Stage `v114` is `rTake8` of the stages it reads. -/
theorem e_v114 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v114 (F := Ideal) x0 x1 x2 x3 x4 x5 x6
      = rTake8 (val_main_v59 (F := Ideal) x0 x1 x2 x3 x4 x5 x6) (val_main_v110 (F := Ideal) x0 x1 x2 x3 x4 x5 x6) := by
  delta rTake8 val_main_v114 val_main_v113 val_main_call7_v5 val_main_call7_v4 val_main_call7_v1 val_main_call7_v0 val_main_call7_c val_main_call7_v3 val_main_call7_v2 val_main_call7_c_0
  rfl

/-- Stage `v116` is `rTake9` of the stages it reads. -/
theorem e_v116 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v116 (F := Ideal) x0 x1 x2 x3 x4 x5 x6
      = rTake9 (val_main_v93 (F := Ideal) x0 x1 x2 x3 x4 x5 x6) (val_main_v110 (F := Ideal) x0 x1 x2 x3 x4 x5 x6) := by
  delta rTake9 val_main_v116 val_main_v115 val_main_call8_v5 val_main_call8_v4 val_main_call8_v1 val_main_call8_v0 val_main_call8_c val_main_call8_v3 val_main_call8_v2 val_main_call8_c_0
  rfl

/-- Stage `v117` is `rQuot` of the stages it reads. -/
theorem e_v117 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v117 (F := Ideal) x0 x1 x2 x3 x4 x5 x6
      = rQuot (val_main_v96 (F := Ideal) x0 x1 x2 x3 x4 x5 x6) (val_main_v59 (F := Ideal) x0 x1 x2 x3 x4 x5 x6) := by
  delta rQuot val_main_v117
  rfl

/-- Stage `v119` is `rTake8` of the stages it reads. -/
theorem e_v119 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v119 (F := Ideal) x0 x1 x2 x3 x4 x5 x6
      = rTake8 (val_main_v117 (F := Ideal) x0 x1 x2 x3 x4 x5 x6) (val_main_v110 (F := Ideal) x0 x1 x2 x3 x4 x5 x6) := by
  delta rTake8 val_main_v119 val_main_v118 val_main_call9_v5 val_main_call9_v4 val_main_call9_v1 val_main_call9_v0 val_main_call9_c val_main_call9_v3 val_main_call9_v2 val_main_call9_c_0
  rfl

/-- Stage `v121` is `rTake9` of the stages it reads. -/
theorem e_v121 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v121 (F := Ideal) x0 x1 x2 x3 x4 x5 x6
      = rTake9 (val_main_v63 (F := Ideal) x0 x1 x2 x3 x4 x5 x6) (val_main_v110 (F := Ideal) x0 x1 x2 x3 x4 x5 x6) := by
  delta rTake9 val_main_v121 val_main_v120 val_main_call10_v5 val_main_call10_v4 val_main_call10_v1 val_main_call10_v0 val_main_call10_c val_main_call10_v3 val_main_call10_v2 val_main_call10_c_0
  rfl

/-- Stage `v122` is `rNext` of the stages it reads. -/
theorem e_v122 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v122 (F := Ideal) x0 x1 x2 x3 x4 x5 x6
      = rNext (val_main_v63 (F := Ideal) x0 x1 x2 x3 x4 x5 x6) := by
  delta rNext val_main_v122
  rfl

/-- Stage `v124` is `rTake8` of the stages it reads. -/
theorem e_v124 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v124 (F := Ideal) x0 x1 x2 x3 x4 x5 x6
      = rTake8 (val_main_v122 (F := Ideal) x0 x1 x2 x3 x4 x5 x6) (val_main_v110 (F := Ideal) x0 x1 x2 x3 x4 x5 x6) := by
  delta rTake8 val_main_v124 val_main_v123 val_main_call11_v5 val_main_call11_v4 val_main_call11_v1 val_main_call11_v0 val_main_call11_c val_main_call11_v3 val_main_call11_v2 val_main_call11_c_0
  rfl

/-- Stage `v126` is `rTake8` of the stages it reads. -/
theorem e_v126 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v126 (F := Ideal) x0 x1 x2 x3 x4 x5 x6
      = rTake8 (val_main_v96 (F := Ideal) x0 x1 x2 x3 x4 x5 x6) (val_main_v110 (F := Ideal) x0 x1 x2 x3 x4 x5 x6) := by
  delta rTake8 val_main_v126 val_main_v125 val_main_call12_v5 val_main_call12_v4 val_main_call12_v1 val_main_call12_v0 val_main_call12_c val_main_call12_v3 val_main_call12_v2 val_main_call12_c_0
  rfl

/-- Stage `v128` is `rTheta` of the stages it reads. -/
theorem e_v128 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v128 (F := Ideal) x0 x1 x2 x3 x4 x5 x6
      = rTheta (val_main_v1 (F := Ideal) x0) (val_main_v112 (F := Ideal) x0 x1 x2 x3 x4 x5 x6) (val_main_v114 (F := Ideal) x0 x1 x2 x3 x4 x5 x6) := by
  delta rTheta val_main_v128 val_main_v127
  rfl

/-- Stage `v131` is `rTT` of the stages it reads. -/
theorem e_v131 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v131 (F := Ideal) x0 x1 x2 x3 x4 x5 x6
      = rTT (val_main_v128 (F := Ideal) x0 x1 x2 x3 x4 x5 x6) := by
  delta rTT val_main_v131 val_main_v130 val_main_v129 val_main_cst_32
  rfl

/-- Stage `v142` is `rDen` of the stages it reads. -/
theorem e_v142 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v142 (F := Ideal) x0 x1 x2 x3 x4 x5 x6
      = rDen (val_main_v119 (F := Ideal) x0 x1 x2 x3 x4 x5 x6) (val_main_v121 (F := Ideal) x0 x1 x2 x3 x4 x5 x6) (val_main_v124 (F := Ideal) x0 x1 x2 x3 x4 x5 x6) (val_main_v131 (F := Ideal) x0 x1 x2 x3 x4 x5 x6) := by
  delta rDen val_main_v142 val_main_v141 val_main_v140 val_main_v137 val_main_v139 val_main_v138 val_main_cst_33
  rfl

/-- Stage `v144` is `rOut` of the stages it reads. -/
theorem e_v144 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v144 (F := Ideal) x0 x1 x2 x3 x4 x5 x6
      = rOut (val_main_v116 (F := Ideal) x0 x1 x2 x3 x4 x5 x6) (val_main_v126 (F := Ideal) x0 x1 x2 x3 x4 x5 x6) (val_main_v119 (F := Ideal) x0 x1 x2 x3 x4 x5 x6) (val_main_v128 (F := Ideal) x0 x1 x2 x3 x4 x5 x6) (val_main_v121 (F := Ideal) x0 x1 x2 x3 x4 x5 x6) (val_main_v131 (F := Ideal) x0 x1 x2 x3 x4 x5 x6) (val_main_v142 (F := Ideal) x0 x1 x2 x3 x4 x5 x6) := by
  delta rOut val_main_v144 val_main_v143 val_main_v136 val_main_v135 val_main_v133 val_main_v132 val_main_v134
  rfl

/-- Stage `v162` is `rLogd` of the stages it reads. -/
theorem e_v162 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v162 (F := Ideal) x0 x1 x2 x3 x4 x5 x6
      = rLogd (val_main_v119 (F := Ideal) x0 x1 x2 x3 x4 x5 x6) (val_main_v124 (F := Ideal) x0 x1 x2 x3 x4 x5 x6) (val_main_v128 (F := Ideal) x0 x1 x2 x3 x4 x5 x6) (val_main_v131 (F := Ideal) x0 x1 x2 x3 x4 x5 x6) (val_main_v121 (F := Ideal) x0 x1 x2 x3 x4 x5 x6) (val_main_v142 (F := Ideal) x0 x1 x2 x3 x4 x5 x6) := by
  delta rLogd val_main_v162 val_main_v158 val_main_v157 val_main_v145 val_main_v156 val_main_v151 val_main_v147 val_main_v146 val_main_v150 val_main_v149 val_main_v148 val_main_cst_34 val_main_v155 val_main_v154 val_main_v153 val_main_v152 val_main_cst_35 val_main_v161 val_main_v160 val_main_cst_36 val_main_v159
  rfl

/-- Stage `v163` is `rSel` of the stages it reads. -/
theorem e_v163 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v163 (F := Ideal) x0 x1 x2 x3 x4 x5 x6
      = rSel (val_main_v24 (F := Ideal) x0) (val_main_v144 (F := Ideal) x0 x1 x2 x3 x4 x5 x6) (val_main_v1 (F := Ideal) x0) := by
  delta rSel val_main_v163
  rfl

/-- Stage `v164` is `rSelLog` of the stages it reads. -/
theorem e_v164 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v164 (F := Ideal) x0 x1 x2 x3 x4 x5 x6
      = rSelLog (val_main_v24 (F := Ideal) x0) (val_main_v162 (F := Ideal) x0 x1 x2 x3 x4 x5 x6) := by
  delta rSelLog val_main_v164 val_main_call14_v1 val_main_call14_v0 val_main_cst_37
  rfl

/-- Stage `v165` is `rSum` of the stages it reads. -/
theorem e_v165 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) :
    val_main_v165 (F := Ideal) x0 x1 x2 x3 x4 x5 x6
      = rSum (val_main_v164 (F := Ideal) x0 x1 x2 x3 x4 x5 x6) := by
  delta rSum val_main_v165 val_main_cst_38
  rfl

end Cert.Spline

end
-- ==== Proof.RefEq2.lean ====
/- The stages of the reference's second half are the operation groups of the stages they read. -/
module

public import proofs.«01_k».proof.Proof.RefDefs
public import proofs.«01_k».proof.Proof.Gen.ReferenceIdeal.Read

@[expose] public section

set_option maxRecDepth 16384

noncomputable section

namespace Cert.Spline

open Cert.ReferenceIdeal Cert.ReferenceIdeal.Gen Cert.ReferenceIdeal.Read Idealize.ShloMosaic

/-- Stage `v169` is `rLin1` of the stages it reads. -/
theorem e_v169 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) :
    val_main_v169 (F := Ideal) x0 x1 x2 x3 x4 x5 x6 x7 x8
      = rLin1 (val_main_v163 (F := Ideal) x0 x1 x2 x3 x4 x5 x6) x7 x8 := by
  delta rLin1 val_main_v169 val_main_v166 val_main_v168 val_main_v167
  rfl

/-- Stage `v170` is `rSilu` of the stages it reads. -/
theorem e_v170 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) :
    val_main_v170 (F := Ideal) x0 x1 x2 x3 x4 x5 x6 x7 x8
      = rSilu (val_main_v169 (F := Ideal) x0 x1 x2 x3 x4 x5 x6 x7 x8) := by
  delta rSilu val_main_v170 val_main_call15_v5 val_main_call15_v4 val_main_call15_cst_0 val_main_call15_v3 val_main_call15_v2 val_main_call15_cst val_main_call15_v1 val_main_call15_v0
  rfl

/-- Stage `v174` is `rLin2` of the stages it reads. -/
theorem e_v174 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) :
    val_main_v174 (F := Ideal) x0 x1 x2 x3 x4 x5 x6 x7 x8 x9 x10
      = rLin2 (val_main_v170 (F := Ideal) x0 x1 x2 x3 x4 x5 x6 x7 x8) x9 x10 := by
  delta rLin2 val_main_v174 val_main_v171 val_main_v173 val_main_v172
  rfl

/-- Stage `v175` is `rSilu` of the stages it reads. -/
theorem e_v175 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) :
    val_main_v175 (F := Ideal) x0 x1 x2 x3 x4 x5 x6 x7 x8 x9 x10
      = rSilu (val_main_v174 (F := Ideal) x0 x1 x2 x3 x4 x5 x6 x7 x8 x9 x10) := by
  delta rSilu val_main_v175 val_main_call16_v5 val_main_call16_v4 val_main_call16_cst_0 val_main_call16_v3 val_main_call16_v2 val_main_call16_cst val_main_call16_v1 val_main_call16_v0
  rfl

/-- Stage `v179` is `rLin3` of the stages it reads. -/
theorem e_v179 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v179 (F := Ideal) x0 x1 x2 x3 x4 x5 x6 x7 x8 x9 x10 x11 x12
      = rLin3 (val_main_v175 (F := Ideal) x0 x1 x2 x3 x4 x5 x6 x7 x8 x9 x10) x11 x12 := by
  delta rLin3 val_main_v179 val_main_v176 val_main_v178 val_main_v177
  rfl

/-- Stage `v181` is `rWid` of the stages it reads. -/
theorem e_v181 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v181 (F := Ideal) x0 x1 x2 x3 x4 x5 x6 x7 x8 x9 x10 x11 x12
      = rWid (val_main_v179 (F := Ideal) x0 x1 x2 x3 x4 x5 x6 x7 x8 x9 x10 x11 x12) := by
  delta rWid val_main_v181 val_main_v180
  rfl

/-- Stage `v182` is `rHgt` of the stages it reads. -/
theorem e_v182 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v182 (F := Ideal) x0 x1 x2 x3 x4 x5 x6 x7 x8 x9 x10 x11 x12
      = rHgt (val_main_v179 (F := Ideal) x0 x1 x2 x3 x4 x5 x6 x7 x8 x9 x10 x11 x12) := by
  delta rHgt val_main_v182 val_main_v180
  rfl

/-- Stage `v183` is `rSlp` of the stages it reads. -/
theorem e_v183 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v183 (F := Ideal) x0 x1 x2 x3 x4 x5 x6 x7 x8 x9 x10 x11 x12
      = rSlp (val_main_v179 (F := Ideal) x0 x1 x2 x3 x4 x5 x6 x7 x8 x9 x10 x11 x12) := by
  delta rSlp val_main_v183 val_main_v180
  rfl

/-- Stage `v188` is `rIn` of the stages it reads. -/
theorem e_v188 (x0 : FVec Ideal S16384x128 .f32) :
    val_main_v188 (F := Ideal) x0
      = rIn (val_main_v0 (F := Ideal) x0) := by
  delta rIn val_main_v188 val_main_v185 val_main_v184 val_main_cst_39 val_main_v187 val_main_v186 val_main_cst_40
  rfl

/-- Stage `v190` is `rExt` of the stages it reads. -/
theorem e_v190 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v190 (F := Ideal) x0 x1 x2 x3 x4 x5 x6 x7 x8 x9 x10 x11 x12
      = rExt (val_main_v183 (F := Ideal) x0 x1 x2 x3 x4 x5 x6 x7 x8 x9 x10 x11 x12) := by
  delta rExt val_main_v190 val_main_v189 val_main_cst_41
  rfl

/-- Stage `v194` is `rTop` of the stages it reads. -/
theorem e_v194 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v194 (F := Ideal) x0 x1 x2 x3 x4 x5 x6 x7 x8 x9 x10 x11 x12
      = rTop (val_main_v181 (F := Ideal) x0 x1 x2 x3 x4 x5 x6 x7 x8 x9 x10 x11 x12) := by
  delta rTop val_main_v194 val_main_v193 val_main_cst_45 val_main_v192 val_main_cst_44
  rfl

/-- Stage `v198` is `rExp` of the stages it reads. -/
theorem e_v198 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v198 (F := Ideal) x0 x1 x2 x3 x4 x5 x6 x7 x8 x9 x10 x11 x12
      = rExp (val_main_v181 (F := Ideal) x0 x1 x2 x3 x4 x5 x6 x7 x8 x9 x10 x11 x12) (val_main_v194 (F := Ideal) x0 x1 x2 x3 x4 x5 x6 x7 x8 x9 x10 x11 x12) := by
  delta rExp val_main_v198 val_main_v197 val_main_v196 val_main_v195
  rfl

/-- Stage `v208` is `rSize` of the stages it reads. -/
theorem e_v208 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v208 (F := Ideal) x0 x1 x2 x3 x4 x5 x6 x7 x8 x9 x10 x11 x12
      = rSize (val_main_v198 (F := Ideal) x0 x1 x2 x3 x4 x5 x6 x7 x8 x9 x10 x11 x12) := by
  delta rSize val_main_v208 val_main_v207 val_main_v191 val_main_cst_42 val_main_cst_43 val_main_v206 val_main_v205 val_main_v204 val_main_cst_48 val_main_v203 val_main_cst_47 val_main_v202 val_main_v201 val_main_v200 val_main_v199 val_main_cst_46
  rfl

/-- Stage `v220` is `rKnot` of the stages it reads. -/
theorem e_v220 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v220 (F := Ideal) x0 x1 x2 x3 x4 x5 x6 x7 x8 x9 x10 x11 x12
      = rKnot (val_main_v208 (F := Ideal) x0 x1 x2 x3 x4 x5 x6 x7 x8 x9 x10 x11 x12) := by
  delta rKnot val_main_v220 val_main_v216 val_main_v215 val_main_cst_52 val_main_v214 val_main_cst_51 val_main_v217 val_main_v213 val_main_v211 val_main_v210 val_main_cst_49 val_main_v209 val_main_call17_call0_v0 val_main_call17_call0_cst val_main_v212 val_main_cst_50 val_main_v219 val_main_v218 val_main_cst_53
  rfl

/-- Stage `v223` is `rDiff` of the stages it reads. -/
theorem e_v223 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v223 (F := Ideal) x0 x1 x2 x3 x4 x5 x6 x7 x8 x9 x10 x11 x12
      = rDiff (val_main_v220 (F := Ideal) x0 x1 x2 x3 x4 x5 x6 x7 x8 x9 x10 x11 x12) := by
  delta rDiff val_main_v223 val_main_v221 val_main_v222
  rfl

/-- Stage `v227` is `rSlope` of the stages it reads. -/
theorem e_v227 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v227 (F := Ideal) x0 x1 x2 x3 x4 x5 x6 x7 x8 x9 x10 x11 x12
      = rSlope (val_main_v190 (F := Ideal) x0 x1 x2 x3 x4 x5 x6 x7 x8 x9 x10 x11 x12) := by
  delta rSlope val_main_v227 val_main_v226 val_main_v224 val_main_cst_54 val_main_cst_55 val_main_v225 val_main_call18_v4 val_main_call18_v3 val_main_call18_v2 val_main_call18_cst val_main_call18_v6 val_main_call18_v5 val_main_call18_v11 val_main_call18_v1 val_main_call18_v0 val_main_call18_v10 val_main_call18_v9 val_main_call18_v8 val_main_call18_v7
  rfl

/-- Stage `v231` is `rTop` of the stages it reads. -/
theorem e_v231 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v231 (F := Ideal) x0 x1 x2 x3 x4 x5 x6 x7 x8 x9 x10 x11 x12
      = rTop (val_main_v182 (F := Ideal) x0 x1 x2 x3 x4 x5 x6 x7 x8 x9 x10 x11 x12) := by
  delta rTop val_main_v231 val_main_v230 val_main_cst_59 val_main_v229 val_main_cst_58
  rfl

/-- Stage `v235` is `rExp` of the stages it reads. -/
theorem e_v235 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v235 (F := Ideal) x0 x1 x2 x3 x4 x5 x6 x7 x8 x9 x10 x11 x12
      = rExp (val_main_v182 (F := Ideal) x0 x1 x2 x3 x4 x5 x6 x7 x8 x9 x10 x11 x12) (val_main_v231 (F := Ideal) x0 x1 x2 x3 x4 x5 x6 x7 x8 x9 x10 x11 x12) := by
  delta rExp val_main_v235 val_main_v234 val_main_v233 val_main_v232
  rfl

/-- Stage `v245` is `rSize` of the stages it reads. -/
theorem e_v245 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v245 (F := Ideal) x0 x1 x2 x3 x4 x5 x6 x7 x8 x9 x10 x11 x12
      = rSize (val_main_v235 (F := Ideal) x0 x1 x2 x3 x4 x5 x6 x7 x8 x9 x10 x11 x12) := by
  delta rSize val_main_v245 val_main_v244 val_main_v228 val_main_cst_56 val_main_cst_57 val_main_v243 val_main_v242 val_main_v241 val_main_cst_62 val_main_v240 val_main_cst_61 val_main_v239 val_main_v238 val_main_v237 val_main_v236 val_main_cst_60
  rfl

/-- Stage `v257` is `rKnot` of the stages it reads. -/
theorem e_v257 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v257 (F := Ideal) x0 x1 x2 x3 x4 x5 x6 x7 x8 x9 x10 x11 x12
      = rKnot (val_main_v245 (F := Ideal) x0 x1 x2 x3 x4 x5 x6 x7 x8 x9 x10 x11 x12) := by
  delta rKnot val_main_v257 val_main_v253 val_main_v252 val_main_cst_66 val_main_v251 val_main_cst_65 val_main_v254 val_main_v250 val_main_v248 val_main_v247 val_main_cst_63 val_main_v246 val_main_call19_call0_v0 val_main_call19_call0_cst val_main_v249 val_main_cst_64 val_main_v256 val_main_v255 val_main_cst_67
  rfl

/-- Stage `v260` is `rDiff` of the stages it reads. -/
theorem e_v260 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v260 (F := Ideal) x0 x1 x2 x3 x4 x5 x6 x7 x8 x9 x10 x11 x12
      = rDiff (val_main_v257 (F := Ideal) x0 x1 x2 x3 x4 x5 x6 x7 x8 x9 x10 x11 x12) := by
  delta rDiff val_main_v260 val_main_v258 val_main_v259
  rfl

/-- Stage `v265` is `rEdge` of the stages it reads. -/
theorem e_v265 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v265 (F := Ideal) x0 x1 x2 x3 x4 x5 x6 x7 x8 x9 x10 x11 x12
      = rEdge (val_main_v220 (F := Ideal) x0 x1 x2 x3 x4 x5 x6 x7 x8 x9 x10 x11 x12) := by
  delta rEdge val_main_v265 val_main_v261 val_main_v264 val_main_v262 val_main_v263 val_main_cst_68
  rfl

/-- Stage `v270` is `rCount` of the stages it reads. -/
theorem e_v270 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v270 (F := Ideal) x0 x1 x2 x3 x4 x5 x6 x7 x8 x9 x10 x11 x12
      = rCount (val_main_v265 (F := Ideal) x0 x1 x2 x3 x4 x5 x6 x7 x8 x9 x10 x11 x12) (val_main_v0 (F := Ideal) x0) := by
  delta rCount val_main_v270 val_main_v269 val_main_v268 val_main_v267 val_main_v266 val_main_c_69
  rfl

/-- Stage `v274` is `rBin` of the stages it reads. -/
theorem e_v274 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v274 (F := Ideal) x0 x1 x2 x3 x4 x5 x6 x7 x8 x9 x10 x11 x12
      = rBin (val_main_v270 (F := Ideal) x0 x1 x2 x3 x4 x5 x6 x7 x8 x9 x10 x11 x12) := by
  delta rBin val_main_v274 val_main_call20_v4 val_main_call20_v3 val_main_c_72 val_main_call20_v2 val_main_call20_v1 val_main_call20_v0 val_main_c_71 val_main_v273 val_main_v272 val_main_v271 val_main_c_70
  rfl

/-- Stage `v276` is `rTake9` of the stages it reads. -/
theorem e_v276 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v276 (F := Ideal) x0 x1 x2 x3 x4 x5 x6 x7 x8 x9 x10 x11 x12
      = rTake9 (val_main_v220 (F := Ideal) x0 x1 x2 x3 x4 x5 x6 x7 x8 x9 x10 x11 x12) (val_main_v274 (F := Ideal) x0 x1 x2 x3 x4 x5 x6 x7 x8 x9 x10 x11 x12) := by
  delta rTake9 val_main_v276 val_main_v275 val_main_call21_v5 val_main_call21_v4 val_main_call21_v1 val_main_call21_v0 val_main_call21_c val_main_call21_v3 val_main_call21_v2 val_main_call21_c_0
  rfl

/-- Stage `v278` is `rTake8` of the stages it reads. -/
theorem e_v278 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v278 (F := Ideal) x0 x1 x2 x3 x4 x5 x6 x7 x8 x9 x10 x11 x12
      = rTake8 (val_main_v223 (F := Ideal) x0 x1 x2 x3 x4 x5 x6 x7 x8 x9 x10 x11 x12) (val_main_v274 (F := Ideal) x0 x1 x2 x3 x4 x5 x6 x7 x8 x9 x10 x11 x12) := by
  delta rTake8 val_main_v278 val_main_v277 val_main_call22_v5 val_main_call22_v4 val_main_call22_v1 val_main_call22_v0 val_main_call22_c val_main_call22_v3 val_main_call22_v2 val_main_call22_c_0
  rfl

/-- Stage `v280` is `rTake9` of the stages it reads. -/
theorem e_v280 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v280 (F := Ideal) x0 x1 x2 x3 x4 x5 x6 x7 x8 x9 x10 x11 x12
      = rTake9 (val_main_v257 (F := Ideal) x0 x1 x2 x3 x4 x5 x6 x7 x8 x9 x10 x11 x12) (val_main_v274 (F := Ideal) x0 x1 x2 x3 x4 x5 x6 x7 x8 x9 x10 x11 x12) := by
  delta rTake9 val_main_v280 val_main_v279 val_main_call23_v5 val_main_call23_v4 val_main_call23_v1 val_main_call23_v0 val_main_call23_c val_main_call23_v3 val_main_call23_v2 val_main_call23_c_0
  rfl

/-- Stage `v281` is `rQuot` of the stages it reads. -/
theorem e_v281 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v281 (F := Ideal) x0 x1 x2 x3 x4 x5 x6 x7 x8 x9 x10 x11 x12
      = rQuot (val_main_v260 (F := Ideal) x0 x1 x2 x3 x4 x5 x6 x7 x8 x9 x10 x11 x12) (val_main_v223 (F := Ideal) x0 x1 x2 x3 x4 x5 x6 x7 x8 x9 x10 x11 x12) := by
  delta rQuot val_main_v281
  rfl

/-- Stage `v283` is `rTake8` of the stages it reads. -/
theorem e_v283 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v283 (F := Ideal) x0 x1 x2 x3 x4 x5 x6 x7 x8 x9 x10 x11 x12
      = rTake8 (val_main_v281 (F := Ideal) x0 x1 x2 x3 x4 x5 x6 x7 x8 x9 x10 x11 x12) (val_main_v274 (F := Ideal) x0 x1 x2 x3 x4 x5 x6 x7 x8 x9 x10 x11 x12) := by
  delta rTake8 val_main_v283 val_main_v282 val_main_call24_v5 val_main_call24_v4 val_main_call24_v1 val_main_call24_v0 val_main_call24_c val_main_call24_v3 val_main_call24_v2 val_main_call24_c_0
  rfl

/-- Stage `v285` is `rTake9` of the stages it reads. -/
theorem e_v285 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v285 (F := Ideal) x0 x1 x2 x3 x4 x5 x6 x7 x8 x9 x10 x11 x12
      = rTake9 (val_main_v227 (F := Ideal) x0 x1 x2 x3 x4 x5 x6 x7 x8 x9 x10 x11 x12) (val_main_v274 (F := Ideal) x0 x1 x2 x3 x4 x5 x6 x7 x8 x9 x10 x11 x12) := by
  delta rTake9 val_main_v285 val_main_v284 val_main_call25_v5 val_main_call25_v4 val_main_call25_v1 val_main_call25_v0 val_main_call25_c val_main_call25_v3 val_main_call25_v2 val_main_call25_c_0
  rfl

/-- Stage `v286` is `rNext` of the stages it reads. -/
theorem e_v286 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v286 (F := Ideal) x0 x1 x2 x3 x4 x5 x6 x7 x8 x9 x10 x11 x12
      = rNext (val_main_v227 (F := Ideal) x0 x1 x2 x3 x4 x5 x6 x7 x8 x9 x10 x11 x12) := by
  delta rNext val_main_v286
  rfl

/-- Stage `v288` is `rTake8` of the stages it reads. -/
theorem e_v288 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v288 (F := Ideal) x0 x1 x2 x3 x4 x5 x6 x7 x8 x9 x10 x11 x12
      = rTake8 (val_main_v286 (F := Ideal) x0 x1 x2 x3 x4 x5 x6 x7 x8 x9 x10 x11 x12) (val_main_v274 (F := Ideal) x0 x1 x2 x3 x4 x5 x6 x7 x8 x9 x10 x11 x12) := by
  delta rTake8 val_main_v288 val_main_v287 val_main_call26_v5 val_main_call26_v4 val_main_call26_v1 val_main_call26_v0 val_main_call26_c val_main_call26_v3 val_main_call26_v2 val_main_call26_c_0
  rfl

/-- Stage `v290` is `rTake8` of the stages it reads. -/
theorem e_v290 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v290 (F := Ideal) x0 x1 x2 x3 x4 x5 x6 x7 x8 x9 x10 x11 x12
      = rTake8 (val_main_v260 (F := Ideal) x0 x1 x2 x3 x4 x5 x6 x7 x8 x9 x10 x11 x12) (val_main_v274 (F := Ideal) x0 x1 x2 x3 x4 x5 x6 x7 x8 x9 x10 x11 x12) := by
  delta rTake8 val_main_v290 val_main_v289 val_main_call27_v5 val_main_call27_v4 val_main_call27_v1 val_main_call27_v0 val_main_call27_c val_main_call27_v3 val_main_call27_v2 val_main_call27_c_0
  rfl

/-- Stage `v292` is `rTheta` of the stages it reads. -/
theorem e_v292 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v292 (F := Ideal) x0 x1 x2 x3 x4 x5 x6 x7 x8 x9 x10 x11 x12
      = rTheta (val_main_v0 (F := Ideal) x0) (val_main_v276 (F := Ideal) x0 x1 x2 x3 x4 x5 x6 x7 x8 x9 x10 x11 x12) (val_main_v278 (F := Ideal) x0 x1 x2 x3 x4 x5 x6 x7 x8 x9 x10 x11 x12) := by
  delta rTheta val_main_v292 val_main_v291
  rfl

/-- Stage `v295` is `rTT` of the stages it reads. -/
theorem e_v295 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v295 (F := Ideal) x0 x1 x2 x3 x4 x5 x6 x7 x8 x9 x10 x11 x12
      = rTT (val_main_v292 (F := Ideal) x0 x1 x2 x3 x4 x5 x6 x7 x8 x9 x10 x11 x12) := by
  delta rTT val_main_v295 val_main_v294 val_main_v293 val_main_cst_73
  rfl

/-- Stage `v306` is `rDen` of the stages it reads. -/
theorem e_v306 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v306 (F := Ideal) x0 x1 x2 x3 x4 x5 x6 x7 x8 x9 x10 x11 x12
      = rDen (val_main_v283 (F := Ideal) x0 x1 x2 x3 x4 x5 x6 x7 x8 x9 x10 x11 x12) (val_main_v285 (F := Ideal) x0 x1 x2 x3 x4 x5 x6 x7 x8 x9 x10 x11 x12) (val_main_v288 (F := Ideal) x0 x1 x2 x3 x4 x5 x6 x7 x8 x9 x10 x11 x12) (val_main_v295 (F := Ideal) x0 x1 x2 x3 x4 x5 x6 x7 x8 x9 x10 x11 x12) := by
  delta rDen val_main_v306 val_main_v305 val_main_v304 val_main_v301 val_main_v303 val_main_v302 val_main_cst_74
  rfl

/-- Stage `v308` is `rOut` of the stages it reads. -/
theorem e_v308 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v308 (F := Ideal) x0 x1 x2 x3 x4 x5 x6 x7 x8 x9 x10 x11 x12
      = rOut (val_main_v280 (F := Ideal) x0 x1 x2 x3 x4 x5 x6 x7 x8 x9 x10 x11 x12) (val_main_v290 (F := Ideal) x0 x1 x2 x3 x4 x5 x6 x7 x8 x9 x10 x11 x12) (val_main_v283 (F := Ideal) x0 x1 x2 x3 x4 x5 x6 x7 x8 x9 x10 x11 x12) (val_main_v292 (F := Ideal) x0 x1 x2 x3 x4 x5 x6 x7 x8 x9 x10 x11 x12) (val_main_v285 (F := Ideal) x0 x1 x2 x3 x4 x5 x6 x7 x8 x9 x10 x11 x12) (val_main_v295 (F := Ideal) x0 x1 x2 x3 x4 x5 x6 x7 x8 x9 x10 x11 x12) (val_main_v306 (F := Ideal) x0 x1 x2 x3 x4 x5 x6 x7 x8 x9 x10 x11 x12) := by
  delta rOut val_main_v308 val_main_v307 val_main_v300 val_main_v299 val_main_v297 val_main_v296 val_main_v298
  rfl

/-- Stage `v326` is `rLogd` of the stages it reads. -/
theorem e_v326 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v326 (F := Ideal) x0 x1 x2 x3 x4 x5 x6 x7 x8 x9 x10 x11 x12
      = rLogd (val_main_v283 (F := Ideal) x0 x1 x2 x3 x4 x5 x6 x7 x8 x9 x10 x11 x12) (val_main_v288 (F := Ideal) x0 x1 x2 x3 x4 x5 x6 x7 x8 x9 x10 x11 x12) (val_main_v292 (F := Ideal) x0 x1 x2 x3 x4 x5 x6 x7 x8 x9 x10 x11 x12) (val_main_v295 (F := Ideal) x0 x1 x2 x3 x4 x5 x6 x7 x8 x9 x10 x11 x12) (val_main_v285 (F := Ideal) x0 x1 x2 x3 x4 x5 x6 x7 x8 x9 x10 x11 x12) (val_main_v306 (F := Ideal) x0 x1 x2 x3 x4 x5 x6 x7 x8 x9 x10 x11 x12) := by
  delta rLogd val_main_v326 val_main_v322 val_main_v321 val_main_v309 val_main_v320 val_main_v315 val_main_v311 val_main_v310 val_main_v314 val_main_v313 val_main_v312 val_main_cst_75 val_main_v319 val_main_v318 val_main_v317 val_main_v316 val_main_cst_76 val_main_v325 val_main_v324 val_main_cst_77 val_main_v323
  rfl

/-- Stage `v327` is `rSel` of the stages it reads. -/
theorem e_v327 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v327 (F := Ideal) x0 x1 x2 x3 x4 x5 x6 x7 x8 x9 x10 x11 x12
      = rSel (val_main_v188 (F := Ideal) x0) (val_main_v308 (F := Ideal) x0 x1 x2 x3 x4 x5 x6 x7 x8 x9 x10 x11 x12) (val_main_v0 (F := Ideal) x0) := by
  delta rSel val_main_v327
  rfl

/-- Stage `v328` is `rSelLog` of the stages it reads. -/
theorem e_v328 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v328 (F := Ideal) x0 x1 x2 x3 x4 x5 x6 x7 x8 x9 x10 x11 x12
      = rSelLog (val_main_v188 (F := Ideal) x0) (val_main_v326 (F := Ideal) x0 x1 x2 x3 x4 x5 x6 x7 x8 x9 x10 x11 x12) := by
  delta rSelLog val_main_v328 val_main_call29_v1 val_main_call29_v0 val_main_cst_78
  rfl

/-- Stage `v329` is `rSum` of the stages it reads. -/
theorem e_v329 (x0 : FVec Ideal S16384x128 .f32) (x1 : FVec Ideal S64x256 .f32) (x2 : FVec Ideal S256 .f32) (x3 : FVec Ideal S256x256 .f32) (x4 : FVec Ideal S256 .f32) (x5 : FVec Ideal S256x1472 .f32) (x6 : FVec Ideal S1472 .f32) (x7 : FVec Ideal S64x256 .f32) (x8 : FVec Ideal S256 .f32) (x9 : FVec Ideal S256x256 .f32) (x10 : FVec Ideal S256 .f32) (x11 : FVec Ideal S256x1472 .f32) (x12 : FVec Ideal S1472 .f32) :
    val_main_v329 (F := Ideal) x0 x1 x2 x3 x4 x5 x6 x7 x8 x9 x10 x11 x12
      = rSum (val_main_v328 (F := Ideal) x0 x1 x2 x3 x4 x5 x6 x7 x8 x9 x10 x11 x12) := by
  delta rSum val_main_v329 val_main_cst_79
  rfl

end Cert.Spline

end
-- ==== Proof.RefVal.lean ====
/- The reference's two results at an index, when the arguments are real. -/
module

public import proofs.«01_k».proof.Proof.RefMap
public import proofs.«01_k».proof.Proof.RefEq1
public import proofs.«01_k».proof.Proof.RefEq2
public import proofs.«01_k».proof.Proof.KVal
public import Idealize.ShloMosaic.Lib.MatmulPlain
public import Idealize.ShloMosaic.Lib.Pointwise

@[expose] public section

set_option maxRecDepth 16384

noncomputable section

namespace Cert.Spline

open Cert.ReferenceIdeal Cert.ReferenceIdeal.Gen Cert.ReferenceIdeal.Read Idealize.ShloMosaic

variable {f g : Net} {x : Fin 16384 → Fin 128 → ℝ}
  {x0 : FVec Ideal S16384x128 .f32} {x1 : FVec Ideal S64x256 .f32} {x2 : FVec Ideal S256 .f32} {x3 : FVec Ideal S256x256 .f32} {x4 : FVec Ideal S256 .f32} {x5 : FVec Ideal S256x1472 .f32} {x6 : FVec Ideal S1472 .f32}
  {x7 : FVec Ideal S64x256 .f32} {x8 : FVec Ideal S256 .f32} {x9 : FVec Ideal S256x256 .f32} {x10 : FVec Ideal S256 .f32} {x11 : FVec Ideal S256x1472 .f32} {x12 : FVec Ideal S1472 .f32}

/-- The lower half of a row. -/
theorem lo_coe (hx : ∀ r q, x0 (ix2 r q) = (x r q : EReal)) (r : Fin 16384) (j : Fin 64) :
    val_main_v0 (F := Ideal) x0 (ix2 r j) = (loOf x r j : EReal) := by
  unfold val_main_v0
  pointwise
  rw [hx]
  rfl

/-- The upper half of a row. -/
theorem up_coe (hx : ∀ r q, x0 (ix2 r q) = (x r q : EReal)) (r : Fin 16384) (j : Fin 64) :
    val_main_v1 (F := Ideal) x0 (ix2 r j) = (upOf x r j : EReal) := by
  unfold val_main_v1
  pointwise
  rw [hx]
  rfl

/-- The mapped upper half and the logarithms of its slopes. -/
theorem upper_coe (Af : ArgNet f x1 x2 x3 x4 x5 x6) (hx : ∀ r q, x0 (ix2 r q) = (x r q : EReal)) (r : Fin 16384) (j : Fin 64) :
    val_main_v163 (F := Ideal) x0 x1 x2 x3 x4 x5 x6 (ix2 r j) = (upper f (loOf x r) (upOf x r) j : EReal)
      ∧ val_main_v164 (F := Ideal) x0 x1 x2 x3 x4 x5 x6 (ix2 r j) = (f.mapLog (loOf x r) j (upOf x r j) : EReal) := by
  have h6 : ∀ q : Fin 256, val_main_v6 (F := Ideal) x0 x1 x2 (ix2 r q) = (f.hid1 (loOf x r) q : EReal) := by
    rw [e_v6, e_v5]
    exact rHid1_coe (lo_coe hx r) Af.w1 Af.b1
  have h11 : ∀ q : Fin 256, val_main_v11 (F := Ideal) x0 x1 x2 x3 x4 (ix2 r q) = (f.hid2 (loOf x r) q : EReal) := by
    rw [e_v11, e_v10]
    exact rHid2_coe h6 Af.w2 Af.b2
  have h15 : ∀ q : Fin 1472, val_main_v15 (F := Ideal) x0 x1 x2 x3 x4 x5 x6 (ix2 r q) = (f.out (loOf x r) q : EReal) := by
    rw [e_v15]
    exact rLin3_coe h11 Af.w3 Af.b3
  exact stage_coe
    (e_v17 x0 x1 x2 x3 x4 x5 x6) (e_v18 x0 x1 x2 x3 x4 x5 x6) (e_v19 x0 x1 x2 x3 x4 x5 x6) (e_v24 x0) (e_v26 x0 x1 x2 x3 x4 x5 x6)
    (e_v30 x0 x1 x2 x3 x4 x5 x6) (e_v34 x0 x1 x2 x3 x4 x5 x6) (e_v44 x0 x1 x2 x3 x4 x5 x6) (e_v56 x0 x1 x2 x3 x4 x5 x6)
    (e_v59 x0 x1 x2 x3 x4 x5 x6) (e_v63 x0 x1 x2 x3 x4 x5 x6) (e_v67 x0 x1 x2 x3 x4 x5 x6) (e_v71 x0 x1 x2 x3 x4 x5 x6)
    (e_v81 x0 x1 x2 x3 x4 x5 x6) (e_v93 x0 x1 x2 x3 x4 x5 x6) (e_v96 x0 x1 x2 x3 x4 x5 x6) (e_v101 x0 x1 x2 x3 x4 x5 x6)
    (e_v106 x0 x1 x2 x3 x4 x5 x6) (e_v110 x0 x1 x2 x3 x4 x5 x6) (e_v112 x0 x1 x2 x3 x4 x5 x6) (e_v114 x0 x1 x2 x3 x4 x5 x6)
    (e_v116 x0 x1 x2 x3 x4 x5 x6) (e_v117 x0 x1 x2 x3 x4 x5 x6) (e_v119 x0 x1 x2 x3 x4 x5 x6) (e_v121 x0 x1 x2 x3 x4 x5 x6)
    (e_v122 x0 x1 x2 x3 x4 x5 x6) (e_v124 x0 x1 x2 x3 x4 x5 x6) (e_v126 x0 x1 x2 x3 x4 x5 x6) (e_v128 x0 x1 x2 x3 x4 x5 x6)
    (e_v131 x0 x1 x2 x3 x4 x5 x6) (e_v142 x0 x1 x2 x3 x4 x5 x6) (e_v144 x0 x1 x2 x3 x4 x5 x6) (e_v162 x0 x1 x2 x3 x4 x5 x6)
    (e_v163 x0 x1 x2 x3 x4 x5 x6) (e_v164 x0 x1 x2 x3 x4 x5 x6)
    h15 (up_coe hx r j)

/-- The mapped lower half and the logarithms of its slopes. -/
theorem lower_coe (Af : ArgNet f x1 x2 x3 x4 x5 x6) (Ag : ArgNet g x7 x8 x9 x10 x11 x12)
    (hx : ∀ r q, x0 (ix2 r q) = (x r q : EReal)) (r : Fin 16384) (j : Fin 64) :
    val_main_v327 (F := Ideal) x0 x1 x2 x3 x4 x5 x6 x7 x8 x9 x10 x11 x12 (ix2 r j) = (lower f g (loOf x r) (upOf x r) j : EReal)
      ∧ val_main_v328 (F := Ideal) x0 x1 x2 x3 x4 x5 x6 x7 x8 x9 x10 x11 x12 (ix2 r j)
        = (g.mapLog (upper f (loOf x r) (upOf x r)) j (loOf x r j) : EReal) := by
  have h6 : ∀ q : Fin 256, val_main_v170 (F := Ideal) x0 x1 x2 x3 x4 x5 x6 x7 x8 (ix2 r q) = (g.hid1 (upper f (loOf x r) (upOf x r)) q : EReal) := by
    rw [e_v170, e_v169]
    exact rHid1_coe (fun p => (upper_coe Af hx r p).1) Ag.w1 Ag.b1
  have h11 : ∀ q : Fin 256, val_main_v175 (F := Ideal) x0 x1 x2 x3 x4 x5 x6 x7 x8 x9 x10 (ix2 r q) = (g.hid2 (upper f (loOf x r) (upOf x r)) q : EReal) := by
    rw [e_v175, e_v174]
    exact rHid2_coe h6 Ag.w2 Ag.b2
  have h15 : ∀ q : Fin 1472, val_main_v179 (F := Ideal) x0 x1 x2 x3 x4 x5 x6 x7 x8 x9 x10 x11 x12 (ix2 r q) = (g.out (upper f (loOf x r) (upOf x r)) q : EReal) := by
    rw [e_v179]
    exact rLin3_coe h11 Ag.w3 Ag.b3
  exact stage_coe
    (e_v181 x0 x1 x2 x3 x4 x5 x6 x7 x8 x9 x10 x11 x12) (e_v182 x0 x1 x2 x3 x4 x5 x6 x7 x8 x9 x10 x11 x12)
    (e_v183 x0 x1 x2 x3 x4 x5 x6 x7 x8 x9 x10 x11 x12) (e_v188 x0) (e_v190 x0 x1 x2 x3 x4 x5 x6 x7 x8 x9 x10 x11 x12)
    (e_v194 x0 x1 x2 x3 x4 x5 x6 x7 x8 x9 x10 x11 x12) (e_v198 x0 x1 x2 x3 x4 x5 x6 x7 x8 x9 x10 x11 x12)
    (e_v208 x0 x1 x2 x3 x4 x5 x6 x7 x8 x9 x10 x11 x12) (e_v220 x0 x1 x2 x3 x4 x5 x6 x7 x8 x9 x10 x11 x12)
    (e_v223 x0 x1 x2 x3 x4 x5 x6 x7 x8 x9 x10 x11 x12) (e_v227 x0 x1 x2 x3 x4 x5 x6 x7 x8 x9 x10 x11 x12)
    (e_v231 x0 x1 x2 x3 x4 x5 x6 x7 x8 x9 x10 x11 x12) (e_v235 x0 x1 x2 x3 x4 x5 x6 x7 x8 x9 x10 x11 x12)
    (e_v245 x0 x1 x2 x3 x4 x5 x6 x7 x8 x9 x10 x11 x12) (e_v257 x0 x1 x2 x3 x4 x5 x6 x7 x8 x9 x10 x11 x12)
    (e_v260 x0 x1 x2 x3 x4 x5 x6 x7 x8 x9 x10 x11 x12) (e_v265 x0 x1 x2 x3 x4 x5 x6 x7 x8 x9 x10 x11 x12)
    (e_v270 x0 x1 x2 x3 x4 x5 x6 x7 x8 x9 x10 x11 x12) (e_v274 x0 x1 x2 x3 x4 x5 x6 x7 x8 x9 x10 x11 x12)
    (e_v276 x0 x1 x2 x3 x4 x5 x6 x7 x8 x9 x10 x11 x12) (e_v278 x0 x1 x2 x3 x4 x5 x6 x7 x8 x9 x10 x11 x12)
    (e_v280 x0 x1 x2 x3 x4 x5 x6 x7 x8 x9 x10 x11 x12) (e_v281 x0 x1 x2 x3 x4 x5 x6 x7 x8 x9 x10 x11 x12)
    (e_v283 x0 x1 x2 x3 x4 x5 x6 x7 x8 x9 x10 x11 x12) (e_v285 x0 x1 x2 x3 x4 x5 x6 x7 x8 x9 x10 x11 x12)
    (e_v286 x0 x1 x2 x3 x4 x5 x6 x7 x8 x9 x10 x11 x12) (e_v288 x0 x1 x2 x3 x4 x5 x6 x7 x8 x9 x10 x11 x12)
    (e_v290 x0 x1 x2 x3 x4 x5 x6 x7 x8 x9 x10 x11 x12) (e_v292 x0 x1 x2 x3 x4 x5 x6 x7 x8 x9 x10 x11 x12)
    (e_v295 x0 x1 x2 x3 x4 x5 x6 x7 x8 x9 x10 x11 x12) (e_v306 x0 x1 x2 x3 x4 x5 x6 x7 x8 x9 x10 x11 x12)
    (e_v308 x0 x1 x2 x3 x4 x5 x6 x7 x8 x9 x10 x11 x12) (e_v326 x0 x1 x2 x3 x4 x5 x6 x7 x8 x9 x10 x11 x12)
    (e_v327 x0 x1 x2 x3 x4 x5 x6 x7 x8 x9 x10 x11 x12) (e_v328 x0 x1 x2 x3 x4 x5 x6 x7 x8 x9 x10 x11 x12)
    h15 (lo_coe hx r j)

/-- The first result. -/
theorem val_y (Af : ArgNet f x1 x2 x3 x4 x5 x6) (Ag : ArgNet g x7 x8 x9 x10 x11 x12)
    (hx : ∀ r q, x0 (ix2 r q) = (x r q : EReal)) (r : Fin 16384) (q : Fin 128) :
    val_main_v331 (F := Ideal) x0 x1 x2 x3 x4 x5 x6 x7 x8 x9 x10 x11 x12 (ix2 r q) = (yOf f g x r q : EReal) := by
  unfold val_main_v331
  have hl := fun j => (lower_coe Af Ag hx r j).1
  have hu := fun j => (upper_coe Af hx r j).1
  generalize val_main_v327 (F := Ideal) x0 x1 x2 x3 x4 x5 x6 x7 x8 x9 x10 x11 x12 = a at hl ⊢
  generalize val_main_v163 (F := Ideal) x0 x1 x2 x3 x4 x5 x6 = b at hu ⊢
  pointwise
  unfold yOf
  split
  · next h =>
    exact hl ⟨q.val, h⟩
  · next h =>
    exact hu ⟨q.val - 64, by have := q.isLt; omega⟩

/-- The second result. -/
theorem val_ld (Af : ArgNet f x1 x2 x3 x4 x5 x6) (Ag : ArgNet g x7 x8 x9 x10 x11 x12)
    (hx : ∀ r q, x0 (ix2 r q) = (x r q : EReal)) (z : Fin 1) (r : Fin 16384) :
    val_main_v332 (F := Ideal) x0 x1 x2 x3 x4 x5 x6 x7 x8 x9 x10 x11 x12 (ix2 z r) = (ldOf f g x r : EReal) := by
  have h1 : val_main_v165 (F := Ideal) x0 x1 x2 x3 x4 x5 x6 (ix1 r) = ((∑ j, f.mapLog (loOf x r) j (upOf x r j) : ℝ) : EReal) := by
    rw [e_v165]
    exact rSum_coe fun j => (upper_coe Af hx r j).2
  have h2 : val_main_v329 (F := Ideal) x0 x1 x2 x3 x4 x5 x6 x7 x8 x9 x10 x11 x12 (ix1 r) = ((∑ j, g.mapLog (upper f (loOf x r) (upOf x r)) j (loOf x r j) : ℝ) : EReal) := by
    rw [e_v329]
    exact rSum_coe fun j => (lower_coe Af Ag hx r j).2
  unfold val_main_v332 val_main_v330
  generalize val_main_v165 (F := Ideal) x0 x1 x2 x3 x4 x5 x6 = a at h1 ⊢
  generalize val_main_v329 (F := Ideal) x0 x1 x2 x3 x4 x5 x6 x7 x8 x9 x10 x11 x12 = b at h2 ⊢
  obtain rfl : z = 0 := Subsingleton.elim _ _
  pointwise
  rw [h1, h2, ← EReal.coe_add]
  rfl

end Cert.Spline

end
-- ==== Proof.RefRun.lean ====
/- The reference's run, when the arguments are real. -/
module

public import proofs.«01_k».proof.Proof.RefVal
public import proofs.«01_k».proof.Proof.Gen.ReferenceIdeal.Run
public import proofs.«01_k».proof.Proof.Gen.ReferenceIdeal.Read

@[expose] public section

set_option maxRecDepth 16384

noncomputable section

namespace Cert.Spline

open Cert.ReferenceIdeal Cert.ReferenceIdeal.Gen Idealize.ShloMosaic Idealize.ShloMosaic.TcCoe Idealize.SL.Sem

/-- The first result as a whole array. -/
theorem val_y_eq {f g : Net} {x : Fin 16384 → Fin 128 → ℝ}
    {x0 : FVec Ideal S16384x128 .f32} {x1 : FVec Ideal S64x256 .f32} {x2 : FVec Ideal S256 .f32} {x3 : FVec Ideal S256x256 .f32}
    {x4 : FVec Ideal S256 .f32} {x5 : FVec Ideal S256x1472 .f32} {x6 : FVec Ideal S1472 .f32}
    {x7 : FVec Ideal S64x256 .f32} {x8 : FVec Ideal S256 .f32} {x9 : FVec Ideal S256x256 .f32}
    {x10 : FVec Ideal S256 .f32} {x11 : FVec Ideal S256x1472 .f32} {x12 : FVec Ideal S1472 .f32}
    (Af : ArgNet f x1 x2 x3 x4 x5 x6) (Ag : ArgNet g x7 x8 x9 x10 x11 x12) (hx : ∀ r q, x0 (ix2 r q) = (x r q : EReal)) :
    Read.val_main_v331 (F := Ideal) x0 x1 x2 x3 x4 x5 x6 x7 x8 x9 x10 x11 x12 = Cert.KernelIdeal.Gen.G0 f g x := by
  funext i
  rw [ValueIdx.eq_ix2 i]
  exact val_y Af Ag hx (i 0) (i 1)

/-- The second result as a whole array. -/
theorem val_ld_eq {f g : Net} {x : Fin 16384 → Fin 128 → ℝ}
    {x0 : FVec Ideal S16384x128 .f32} {x1 : FVec Ideal S64x256 .f32} {x2 : FVec Ideal S256 .f32} {x3 : FVec Ideal S256x256 .f32}
    {x4 : FVec Ideal S256 .f32} {x5 : FVec Ideal S256x1472 .f32} {x6 : FVec Ideal S1472 .f32}
    {x7 : FVec Ideal S64x256 .f32} {x8 : FVec Ideal S256 .f32} {x9 : FVec Ideal S256x256 .f32}
    {x10 : FVec Ideal S256 .f32} {x11 : FVec Ideal S256x1472 .f32} {x12 : FVec Ideal S1472 .f32}
    (Af : ArgNet f x1 x2 x3 x4 x5 x6) (Ag : ArgNet g x7 x8 x9 x10 x11 x12) (hx : ∀ r q, x0 (ix2 r q) = (x r q : EReal)) :
    Read.val_main_v332 (F := Ideal) x0 x1 x2 x3 x4 x5 x6 x7 x8 x9 x10 x11 x12 = Cert.KernelIdeal.Gen.G1 f g x := by
  funext i
  rw [ValueIdx.eq_ix2 i]
  exact val_ld Af Ag hx (i 0) (i 1)

/-- The reference runs to the two arrays. -/
theorem ref_run (m : (ℓ : Loc nD τ sig) → Buf (Elt Ideal) ℓ) (ρ : Dev nD → PrngReg) {f g : Dev nD → Net} {x : Dev nD → Fin 16384 → Fin 128 → ℝ}
    (hf : ∀ c : Dev nD, ArgNet (f c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hg : ∀ c : Dev nD, ArgNet (g c) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
    (hx : ∀ (c : Dev nD) r q, m ((c : Thread nD τ).loc main_arg0) (ix2 r q) = (x c r q : EReal)) :
    θ_run defs (onTc (τ := τ) (main (F := Ideal))) ⟨m, fun _ => 0, ρ⟩ fun r => ∀ c : Dev nD,
      r.2.mem ((c : Thread nD τ).loc main_v331) = Cert.KernelIdeal.Gen.G0 (f c) (g c) (x c)
      ∧ r.2.mem ((c : Thread nD τ).loc main_v332) = Cert.KernelIdeal.Gen.G1 (f c) (g c) (x c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c =>
    ⟨(h c).1.trans ((Read.val_main_v331_eq (F := Ideal) (StableHlo.launchContents m c)).trans (val_y_eq (hf c) (hg c) (hx c))),
      (h c).2.1.trans ((Read.val_main_v332_eq (F := Ideal) (StableHlo.launchContents m c)).trans (val_ld_eq (hf c) (hg c) (hx c))),
      (h c).2.2⟩)
    (Cert.ReferenceIdeal.Value.run (F := Ideal) m ρ)

end Cert.Spline

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.NetOf
public import proofs.«01_k».proof.Proof.RefRun
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Spline

/-- The kernel as written keeps its arguments and its counters. -/
theorem frame_kernel : Cert.quiescent_Kernel (hKernel := Cert.Kernel.Gen.facts) := fun m ρ _ => Cert.Kernel.Gen.frame m ρ

/-- So does the idealized kernel. -/
theorem frame_ideal : Cert.quiescent_KernelIdeal (hKernelIdeal := Cert.KernelIdeal.Gen.facts) := fun m ρ _ => Cert.KernelIdeal.Gen.frame m ρ

/-- And under the precondition. -/
theorem frame_ideal_pre :
    Cert.quiescent_KernelIdeal_pre_finite (hKernelIdeal := Cert.KernelIdeal.Gen.facts) (hPre_finite := Cert.Pre_finite.stated) :=
  fun m ρ _ => Cert.KernelIdeal.Gen.frame m ρ

/-- The reference keeps its arguments and has no counter. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- And under the precondition. -/
theorem frame_ref_pre :
    Cert.quiescent_ReferenceIdeal_pre_finite (hReferenceIdeal := Cert.ReferenceIdeal.Gen.facts) (hPre_finite := Cert.Pre_finite.stated) :=
  fun m ρ _ => frame_ref m ρ trivial

/-- Each named constant stands for its number. -/
theorem preserves : Cert.preserves_Kernel_KernelIdeal :=
  ⟨IdealRules.named_const.statement Cert.KernelIdeal.κ "span" .f32 0x40BE76C9#32 _ rfl,
    IdealRules.named_const.statement Cert.KernelIdeal.κ "edge1" .f32 0x3BC49BA6#32 _ rfl,
    IdealRules.named_const.statement Cert.KernelIdeal.κ "edge2" .f32 0x3C449BA6#32 _ rfl,
    IdealRules.named_const.statement Cert.KernelIdeal.κ "edge3" .f32 0x3C9374BC#32 _ rfl,
    IdealRules.named_const.statement Cert.KernelIdeal.κ "edge4" .f32 0x3CC49BA6#32 _ rfl,
    IdealRules.named_const.statement Cert.KernelIdeal.κ "edge5" .f32 0x3CF5C28F#32 _ rfl,
    IdealRules.named_const.statement Cert.KernelIdeal.κ "edge6" .f32 0x3D1374BC#32 _ rfl,
    IdealRules.named_const.statement Cert.KernelIdeal.κ "edge7" .f32 0x3D2C0831#32 _ rfl,
    IdealRules.named_const.statement Cert.KernelIdeal.κ "min_size" .f32 0x3A83126F#32 _ rfl⟩

/-- The argument arrays the precondition admits are real. -/
theorem admits (m : (ℓ : Loc Cert.KernelIdeal.nD Cert.KernelIdeal.τ Cert.KernelIdeal.sig) → Buf (Elt Ideal) ℓ)
    (hp : Cert.Pre_KernelIdeal_finite (hPre_finite := Cert.Pre_finite.stated) m) (c : Dev Cert.KernelIdeal.nD) :
    ArgNet (netOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    ∧ ArgNet (netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    ∧ ∀ (r : Fin 16384) (q : Fin 128), (m ((c.tc : Thread Cert.KernelIdeal.nD Cert.KernelIdeal.τ).loc Cert.KernelIdeal.main_arg0)) (ix2 r q)
      = ((((m ((c.tc : Thread Cert.KernelIdeal.nD Cert.KernelIdeal.τ).loc Cert.KernelIdeal.main_arg0)) (ix2 r q) : EReal).toReal : ℝ) : EReal) := by
  have h := hp c
  exact ⟨argNet_of _ _ _ _ _ _ (real_of_pre (fun _ => rfl) h.2.1) (real_of_pre (fun _ => rfl) h.2.2.1) (real_of_pre (fun _ => rfl) h.2.2.2.1) (real_of_pre (fun _ => rfl) h.2.2.2.2.1) (real_of_pre (fun _ => rfl) h.2.2.2.2.2.1) (real_of_pre (fun _ => rfl) h.2.2.2.2.2.2.1),
    argNet_of _ _ _ _ _ _ (real_of_pre (fun _ => rfl) h.2.2.2.2.2.2.2.1) (real_of_pre (fun _ => rfl) h.2.2.2.2.2.2.2.2.1) (real_of_pre (fun _ => rfl) h.2.2.2.2.2.2.2.2.2.1) (real_of_pre (fun _ => rfl) h.2.2.2.2.2.2.2.2.2.2.1) (real_of_pre (fun _ => rfl) h.2.2.2.2.2.2.2.2.2.2.2.1) (real_of_pre (fun _ => rfl) h.2.2.2.2.2.2.2.2.2.2.2.2),
    fun r q => real_of_pre (fun _ => rfl) h.1 (ix2 r q)⟩

/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.stated) := by
  intro m g m' g' hp hagree
  refine ⟨fun c => Cert.KernelIdeal.Gen.G0 (netOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (fun r q => ((m ((c.tc : Thread Cert.KernelIdeal.nD Cert.KernelIdeal.τ).loc Cert.KernelIdeal.main_arg0)) (ix2 r q) : EReal).toReal),
    fun c => Cert.KernelIdeal.Gen.G1 (netOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))
      (fun r q => ((m ((c.tc : Thread Cert.KernelIdeal.nD Cert.KernelIdeal.τ).loc Cert.KernelIdeal.main_arg0)) (ix2 r q) : EReal).toReal), ?_, ?_⟩
  · exact (θ_run Cert.KernelIdeal.defs _ _).mono (fun r h c => ⟨(h.1 c).1, (h.1 c).2, h.2 c⟩)
      (θ_run_and (Cert.KernelIdeal.Gen.run_real m g (fun c => (admits m hp c).1) (fun c => (admits m hp c).2.1) (fun c => (admits m hp c).2.2))
        (Cert.KernelIdeal.Gen.unchanged m g))
  · refine ref_run m' g' (fun c => ?_) (fun c => ?_) (fun c => ?_)
    · obtain ⟨e0, e1, e2, e3, e4, e5, e6, e7, e8, e9, e10, e11, e12⟩ := hagree c
      have h := (admits m hp c).1
      rw [← e1, ← e2, ← e3, ← e4, ← e5, ← e6] at h
      rw [← e1, ← e2, ← e3, ← e4, ← e5, ← e6]
      exact h
    · obtain ⟨e0, e1, e2, e3, e4, e5, e6, e7, e8, e9, e10, e11, e12⟩ := hagree c
      have h := (admits m hp c).2.1
      rw [← e7, ← e8, ← e9, ← e10, ← e11, ← e12] at h
      rw [← e7, ← e8, ← e9, ← e10, ← e11, ← e12]
      exact h
    · intro r q
      have h := (admits m hp c).2.2 r q
      rw [(hagree c).1]
      exact h

/-- The certificate's claims. -/
theorem claim : Cert.Claim := ⟨Cert.Kernel.Gen.facts, Cert.KernelIdeal.Gen.facts, Cert.ReferenceIdeal.Gen.facts, Cert.Pre_finite.stated,
  frame_kernel, frame_ideal, frame_ideal_pre, frame_ref, frame_ref_pre, preserves, algebraic⟩

end Cert.Proof

end
